-- ==== Defs.lean ====
def Pre_Kernel [hPre_counts_of_rows : Cert.Pre_counts_of_rows.Facts] (m : (ℓ : Loc Cert.Kernel.nD Cert.Kernel.τ Cert.Kernel.sig) → Buf (Elt Bits) ℓ) : Prop :=
  ∀ c : Dev Cert.Kernel.nD,
    (Cert.Pre_counts_of_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_counts_of_rows : Cert.Pre_counts_of_rows.Facts] (m : (ℓ : Loc Cert.KernelIdeal.nD Cert.KernelIdeal.τ Cert.KernelIdeal.sig) → Buf (Elt Ideal) ℓ) : Prop :=
  ∀ c : Dev Cert.KernelIdeal.nD,
    (Cert.Pre_counts_of_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_counts_of_rows : Cert.Pre_counts_of_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_of_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_counts_of_rows : Cert.Pre_counts_of_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_counts_of_rows : Cert.Pre_counts_of_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_counts_of_rows : Cert.Pre_counts_of_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_counts_of_rows : Cert.Pre_counts_of_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v72) = v0 c
          ∧ r.2.mem ((c.tc : Thread Cert.Reference3Ideal.nD Cert.Reference3Ideal.τ).loc Cert.Reference3Ideal.main_v73) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v16_0)) (v1 : (c : Dev Cert.Kernel4Ideal.nD) → Buf (Elt Ideal) ((c.tc : Thread Cert.Kernel4Ideal.nD Cert.Kernel4Ideal.τ).loc Cert.Kernel4Ideal.main_v16_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_0) = v0 c
          ∧ r.2.mem ((c.tc : Thread Cert.Kernel4Ideal.nD Cert.Kernel4Ideal.τ).loc Cert.Kernel4Ideal.main_v16_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v73) = v0 c
          ∧ r.2.mem ((c.tc : Thread Cert.Reference4Ideal.nD Cert.Reference4Ideal.τ).loc Cert.Reference4Ideal.main_v74) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_counts_of_rows : Cert.Pre_counts_of_rows.Facts),
    quiescent_Kernel (hKernel := hKernel) (hPre_counts_of_rows := hPre_counts_of_rows)
    ∧ quiescent_KernelIdeal (hKernelIdeal := hKernelIdeal) (hPre_counts_of_rows := hPre_counts_of_rows)
    ∧ quiescent_ReferenceIdeal (hReferenceIdeal := hReferenceIdeal) (hPre_counts_of_rows := hPre_counts_of_rows)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_counts_of_rows := hPre_counts_of_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_counts_of_rows.lean ====
abbrev S32 : Shape := ⟨1, ![32]⟩
abbrev S131072x2048 : Shape := ⟨2, ![131072, 2048]⟩
abbrev S32x2048x2048 : Shape := ⟨3, ![32, 2048, 2048]⟩
abbrev S32x4096 : Shape := ⟨2, ![32, 4096]⟩
abbrev S32x2048 : Shape := ⟨2, ![32, 2048]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : IVec S32 32) (main_arg1 : FVec F S131072x2048 .f32) (main_arg2 : FVec F S32x2048x2048 .bf16) (main_arg3 : FVec F S32x2048x2048 .bf16) (main_arg4 : FVec F S32x4096 .f32) (main_arg5 : FVec F S32x2048x2048 .f32) (main_arg6 : FVec F S32x2048 .f32) : IVec S_ 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 131072#32
  let main_v2 : IVec S32 32 := broadcastInDim S32 ![] bcast_S_S32 main_c_0
  let main_v3 : IVec S32 1 := cmpi .sle main_arg0 main_v2
  let main_v4 : IVec S32 1 := andi main_v1 main_v3
  let main_c_1 : IVec S_ 1 := constantI S_ 1 1#1
  let main_v5 : IVec S_ 1 := (fun x v => Host.reduce IntOp.andi x v reducesTo_S32_S_d0 h_S_) main_v4 main_c_1
  let main_c_2 : IVec S_ 32 := constantI S_ 32 0#32
  let main_v6 : IVec S_ 32 := (fun x v => Host.reduce IntOp.addi x v reducesTo_S32_S_d0 h_S_) main_arg0 main_c_2
  let main_c_3 : IVec S_ 32 := constantI S_ 32 131072#32
  let main_v7 : IVec S_ 1 := cmpi .eq main_v6 main_c_3
  let main_v8 : IVec S_ 1 := andi main_v5 main_v7
  main_v8
-- ==== Kernel.lean ====
abbrev S32 : Shape := ⟨1, ![32]⟩
abbrev S131072x2048 : Shape := ⟨2, ![131072, 2048]⟩
abbrev S32x2048x2048 : Shape := ⟨3, ![32, 2048, 2048]⟩
abbrev S32x4096 : Shape := ⟨2, ![32, 4096]⟩
abbrev S32x2048 : Shape := ⟨2, ![32, 2048]⟩
abbrev S_ : Shape := ⟨0, ![]⟩
abbrev S1 : Shape := ⟨1, ![1]⟩
abbrev S287 : Shape := ⟨1, ![287]⟩
abbrev S1x32 : Shape := ⟨2, ![1, 32]⟩
abbrev S287x1 : Shape := ⟨2, ![287, 1]⟩
abbrev S287x32 : Shape := ⟨2, ![287, 32]⟩
abbrev S33 : Shape := ⟨1, ![33]⟩
abbrev S32x2048x2 : Shape := ⟨3, ![32, 2048, 2]⟩
abbrev S32x2048x1 : Shape := ⟨3, ![32, 2048, 1]⟩
abbrev S32x1x2048 : Shape := ⟨3, ![32, 1, 2048]⟩
abbrev S512x2048 : Shape := ⟨2, ![512, 2048]⟩
abbrev S1x2048x512 : Shape := ⟨3, ![1, 2048, 512]⟩
abbrev S1x1x512 : Shape := ⟨3, ![1, 1, 512]⟩
abbrev S1x512x2048 : Shape := ⟨3, ![1, 512, 2048]⟩
abbrev S1x1x2048 : Shape := ⟨3, ![1, 1, 2048]⟩
abbrev S2048x512 : Shape := ⟨2, ![2048, 512]⟩
abbrev S512x512 : Shape := ⟨2, ![512, 512]⟩
abbrev S1x512 : Shape := ⟨2, ![1, 512]⟩
abbrev S512x1 : Shape := ⟨2, ![512, 1]⟩
abbrev S1x2048 : Shape := ⟨2, ![1, 2048]⟩

abbrev nBuf : Space → Nat
  | .hbm => 111
  | .vmem => 18
  | .smem => 4
  | _ => 0

abbrev bufTy : (tb : Table) → Fin (tcTables nBuf tb) → BufTy
  | .hbm, ⟨0, _⟩ => ⟨S32, .i32⟩
  | .hbm, ⟨1, _⟩ => ⟨S131072x2048, .f32⟩
  | .hbm, ⟨2, _⟩ => ⟨S32x2048x2048, .bf16⟩
  | .hbm, ⟨3, _⟩ => ⟨S32x2048x2048, .bf16⟩
  | .hbm, ⟨4, _⟩ => ⟨S32x4096, .f32⟩
  | .hbm, ⟨5, _⟩ => ⟨S32x2048x2048, .f32⟩
  | .hbm, ⟨6, _⟩ => ⟨S32x2048, .f32⟩
  | .hbm, ⟨7, _⟩ => ⟨S_, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i1⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S_, .i32⟩
  | .hbm, ⟨36, _⟩ => ⟨S_, .i32⟩
  | .hbm, ⟨37, _⟩ => ⟨S32, .i32⟩
  | .hbm, ⟨38, _⟩ => ⟨S32, .i32⟩
  | .hbm, ⟨39, _⟩ => ⟨S32, .i32⟩
  | .hbm, ⟨40, _⟩ => ⟨S_, .i32⟩
  | .hbm, ⟨41, _⟩ => ⟨S32, .i32⟩
  | .hbm, ⟨42, _⟩ => ⟨S32, .i1⟩
  | .hbm, ⟨43, _⟩ => ⟨S32, .i32⟩
  | .hbm, ⟨44, _⟩ => ⟨S32, .i32⟩
  | .hbm, ⟨45, _⟩ => ⟨S_, .i32⟩
  | .hbm, ⟨46, _⟩ => ⟨S32, .i32⟩
  | .hbm, ⟨47, _⟩ => ⟨S32, .i1⟩
  | .hbm, ⟨48, _⟩ => ⟨S32, .i1⟩
  | .hbm, ⟨49, _⟩ => ⟨S_, .i32⟩
  | .hbm, ⟨50, _⟩ => ⟨S32, .i32⟩
  | .hbm, ⟨51, _⟩ => ⟨S32, .i32⟩
  | .hbm, ⟨52, _⟩ => ⟨S32, .i32⟩
  | .hbm, ⟨53, _⟩ => ⟨S32, .i32⟩
  | .hbm, ⟨54, _⟩ => ⟨S_, .i32⟩
  | .hbm, ⟨55, _⟩ => ⟨S32, .i32⟩
  | .hbm, ⟨56, _⟩ => ⟨S32, .i32⟩
  | .hbm, ⟨57, _⟩ => ⟨S_, .i32⟩
  | .hbm, ⟨58, _⟩ => ⟨S_, .i32⟩
  | .hbm, ⟨59, _⟩ => ⟨S32, .i32⟩
  | .hbm, ⟨60, _⟩ => ⟨S32, .i32⟩
  | .hbm, ⟨61, _⟩ => ⟨S_, .i32⟩
  | .hbm, ⟨62, _⟩ => ⟨S_, .i32⟩
  | .hbm, ⟨63, _⟩ => ⟨S32, .i32⟩
  | .hbm, ⟨64, _⟩ => ⟨S1, .i32⟩
  | .hbm, ⟨65, _⟩ => ⟨S_, .i32⟩
  | .hbm, ⟨66, _⟩ => ⟨S287, .i32⟩
  | .hbm, ⟨67, _⟩ => ⟨S_, .i32⟩
  | .hbm, ⟨68, _⟩ => ⟨S_, .i32⟩
  | .hbm, ⟨69, _⟩ => ⟨S287, .i32⟩
  | .hbm, ⟨70, _⟩ => ⟨S287, .i32⟩
  | .hbm, ⟨71, _⟩ => ⟨S1x32, .i32⟩
  | .hbm, ⟨72, _⟩ => ⟨S287x1, .i32⟩
  | .hbm, ⟨73, _⟩ => ⟨S287x32, .i32⟩
  | .hbm, ⟨74, _⟩ => ⟨S287x32, .i32⟩
  | .hbm, ⟨75, _⟩ => ⟨S287x32, .i1⟩
  | .hbm, ⟨76, _⟩ => ⟨S287x32, .i32⟩
  | .hbm, ⟨77, _⟩ => ⟨S_, .i32⟩
  | .hbm, ⟨78, _⟩ => ⟨S287, .i32⟩
  | .hbm, ⟨79, _⟩ => ⟨S_, .i32⟩
  | .hbm, ⟨80, _⟩ => ⟨S287, .i32⟩
  | .hbm, ⟨81, _⟩ => ⟨S_, .i32⟩
  | .hbm, ⟨82, _⟩ => ⟨S287, .i32⟩
  | .hbm, ⟨83, _⟩ => ⟨S287, .i1⟩
  | .hbm, ⟨84, _⟩ => ⟨S_, .i32⟩
  | .hbm, ⟨85, _⟩ => ⟨S287, .i32⟩
  | .hbm, ⟨86, _⟩ => ⟨S287, .i32⟩
  | .hbm, ⟨87, _⟩ => ⟨S287, .i32⟩
  | .hbm, ⟨88, _⟩ => ⟨S287x1, .i32⟩
  | .hbm, ⟨89, _⟩ => ⟨S287, .i32⟩
  | .hbm, ⟨90, _⟩ => ⟨S287, .i32⟩
  | .hbm, ⟨91, _⟩ => ⟨S32, .i32⟩
  | .hbm, ⟨92, _⟩ => ⟨S_, .i32⟩
  | .hbm, ⟨93, _⟩ => ⟨S287, .i32⟩
  | .hbm, ⟨94, _⟩ => ⟨S287, .i1⟩
  | .hbm, ⟨95, _⟩ => ⟨S_, .i32⟩
  | .hbm, ⟨96, _⟩ => ⟨S287, .i32⟩
  | .hbm, ⟨97, _⟩ => ⟨S287, .i32⟩
  | .hbm, ⟨98, _⟩ => ⟨S287, .i32⟩
  | .hbm, ⟨99, _⟩ => ⟨S287x1, .i32⟩
  | .hbm, ⟨100, _⟩ => ⟨S287, .i32⟩
  | .hbm, ⟨101, _⟩ => ⟨S1, .i32⟩
  | .hbm, ⟨102, _⟩ => ⟨S32x2048x2, .f32⟩
  | .hbm, ⟨103, _⟩ => ⟨S32x2048x1, .f32⟩
  | .hbm, ⟨104, _⟩ => ⟨S32x2048, .f32⟩
  | .hbm, ⟨105, _⟩ => ⟨S32x1x2048, .f32⟩
  | .hbm, ⟨106, _⟩ => ⟨S32x2048x1, .f32⟩
  | .hbm, ⟨107, _⟩ => ⟨S32x2048, .f32⟩
  | .hbm, ⟨108, _⟩ => ⟨S32x1x2048, .f32⟩
  | .hbm, ⟨109, _⟩ => ⟨S32x1x2048, .f32⟩
  | .hbm, ⟨110, _⟩ => ⟨S131072x2048, .f32⟩
  | .local _ .vmem, ⟨0, _⟩ => ⟨S512x2048, .f32⟩
  | .local _ .vmem, ⟨1, _⟩ => ⟨S512x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x512x2048, .f32⟩
  | .local _ .vmem, ⟨11, _⟩ => ⟨S1x512x2048, .f32⟩
  | .local _ .vmem, ⟨12, _⟩ => ⟨S1x1x2048, .f32⟩
  | .local _ .vmem, ⟨13, _⟩ => ⟨S1x1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | .local _ .smem, ⟨0, _⟩ => ⟨S287, .i32⟩
  | .local _ .smem, ⟨1, _⟩ => ⟨S287, .i32⟩
  | .local _ .smem, ⟨2, _⟩ => ⟨S33, .i32⟩
  | .local _ .smem, ⟨3, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_call0_c : Ref sig .tc := ⟨.hbm, 7, rfl⟩
abbrev main_call0_call0_v0 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_c : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_0 : Ref sig .tc := ⟨.hbm, 25, rfl⟩
abbrev main_call1_v12 : Ref sig .tc := ⟨.hbm, 26, rfl⟩
abbrev main_call1_v13 : Ref sig .tc := ⟨.hbm, 27, rfl⟩
abbrev main_v2 : Ref sig .tc := ⟨.hbm, 28, rfl⟩
abbrev main_c_0 : Ref sig .tc := ⟨.hbm, 29, rfl⟩
abbrev main_v3 : Ref sig .tc := ⟨.hbm, 30, rfl⟩
abbrev main_v4 : Ref sig .tc := ⟨.hbm, 31, rfl⟩
abbrev main_c_1 : Ref sig .tc := ⟨.hbm, 32, rfl⟩
abbrev main_v5 : Ref sig .tc := ⟨.hbm, 33, rfl⟩
abbrev main_v6 : Ref sig .tc := ⟨.hbm, 34, rfl⟩
abbrev main_c_2 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_c : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_0 : Ref sig .tc := ⟨.hbm, 49, rfl⟩
abbrev main_call2_v12 : Ref sig .tc := ⟨.hbm, 50, rfl⟩
abbrev main_call2_v13 : Ref sig .tc := ⟨.hbm, 51, rfl⟩
abbrev main_v7 : Ref sig .tc := ⟨.hbm, 52, rfl⟩
abbrev main_v8 : Ref sig .tc := ⟨.hbm, 53, rfl⟩
abbrev main_c_3 : Ref sig .tc := ⟨.hbm, 54, rfl⟩
abbrev main_v9 : Ref sig .tc := ⟨.hbm, 55, rfl⟩
abbrev main_v10 : Ref sig .tc := ⟨.hbm, 56, rfl⟩
abbrev main_c_4 : Ref sig .tc := ⟨.hbm, 57, rfl⟩
abbrev main_call3_v0 : Ref sig .tc := ⟨.hbm, 58, rfl⟩
abbrev main_call3_v1 : Ref sig .tc := ⟨.hbm, 59, rfl⟩
abbrev main_v11 : Ref sig .tc := ⟨.hbm, 60, rfl⟩
abbrev main_call4_call0_c : Ref sig .tc := ⟨.hbm, 61, rfl⟩
abbrev main_call4_call0_v0 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_c_5 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_c_6 : Ref sig .tc := ⟨.hbm, 77, rfl⟩
abbrev main_v25 : Ref sig .tc := ⟨.hbm, 78, rfl⟩
abbrev main_c_7 : Ref sig .tc := ⟨.hbm, 79, rfl⟩
abbrev main_v26 : Ref sig .tc := ⟨.hbm, 80, rfl⟩
abbrev main_c_8 : Ref sig .tc := ⟨.hbm, 81, rfl⟩
abbrev main_v28 : Ref sig .tc := ⟨.hbm, 82, rfl⟩
abbrev main_v29 : Ref sig .tc := ⟨.hbm, 83, rfl⟩
abbrev main_c_9 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_c_10 : Ref sig .tc := ⟨.hbm, 92, rfl⟩
abbrev main_v37 : Ref sig .tc := ⟨.hbm, 93, rfl⟩
abbrev main_v38 : Ref sig .tc := ⟨.hbm, 94, rfl⟩
abbrev main_c_11 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v45 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v44 : Ref sig .tc := ⟨.smem, 0, rfl⟩
abbrev main_v27 : Ref sig .tc := ⟨.smem, 1, rfl⟩
abbrev main_v46 : Ref sig .tc := ⟨.smem, 2, rfl⟩
abbrev main_v47 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![287, 4], ![false, false]⟩

abbrev pre0 : Pipeline.Prefetch sig := ⟨4, ![main_v44.idx, main_v27.idx, main_v46.idx, main_v47.idx], fun | 0 => main_v44.names | 1 => main_v27.names | 2 => main_v46.names | 3 => main_v47.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond5 (i : grid0.Coords) : BitVec 1 :=
  let arg1 : BitVec 32 := BitVec.ofNat 32 (i 1).val
  let c3_i32_26 : BitVec 32 := 3#32
  let v44 : BitVec 1 := Scalar.cmpi .eq arg1 c3_i32_26
  let v45 : BitVec 32 := Scalar.extui v44
  let c0_i32_27 : BitVec 32 := 0#32
  let v46 : BitVec 1 := Scalar.cmpi .ne v45 c0_i32_27
  v46

def k0_off2 (i : grid0.Coords) : Fin 1 → Nat :=
  let arg0 : BitVec 32 := BitVec.ofNat 32 (i 0).val
  let v47 : Index := Scalar.indexCast arg0
  ![v47.toNat]
def k0_off3 (v48 : BitVec 32) : Fin 1 → Nat :=
  let v55 : Index := Scalar.indexCast v48
  ![v55.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_off4 (v48 : BitVec 32) : Fin 1 → Nat :=
  let c1_i32 : BitVec 32 := 1#32
  let v59 : BitVec 32 := Scalar.addi v48 c1_i32
  let v60 : Index := Scalar.indexCast v59
  ![v60.toNat]

def k0_chk1 (i : grid0.Coords) (v0 : BitVec 32) (v48 : BitVec 32) : Prop :=
  (∀ (k0_h1 : k0_cond1 i v0 = 1#1), ∀ (k0_h5 : k0_cond5 i = 1#1), ∀ a, (k0_off3 v48) a + S1.size a ≤ S33.size a) ∧
  (∀ (k0_h1 : k0_cond1 i v0 = 1#1), ∀ (k0_h5 : k0_cond5 i = 1#1), ∀ a, (k0_off4 v48) a + S1.size a ≤ S33.size a)
theorem k0_off3_inb : ∀ (i : grid0.Coords) (v0 : BitVec 32) (v48 : BitVec 32) (k0_hw1 : k0_chk1 i v0 v48), ∀ (k0_h1 : k0_cond1 i v0 = 1#1), ∀ (k0_h5 : k0_cond5 i = 1#1), ∀ a, (k0_off3 v48) a + S1.size a ≤ S33.size a := fun i v0 v48 k0_hw1 k0_h1 k0_h5 => k0_hw1.1 k0_h1 k0_h5
theorem k0_off4_inb : ∀ (i : grid0.Coords) (v0 : BitVec 32) (v48 : BitVec 32) (k0_hw1 : k0_chk1 i v0 v48), ∀ (k0_h1 : k0_cond1 i v0 = 1#1), ∀ (k0_h5 : k0_cond5 i = 1#1), ∀ a, (k0_off4 v48) a + S1.size a ≤ S33.size a := fun i v0 v48 k0_hw1 k0_h1 k0_h5 => k0_hw1.2 k0_h1 k0_h5

def k0_off5 (i : grid0.Coords) : Fin 1 → Nat :=
  let arg0 : BitVec 32 := BitVec.ofNat 32 (i 0).val
  let c1_i32_38 : BitVec 32 := 1#32
  let v76 : BitVec 32 := Scalar.subi arg0 c1_i32_38
  let c0_i32_39 : BitVec 32 := 0#32
  let v77 : BitVec 32 := Scalar.maxsi v76 c0_i32_39
  let v78 : Index := Scalar.indexCast v77
  ![v78.toNat]
def k0_cond6 (i : grid0.Coords) (v50 : BitVec 32) (v79 : BitVec 32) : BitVec 1 :=
  let arg0 : BitVec 32 := BitVec.ofNat 32 (i 0).val
  let c0_i32_37 : BitVec 32 := 0#32
  let v75 : BitVec 1 := Scalar.cmpi .eq arg0 c0_i32_37
  let v80 : BitVec 1 := Scalar.cmpi .ne v79 v50
  let v81 : BitVec 1 := Scalar.ori v75 v80
  let v82 : BitVec 32 := Scalar.extui v81
  let c0_i32_40 : BitVec 32 := 0#32
  let v83 : BitVec 1 := Scalar.cmpi .ne v82 c0_i32_40
  v83

def k0_cond7 (i : grid0.Coords) (v50 : BitVec 32) (v79 : BitVec 32) : BitVec 1 :=
  let arg0 : BitVec 32 := BitVec.ofNat 32 (i 0).val
  let c0_i32_37 : BitVec 32 := 0#32
  let v75 : BitVec 1 := Scalar.cmpi .eq arg0 c0_i32_37
  let v80 : BitVec 1 := Scalar.cmpi .ne v79 v50
  let v81 : BitVec 1 := Scalar.ori v75 v80
  let v_true : BitVec 1 := 1#1
  let v84 : BitVec 1 := Scalar.xori v81 v_true
  let v85 : BitVec 32 := Scalar.extui v84
  let c0_i32_41 : BitVec 32 := 0#32
  let v86 : BitVec 1 := Scalar.cmpi .ne v85 c0_i32_41
  v86

def cc0_transform_0 (k0_off1_inb : ∀ i : grid0.Coords, ∀ a, (k0_off1 i) a + S1.size a ≤ S287.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S287) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S287.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S287) ![v0.toNat] S1.size (k0_off1_inb i)) numel1_S1
  let c0 : Index := 0#32
  let v2 : BitVec 32 := pf.at 3 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S287.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S287) ![v0.toNat] S1.size (k0_off1_inb i)) numel1_S1
  let c0 : Index := 0#32
  let v2 : BitVec 32 := pf.at 3 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S287.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S287) ![v0.toNat] S1.size (k0_off1_inb i)) numel1_S1
  let c0 : Index := 0#32
  let v2 : BitVec 32 := pf.at 3 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, c0_i32.toNat, v4.toNat]

def cc0_transform_4 (k0_off1_inb : ∀ i : grid0.Coords, ∀ a, (k0_off1 i) a + S1.size a ≤ S287.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S287) ![v0.toNat] S1.size (k0_off1_inb i)) numel1_S1
  let c0 : Index := 0#32
  let v2 : BitVec 32 := pf.at 3 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, c0_i32.toNat, v4.toNat]

def cc0_transform_5 (k0_off1_inb : ∀ i : grid0.Coords, ∀ a, (k0_off1 i) a + S1.size a ≤ S287.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S287) ![v0.toNat] S1.size (k0_off1_inb i)) numel1_S1
  let c0 : Index := 0#32
  let v2 : BitVec 32 := pf.at 3 (Rect.unit (s := S1) ![0] S1.size inb_S1_S1_0) numel1_S1
  let v3 : BitVec 1 := Scalar.cmpi .slt arg0 v2
  let c3_i32 : BitVec 32 := 3#32
  let v4 : BitVec 32 := Scalar.select v3 arg1 c3_i32
  let c0_i32 : BitVec 32 := 0#32
  let c0_i32_0 : BitVec 32 := 0#32
  ![v1.toNat, v4.toNat, c0_i32.toNat]

def cc0_transform_6 (k0_off1_inb : ∀ i : grid0.Coords, ∀ a, (k0_off1 i) a + S1.size a ≤ S287.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S287) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S287.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S287) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S32 : Shape := ⟨1, ![32]⟩
abbrev S131072x2048 : Shape := ⟨2, ![131072, 2048]⟩
abbrev S32x2048x2048 : Shape := ⟨3, ![32, 2048, 2048]⟩
abbrev S32x4096 : Shape := ⟨2, ![32, 4096]⟩
abbrev S32x2048 : Shape := ⟨2, ![32, 2048]⟩
abbrev S_ : Shape := ⟨0, ![]⟩
abbrev S32x1 : Shape := ⟨2, ![32, 1]⟩
abbrev S131072 : Shape := ⟨1, ![131072]⟩
abbrev S1x131072 : Shape := ⟨2, ![1, 131072]⟩
abbrev S32x131072 : Shape := ⟨2, ![32, 131072]⟩
abbrev S32x2048x131072 : Shape := ⟨3, ![32, 2048, 131072]⟩
abbrev S32x131072x2048 : Shape := ⟨3, ![32, 131072, 2048]⟩
abbrev S32x1x2048 : Shape := ⟨3, ![32, 1, 2048]⟩
abbrev S1x131072x1 : Shape := ⟨3, ![1, 131072, 1]⟩
abbrev S32x1x1 : Shape := ⟨3, ![32, 1, 1]⟩
abbrev S32x131072x1 : Shape := ⟨3, ![32, 131072, 1]⟩

abbrev nBuf : Space → Nat
  | .hbm => 77
  | .vmem => 0
  | .smem => 0
  | _ => 0

abbrev bufTy : (tb : Table) → Fin (tcTables nBuf tb) → BufTy
  | .hbm, ⟨0, _⟩ => ⟨S32, .i32⟩
  | .hbm, ⟨1, _⟩ => ⟨S131072x2048, .f32⟩
  | .hbm, ⟨2, _⟩ => ⟨S32x2048x2048, .bf16⟩
  | .hbm, ⟨3, _⟩ => ⟨S32x2048x2048, .bf16⟩
  | .hbm, ⟨4, _⟩ => ⟨S32x4096, .f32⟩
  | .hbm, ⟨5, _⟩ => ⟨S32x2048x2048, .f32⟩
  | .hbm, ⟨6, _⟩ => ⟨S32x2048, .f32⟩
  | .hbm, ⟨7, _⟩ => ⟨S_, .i32⟩
  | .hbm, ⟨8, _⟩ => ⟨S_, .i32⟩
  | .hbm, ⟨9, _⟩ => ⟨S32, .i32⟩
  | .hbm, ⟨10, _⟩ => ⟨S32x1, .i32⟩
  | .hbm, ⟨11, _⟩ => ⟨S131072, .i32⟩
  | .hbm, ⟨12, _⟩ => ⟨S1x131072, .i32⟩
  | .hbm, ⟨13, _⟩ => ⟨S32x131072, .i32⟩
  | .hbm, ⟨14, _⟩ => ⟨S32x131072, .i32⟩
  | .hbm, ⟨15, _⟩ => ⟨S32x131072, .i1⟩
  | .hbm, ⟨16, _⟩ => ⟨S32x131072, .i32⟩
  | .hbm, ⟨17, _⟩ => ⟨S_, .i32⟩
  | .hbm, ⟨18, _⟩ => ⟨S131072, .i32⟩
  | .hbm, ⟨19, _⟩ => ⟨S32x2048x2048, .f32⟩
  | .hbm, ⟨20, _⟩ => ⟨S32x2048x131072, .f32⟩
  | .hbm, ⟨21, _⟩ => ⟨S32x131072x2048, .f32⟩
  | .hbm, ⟨22, _⟩ => ⟨S32x2048, .f32⟩
  | .hbm, ⟨23, _⟩ => ⟨S32x1x2048, .f32⟩
  | .hbm, ⟨24, _⟩ => ⟨S32x131072x2048, .f32⟩
  | .hbm, ⟨25, _⟩ => ⟨S32x131072x2048, .f32⟩
  | .hbm, ⟨26, _⟩ => ⟨S32x2048x2048, .f32⟩
  | .hbm, ⟨27, _⟩ => ⟨S32x2048x131072, .f32⟩
  | .hbm, ⟨28, _⟩ => ⟨S32x131072x2048, .f32⟩
  | .hbm, ⟨29, _⟩ => ⟨S32x2048, .f32⟩
  | .hbm, ⟨30, _⟩ => ⟨S32x1x2048, .f32⟩
  | .hbm, ⟨31, _⟩ => ⟨S32x131072x2048, .f32⟩
  | .hbm, ⟨32, _⟩ => ⟨S32x131072x2048, .f32⟩
  | .hbm, ⟨33, _⟩ => ⟨S_, .f32⟩
  | .hbm, ⟨34, _⟩ => ⟨S32x131072x2048, .f32⟩
  | .hbm, ⟨35, _⟩ => ⟨S32x131072x2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S32x131072x2048, .f32⟩
  | .hbm, ⟨40, _⟩ => ⟨S32x131072x2048, .f32⟩
  | .hbm, ⟨41, _⟩ => ⟨S_, .f32⟩
  | .hbm, ⟨42, _⟩ => ⟨S32x131072x2048, .f32⟩
  | .hbm, ⟨43, _⟩ => ⟨S32x131072x2048, .f32⟩
  | .hbm, ⟨44, _⟩ => ⟨S_, .f32⟩
  | .hbm, ⟨45, _⟩ => ⟨S32x131072x2048, .f32⟩
  | .hbm, ⟨46, _⟩ => ⟨S32x131072x2048, .f32⟩
  | .hbm, ⟨47, _⟩ => ⟨S32x131072x2048, .f32⟩
  | .hbm, ⟨48, _⟩ => ⟨S_, .f32⟩
  | .hbm, ⟨49, _⟩ => ⟨S32x131072x2048, .f32⟩
  | .hbm, ⟨50, _⟩ => ⟨S32x131072x2048, .f32⟩
  | .hbm, ⟨51, _⟩ => ⟨S32x131072x2048, .f32⟩
  | .hbm, ⟨52, _⟩ => ⟨S32x131072x2048, .f32⟩
  | .hbm, ⟨53, _⟩ => ⟨S_, .f32⟩
  | .hbm, ⟨54, _⟩ => ⟨S32x131072x2048, .f32⟩
  | .hbm, ⟨55, _⟩ => ⟨S32x131072x2048, .f32⟩
  | .hbm, ⟨56, _⟩ => ⟨S_, .f32⟩
  | .hbm, ⟨57, _⟩ => ⟨S32x131072x2048, .f32⟩
  | .hbm, ⟨58, _⟩ => ⟨S32x131072x2048, .f32⟩
  | .hbm, ⟨59, _⟩ => ⟨S32x131072x2048, .f32⟩
  | .hbm, ⟨60, _⟩ => ⟨S32x131072x2048, .f32⟩
  | .hbm, ⟨61, _⟩ => ⟨S32x1x2048, .f32⟩
  | .hbm, ⟨62, _⟩ => ⟨S32x131072x2048, .f32⟩
  | .hbm, ⟨63, _⟩ => ⟨S32x131072x2048, .f32⟩
  | .hbm, ⟨64, _⟩ => ⟨S1x131072x1, .i32⟩
  | .hbm, ⟨65, _⟩ => ⟨S32, .i32⟩
  | .hbm, ⟨66, _⟩ => ⟨S32x1x1, .i32⟩
  | .hbm, ⟨67, _⟩ => ⟨S32x131072x1, .i32⟩
  | .hbm, ⟨68, _⟩ => ⟨S32x131072x1, .i32⟩
  | .hbm, ⟨69, _⟩ => ⟨S32x131072x1, .i1⟩
  | .hbm, ⟨70, _⟩ => ⟨S_, .f32⟩
  | .hbm, ⟨71, _⟩ => ⟨S_, .f32⟩
  | .hbm, ⟨72, _⟩ => ⟨S32x131072x2048, .i1⟩
  | .hbm, ⟨73, _⟩ => ⟨S32x131072x2048, .f32⟩
  | .hbm, ⟨74, _⟩ => ⟨S32x131072x2048, .f32⟩
  | .hbm, ⟨75, _⟩ => ⟨S_, .f32⟩
  | .hbm, ⟨76, _⟩ => ⟨S131072x2048, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_call0_c : Ref sig .tc := ⟨.hbm, 7, rfl⟩
abbrev main_call0_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_cst_0 : Ref sig .tc := ⟨.hbm, 36, rfl⟩
abbrev main_cst_1 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_6 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v48 : Ref sig .tc := ⟨.hbm, 74, rfl⟩
abbrev main_cst_7 : Ref sig .tc := ⟨.hbm, 75, rfl⟩
abbrev main_v49 : Ref sig .tc := ⟨.hbm, 76, rfl⟩

abbrev nD : Nat := 1
abbrev τ : Topo := Topo.v7x

variable {F : FTy → Type} [FloatOps F]
-- ==== Kernel2.lean ====
abbrev S2x8192x2048 : Shape := ⟨3, ![2, 8192, 2048]⟩
abbrev S1x16384x2048 : Shape := ⟨3, ![1, 16384, 2048]⟩
abbrev S8x12288 : Shape := ⟨2, ![8, 12288]⟩
abbrev S2048 : Shape := ⟨1, ![2048]⟩
abbrev S2048x6144 : Shape := ⟨2, ![2048, 6144]⟩
abbrev S16384x2048 : Shape := ⟨2, ![16384, 2048]⟩
abbrev S2048x1024 : Shape := ⟨2, ![2048, 1024]⟩
abbrev S_ : Shape := ⟨0, ![]⟩
abbrev S2048x4096 : Shape := ⟨2, ![2048, 4096]⟩
abbrev S1x2048 : Shape := ⟨2, ![1, 2048]⟩
abbrev S32x32768x128 : Shape := ⟨3, ![32, 32768, 128]⟩
abbrev S512x2048 : Shape := ⟨2, ![512, 2048]⟩
abbrev S8x2048 : Shape := ⟨2, ![8, 2048]⟩
abbrev S8x512x128 : Shape := ⟨3, ![8, 512, 128]⟩
abbrev S512 : Shape := ⟨1, ![512]⟩
abbrev S512x1 : Shape := ⟨2, ![512, 1]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 21
  | .vmem => 11
  | .smem => 0
  | _ => 0

abbrev bufTy : (tb : Table) → Fin (tcTables nBuf tb) → BufTy
  | .hbm, ⟨0, _⟩ => ⟨S2x8192x2048, .f32⟩
  | .hbm, ⟨1, _⟩ => ⟨S1x16384x2048, .f32⟩
  | .hbm, ⟨2, _⟩ => ⟨S8x12288, .f32⟩
  | .hbm, ⟨3, _⟩ => ⟨S2048, .f32⟩
  | .hbm, ⟨4, _⟩ => ⟨S2048x6144, .f32⟩
  | .hbm, ⟨5, _⟩ => ⟨S16384x2048, .f32⟩
  | .hbm, ⟨6, _⟩ => ⟨S16384x2048, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x4096, .f32⟩
  | .hbm, ⟨18, _⟩ => ⟨S2048x4096, .bf16⟩
  | .hbm, ⟨19, _⟩ => ⟨S1x2048, .f32⟩
  | .hbm, ⟨20, _⟩ => ⟨S32x32768x128, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S8x2048, .f32⟩
  | .local _ .vmem, ⟨5, _⟩ => ⟨S8x2048, .f32⟩
  | .local _ .vmem, ⟨6, _⟩ => ⟨S1x2048, .f32⟩
  | .local _ .vmem, ⟨7, _⟩ => ⟨S2048x1024, .bf16⟩
  | .local _ .vmem, ⟨8, _⟩ => ⟨S2048x1024, .bf16⟩
  | .local _ .vmem, ⟨9, _⟩ => ⟨S8x512x128, .bf16⟩
  | .local _ .vmem, ⟨10, _⟩ => ⟨S8x512x128, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 64], ![false, false]⟩

def k0_off1 (i : grid0.Coords) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8192_i32 : BitVec 32 := 8192#32
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let v1 : BitVec 32 := Scalar.divsi v0 c8192_i32
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let v27 : Index := Scalar.indexCast v18
  let c0_9 : Index := 0#32
  ![v27.toNat, 0]
def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S2x8192x2048 : Shape := ⟨3, ![2, 8192, 2048]⟩
abbrev S1x16384x2048 : Shape := ⟨3, ![1, 16384, 2048]⟩
abbrev S8x12288 : Shape := ⟨2, ![8, 12288]⟩
abbrev S2048 : Shape := ⟨1, ![2048]⟩
abbrev S2048x6144 : Shape := ⟨2, ![2048, 6144]⟩
abbrev S8x2048 : Shape := ⟨2, ![8, 2048]⟩
abbrev S2x2048 : Shape := ⟨2, ![2, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x1x2048 : Shape := ⟨3, ![2, 1, 2048]⟩
abbrev S2x8192x6144 : Shape := ⟨3, ![2, 8192, 6144]⟩
abbrev S2x8192x1024 : Shape := ⟨3, ![2, 8192, 1024]⟩
abbrev S2x8192x4096 : Shape := ⟨3, ![2, 8192, 4096]⟩
abbrev S16384x4096 : Shape := ⟨2, ![16384, 4096]⟩
abbrev S1x2048 : Shape := ⟨2, ![1, 2048]⟩
abbrev S1x16384 : Shape := ⟨2, ![1, 16384]⟩
abbrev S1x16384x1 : Shape := ⟨3, ![1, 16384, 1]⟩
abbrev S1x16384x6144 : Shape := ⟨3, ![1, 16384, 6144]⟩
abbrev S1x16384x1024 : Shape := ⟨3, ![1, 16384, 1024]⟩
abbrev S1x16384x4096 : Shape := ⟨3, ![1, 16384, 4096]⟩
abbrev S32768x4096 : Shape := ⟨2, ![32768, 4096]⟩
abbrev S32768x32x128 : Shape := ⟨3, ![32768, 32, 128]⟩
abbrev S32x32768x128 : Shape := ⟨3, ![32, 32768, 128]⟩

abbrev nBuf : Space → Nat
  | .hbm => 95
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x16384x2048, .f32⟩
  | .hbm, ⟨2, _⟩ => ⟨S8x12288, .f32⟩
  | .hbm, ⟨3, _⟩ => ⟨S2048, .f32⟩
  | .hbm, ⟨4, _⟩ => ⟨S2048x6144, .f32⟩
  | .hbm, ⟨5, _⟩ => ⟨S8x2048, .f32⟩
  | .hbm, ⟨6, _⟩ => ⟨S8x2048, .f32⟩
  | .hbm, ⟨7, _⟩ => ⟨S2x2048, .f32⟩
  | .hbm, ⟨8, _⟩ => ⟨S2x2048, .f32⟩
  | .hbm, ⟨9, _⟩ => ⟨S2x8192x2048, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1, .f32⟩
  | .hbm, ⟨20, _⟩ => ⟨S2x8192x2048, .f32⟩
  | .hbm, ⟨21, _⟩ => ⟨S2x8192x2048, .f32⟩
  | .hbm, ⟨22, _⟩ => ⟨S1x1x2048, .f32⟩
  | .hbm, ⟨23, _⟩ => ⟨S2x8192x2048, .f32⟩
  | .hbm, ⟨24, _⟩ => ⟨S2x8192x2048, .f32⟩
  | .hbm, ⟨25, _⟩ => ⟨S2x1x2048, .f32⟩
  | .hbm, ⟨26, _⟩ => ⟨S_, .f32⟩
  | .hbm, ⟨27, _⟩ => ⟨S2x1x2048, .f32⟩
  | .hbm, ⟨28, _⟩ => ⟨S2x1x2048, .f32⟩
  | .hbm, ⟨29, _⟩ => ⟨S2x8192x2048, .f32⟩
  | .hbm, ⟨30, _⟩ => ⟨S2x8192x2048, .f32⟩
  | .hbm, ⟨31, _⟩ => ⟨S2x1x2048, .f32⟩
  | .hbm, ⟨32, _⟩ => ⟨S2x8192x2048, .f32⟩
  | .hbm, ⟨33, _⟩ => ⟨S2x8192x2048, .f32⟩
  | .hbm, ⟨34, _⟩ => ⟨S2x8192x6144, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S_, .f32⟩
  | .hbm, ⟨42, _⟩ => ⟨S2x8192x1024, .f32⟩
  | .hbm, ⟨43, _⟩ => ⟨S2x8192x1024, .f32⟩
  | .hbm, ⟨44, _⟩ => ⟨S_, .f32⟩
  | .hbm, ⟨45, _⟩ => ⟨S2x8192x1024, .f32⟩
  | .hbm, ⟨46, _⟩ => ⟨S2x8192x1024, .f32⟩
  | .hbm, ⟨47, _⟩ => ⟨S2x8192x4096, .f32⟩
  | .hbm, ⟨48, _⟩ => ⟨S16384x4096, .f32⟩
  | .hbm, ⟨49, _⟩ => ⟨S1x2048, .f32⟩
  | .hbm, ⟨50, _⟩ => ⟨S1x2048, .f32⟩
  | .hbm, ⟨51, _⟩ => ⟨S1x16384x2048, .f32⟩
  | .hbm, ⟨52, _⟩ => ⟨S_, .f32⟩
  | .hbm, ⟨53, _⟩ => ⟨S1x16384, .f32⟩
  | .hbm, ⟨54, _⟩ => ⟨S1x16384x1, .f32⟩
  | .hbm, ⟨55, _⟩ => ⟨S_, .f32⟩
  | .hbm, ⟨56, _⟩ => ⟨S1x16384x1, .f32⟩
  | .hbm, ⟨57, _⟩ => ⟨S1x16384x1, .f32⟩
  | .hbm, ⟨58, _⟩ => ⟨S_, .f32⟩
  | .hbm, ⟨59, _⟩ => ⟨S1x16384x1, .f32⟩
  | .hbm, ⟨60, _⟩ => ⟨S1x16384x1, .f32⟩
  | .hbm, ⟨61, _⟩ => ⟨S1x16384x1, .f32⟩
  | .hbm, ⟨62, _⟩ => ⟨S1x16384x2048, .f32⟩
  | .hbm, ⟨63, _⟩ => ⟨S1x16384x2048, .f32⟩
  | .hbm, ⟨64, _⟩ => ⟨S1x1x2048, .f32⟩
  | .hbm, ⟨65, _⟩ => ⟨S1x16384x2048, .f32⟩
  | .hbm, ⟨66, _⟩ => ⟨S1x16384x2048, .f32⟩
  | .hbm, ⟨67, _⟩ => ⟨S1x1x2048, .f32⟩
  | .hbm, ⟨68, _⟩ => ⟨S_, .f32⟩
  | .hbm, ⟨69, _⟩ => ⟨S1x1x2048, .f32⟩
  | .hbm, ⟨70, _⟩ => ⟨S1x1x2048, .f32⟩
  | .hbm, ⟨71, _⟩ => ⟨S1x16384x2048, .f32⟩
  | .hbm, ⟨72, _⟩ => ⟨S1x16384x2048, .f32⟩
  | .hbm, ⟨73, _⟩ => ⟨S1x1x2048, .f32⟩
  | .hbm, ⟨74, _⟩ => ⟨S1x16384x2048, .f32⟩
  | .hbm, ⟨75, _⟩ => ⟨S1x16384x2048, .f32⟩
  | .hbm, ⟨76, _⟩ => ⟨S1x16384x6144, .f32⟩
  | .hbm, ⟨77, _⟩ => ⟨S1x16384x1024, .f32⟩
  | .hbm, ⟨78, _⟩ => ⟨S1x16384x1024, .f32⟩
  | .hbm, ⟨79, _⟩ => ⟨S1x16384x1024, .f32⟩
  | .hbm, ⟨80, _⟩ => ⟨S1x16384x1024, .f32⟩
  | .hbm, ⟨81, _⟩ => ⟨S1x16384x1024, .f32⟩
  | .hbm, ⟨82, _⟩ => ⟨S1x16384x1024, .f32⟩
  | .hbm, ⟨83, _⟩ => ⟨S_, .f32⟩
  | .hbm, ⟨84, _⟩ => ⟨S1x16384x1024, .f32⟩
  | .hbm, ⟨85, _⟩ => ⟨S1x16384x1024, .f32⟩
  | .hbm, ⟨86, _⟩ => ⟨S_, .f32⟩
  | .hbm, ⟨87, _⟩ => ⟨S1x16384x1024, .f32⟩
  | .hbm, ⟨88, _⟩ => ⟨S1x16384x1024, .f32⟩
  | .hbm, ⟨89, _⟩ => ⟨S1x16384x4096, .f32⟩
  | .hbm, ⟨90, _⟩ => ⟨S16384x4096, .f32⟩
  | .hbm, ⟨91, _⟩ => ⟨S32768x4096, .f32⟩
  | .hbm, ⟨92, _⟩ => ⟨S32768x32x128, .f32⟩
  | .hbm, ⟨93, _⟩ => ⟨S32x32768x128, .f32⟩
  | .hbm, ⟨94, _⟩ => ⟨S32x32768x128, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_9 : Ref sig .tc := ⟨.hbm, 83, rfl⟩
abbrev main_v68 : Ref sig .tc := ⟨.hbm, 84, rfl⟩
abbrev main_v69 : Ref sig .tc := ⟨.hbm, 85, rfl⟩
abbrev main_cst_10 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩

abbrev nD : Nat := 1
abbrev τ : Topo := Topo.v7x

variable {F : FTy → Type} [FloatOps F]
-- ==== Kernel3.lean ====
abbrev S2x8192x2048 : Shape := ⟨3, ![2, 8192, 2048]⟩
abbrev S1x16384x2048 : Shape := ⟨3, ![1, 16384, 2048]⟩
abbrev S8x12288 : Shape := ⟨2, ![8, 12288]⟩
abbrev S2048 : Shape := ⟨1, ![2048]⟩
abbrev S2048x6144 : Shape := ⟨2, ![2048, 6144]⟩
abbrev S16384x2048 : Shape := ⟨2, ![16384, 2048]⟩
abbrev S2048x1024 : Shape := ⟨2, ![2048, 1024]⟩
abbrev S2048x2048 : Shape := ⟨2, ![2048, 2048]⟩
abbrev S1x2048 : Shape := ⟨2, ![1, 2048]⟩
abbrev S64x1024x512 : Shape := ⟨3, ![64, 1024, 512]⟩
abbrev S512x2048 : Shape := ⟨2, ![512, 2048]⟩
abbrev S8x2048 : Shape := ⟨2, ![8, 2048]⟩
abbrev S1x1024x512 : Shape := ⟨3, ![1, 1024, 512]⟩
abbrev S512 : Shape := ⟨1, ![512]⟩
abbrev S512x1 : Shape := ⟨2, ![512, 1]⟩
abbrev S2048x512 : Shape := ⟨2, ![2048, 512]⟩
abbrev S1024x512 : Shape := ⟨2, ![1024, 512]⟩

abbrev nBuf : Space → Nat
  | .hbm => 15
  | .vmem => 12
  | .smem => 0
  | _ => 0

abbrev bufTy : (tb : Table) → Fin (tcTables nBuf tb) → BufTy
  | .hbm, ⟨0, _⟩ => ⟨S2x8192x2048, .f32⟩
  | .hbm, ⟨1, _⟩ => ⟨S1x16384x2048, .f32⟩
  | .hbm, ⟨2, _⟩ => ⟨S8x12288, .f32⟩
  | .hbm, ⟨3, _⟩ => ⟨S2048, .f32⟩
  | .hbm, ⟨4, _⟩ => ⟨S2048x6144, .f32⟩
  | .hbm, ⟨5, _⟩ => ⟨S16384x2048, .f32⟩
  | .hbm, ⟨6, _⟩ => ⟨S16384x2048, .f32⟩
  | .hbm, ⟨7, _⟩ => ⟨S2048x1024, .f32⟩
  | .hbm, ⟨8, _⟩ => ⟨S2048x1024, .f32⟩
  | .hbm, ⟨9, _⟩ => ⟨S2048x2048, .f32⟩
  | .hbm, ⟨10, _⟩ => ⟨S2048x2048, .f32⟩
  | .hbm, ⟨11, _⟩ => ⟨S2048x2048, .bf16⟩
  | .hbm, ⟨12, _⟩ => ⟨S1x2048, .f32⟩
  | .hbm, ⟨13, _⟩ => ⟨S64x1024x512, .bf16⟩
  | .hbm, ⟨14, _⟩ => ⟨S64x1024x512, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S8x2048, .f32⟩
  | .local _ .vmem, ⟨5, _⟩ => ⟨S8x2048, .f32⟩
  | .local _ .vmem, ⟨6, _⟩ => ⟨S1x2048, .f32⟩
  | .local _ .vmem, ⟨7, _⟩ => ⟨S2048x2048, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8192_i32 : BitVec 32 := 8192#32
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let v1 : BitVec 32 := Scalar.divsi v0 c8192_i32
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let v27 : Index := Scalar.indexCast v18
  let c0_9 : Index := 0#32
  ![v27.toNat, 0]
def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S2x8192x2048 : Shape := ⟨3, ![2, 8192, 2048]⟩
abbrev S1x16384x2048 : Shape := ⟨3, ![1, 16384, 2048]⟩
abbrev S8x12288 : Shape := ⟨2, ![8, 12288]⟩
abbrev S2048 : Shape := ⟨1, ![2048]⟩
abbrev S2048x6144 : Shape := ⟨2, ![2048, 6144]⟩
abbrev S8x2048 : Shape := ⟨2, ![8, 2048]⟩
abbrev S2x2048 : Shape := ⟨2, ![2, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x1x2048 : Shape := ⟨3, ![2, 1, 2048]⟩
abbrev S2x8192x6144 : Shape := ⟨3, ![2, 8192, 6144]⟩
abbrev S2x8192x1024 : Shape := ⟨3, ![2, 8192, 1024]⟩
abbrev S16384x1024 : Shape := ⟨2, ![16384, 1024]⟩
abbrev S1x2048 : Shape := ⟨2, ![1, 2048]⟩
abbrev S1x16384 : Shape := ⟨2, ![1, 16384]⟩
abbrev S1x16384x1 : Shape := ⟨3, ![1, 16384, 1]⟩
abbrev S1x16384x6144 : Shape := ⟨3, ![1, 16384, 6144]⟩
abbrev S1x16384x1024 : Shape := ⟨3, ![1, 16384, 1024]⟩
abbrev S32768x1024 : Shape := ⟨2, ![32768, 1024]⟩
abbrev S64x512x1024 : Shape := ⟨3, ![64, 512, 1024]⟩
abbrev S64x1024x512 : Shape := ⟨3, ![64, 1024, 512]⟩

abbrev nBuf : Space → Nat
  | .hbm => 87
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x16384x2048, .f32⟩
  | .hbm, ⟨2, _⟩ => ⟨S8x12288, .f32⟩
  | .hbm, ⟨3, _⟩ => ⟨S2048, .f32⟩
  | .hbm, ⟨4, _⟩ => ⟨S2048x6144, .f32⟩
  | .hbm, ⟨5, _⟩ => ⟨S8x2048, .f32⟩
  | .hbm, ⟨6, _⟩ => ⟨S8x2048, .f32⟩
  | .hbm, ⟨7, _⟩ => ⟨S2x2048, .f32⟩
  | .hbm, ⟨8, _⟩ => ⟨S2x2048, .f32⟩
  | .hbm, ⟨9, _⟩ => ⟨S2x8192x2048, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1, .f32⟩
  | .hbm, ⟨20, _⟩ => ⟨S2x8192x2048, .f32⟩
  | .hbm, ⟨21, _⟩ => ⟨S2x8192x2048, .f32⟩
  | .hbm, ⟨22, _⟩ => ⟨S1x1x2048, .f32⟩
  | .hbm, ⟨23, _⟩ => ⟨S2x8192x2048, .f32⟩
  | .hbm, ⟨24, _⟩ => ⟨S2x8192x2048, .f32⟩
  | .hbm, ⟨25, _⟩ => ⟨S2x1x2048, .f32⟩
  | .hbm, ⟨26, _⟩ => ⟨S_, .f32⟩
  | .hbm, ⟨27, _⟩ => ⟨S2x1x2048, .f32⟩
  | .hbm, ⟨28, _⟩ => ⟨S2x1x2048, .f32⟩
  | .hbm, ⟨29, _⟩ => ⟨S2x8192x2048, .f32⟩
  | .hbm, ⟨30, _⟩ => ⟨S2x8192x2048, .f32⟩
  | .hbm, ⟨31, _⟩ => ⟨S2x1x2048, .f32⟩
  | .hbm, ⟨32, _⟩ => ⟨S2x8192x2048, .f32⟩
  | .hbm, ⟨33, _⟩ => ⟨S2x8192x2048, .f32⟩
  | .hbm, ⟨34, _⟩ => ⟨S2x8192x6144, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S16384x1024, .f32⟩
  | .hbm, ⟨42, _⟩ => ⟨S16384x1024, .f32⟩
  | .hbm, ⟨43, _⟩ => ⟨S1x2048, .f32⟩
  | .hbm, ⟨44, _⟩ => ⟨S1x2048, .f32⟩
  | .hbm, ⟨45, _⟩ => ⟨S1x16384x2048, .f32⟩
  | .hbm, ⟨46, _⟩ => ⟨S_, .f32⟩
  | .hbm, ⟨47, _⟩ => ⟨S1x16384, .f32⟩
  | .hbm, ⟨48, _⟩ => ⟨S1x16384x1, .f32⟩
  | .hbm, ⟨49, _⟩ => ⟨S_, .f32⟩
  | .hbm, ⟨50, _⟩ => ⟨S1x16384x1, .f32⟩
  | .hbm, ⟨51, _⟩ => ⟨S1x16384x1, .f32⟩
  | .hbm, ⟨52, _⟩ => ⟨S_, .f32⟩
  | .hbm, ⟨53, _⟩ => ⟨S1x16384x1, .f32⟩
  | .hbm, ⟨54, _⟩ => ⟨S1x16384x1, .f32⟩
  | .hbm, ⟨55, _⟩ => ⟨S1x16384x1, .f32⟩
  | .hbm, ⟨56, _⟩ => ⟨S1x16384x2048, .f32⟩
  | .hbm, ⟨57, _⟩ => ⟨S1x16384x2048, .f32⟩
  | .hbm, ⟨58, _⟩ => ⟨S1x1x2048, .f32⟩
  | .hbm, ⟨59, _⟩ => ⟨S1x16384x2048, .f32⟩
  | .hbm, ⟨60, _⟩ => ⟨S1x16384x2048, .f32⟩
  | .hbm, ⟨61, _⟩ => ⟨S1x1x2048, .f32⟩
  | .hbm, ⟨62, _⟩ => ⟨S_, .f32⟩
  | .hbm, ⟨63, _⟩ => ⟨S1x1x2048, .f32⟩
  | .hbm, ⟨64, _⟩ => ⟨S1x1x2048, .f32⟩
  | .hbm, ⟨65, _⟩ => ⟨S1x16384x2048, .f32⟩
  | .hbm, ⟨66, _⟩ => ⟨S1x16384x2048, .f32⟩
  | .hbm, ⟨67, _⟩ => ⟨S1x1x2048, .f32⟩
  | .hbm, ⟨68, _⟩ => ⟨S1x16384x2048, .f32⟩
  | .hbm, ⟨69, _⟩ => ⟨S1x16384x2048, .f32⟩
  | .hbm, ⟨70, _⟩ => ⟨S1x16384x6144, .f32⟩
  | .hbm, ⟨71, _⟩ => ⟨S1x16384x1024, .f32⟩
  | .hbm, ⟨72, _⟩ => ⟨S1x16384x1024, .f32⟩
  | .hbm, ⟨73, _⟩ => ⟨S1x16384x1024, .f32⟩
  | .hbm, ⟨74, _⟩ => ⟨S1x16384x1024, .f32⟩
  | .hbm, ⟨75, _⟩ => ⟨S1x16384x1024, .f32⟩
  | .hbm, ⟨76, _⟩ => ⟨S1x16384x1024, .f32⟩
  | .hbm, ⟨77, _⟩ => ⟨S16384x1024, .f32⟩
  | .hbm, ⟨78, _⟩ => ⟨S16384x1024, .f32⟩
  | .hbm, ⟨79, _⟩ => ⟨S32768x1024, .f32⟩
  | .hbm, ⟨80, _⟩ => ⟨S64x512x1024, .f32⟩
  | .hbm, ⟨81, _⟩ => ⟨S64x1024x512, .f32⟩
  | .hbm, ⟨82, _⟩ => ⟨S32768x1024, .f32⟩
  | .hbm, ⟨83, _⟩ => ⟨S64x512x1024, .f32⟩
  | .hbm, ⟨84, _⟩ => ⟨S64x1024x512, .f32⟩
  | .hbm, ⟨85, _⟩ => ⟨S64x1024x512, .bf16⟩
  | .hbm, ⟨86, _⟩ => ⟨S64x1024x512, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩

abbrev nD : Nat := 1
abbrev τ : Topo := Topo.v7x

variable {F : FTy → Type} [FloatOps F]
-- ==== Kernel4.lean ====
abbrev S2x8192x2048 : Shape := ⟨3, ![2, 8192, 2048]⟩
abbrev S1x16384x2048 : Shape := ⟨3, ![1, 16384, 2048]⟩
abbrev S16384x1024 : Shape := ⟨2, ![16384, 1024]⟩
abbrev S8x12288 : Shape := ⟨2, ![8, 12288]⟩
abbrev S2048 : Shape := ⟨1, ![2048]⟩
abbrev S2048x2048 : Shape := ⟨2, ![2048, 2048]⟩
abbrev S2048x32 : Shape := ⟨2, ![2048, 32]⟩
abbrev S32 : Shape := ⟨1, ![32]⟩
abbrev S16384x2048 : Shape := ⟨2, ![16384, 2048]⟩
abbrev S_ : Shape := ⟨0, ![]⟩
abbrev S2048x128 : Shape := ⟨2, ![2048, 128]⟩
abbrev S1 : Shape := ⟨1, ![1]⟩
abbrev S1x128 : Shape := ⟨2, ![1, 128]⟩
abbrev S2 : Shape := ⟨1, ![2]⟩
abbrev S1x2048 : Shape := ⟨2, ![1, 2048]⟩
abbrev S32768x2048 : Shape := ⟨2, ![32768, 2048]⟩
abbrev S32768x128 : Shape := ⟨2, ![32768, 128]⟩
abbrev S512x2048 : Shape := ⟨2, ![512, 2048]⟩
abbrev S512x1024 : Shape := ⟨2, ![512, 1024]⟩
abbrev S1024x2048 : Shape := ⟨2, ![1024, 2048]⟩
abbrev S8x2048 : Shape := ⟨2, ![8, 2048]⟩
abbrev S512x128 : Shape := ⟨2, ![512, 128]⟩
abbrev S512 : Shape := ⟨1, ![512]⟩
abbrev S512x1 : Shape := ⟨2, ![512, 1]⟩

abbrev nBuf : Space → Nat
  | .hbm => 35
  | .vmem => 27
  | .smem => 0
  | _ => 0

abbrev bufTy : (tb : Table) → Fin (tcTables nBuf tb) → BufTy
  | .hbm, ⟨0, _⟩ => ⟨S2x8192x2048, .f32⟩
  | .hbm, ⟨1, _⟩ => ⟨S1x16384x2048, .f32⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S8x12288, .f32⟩
  | .hbm, ⟨7, _⟩ => ⟨S2048, .f32⟩
  | .hbm, ⟨8, _⟩ => ⟨S2048x2048, .f32⟩
  | .hbm, ⟨9, _⟩ => ⟨S2048x32, .f32⟩
  | .hbm, ⟨10, _⟩ => ⟨S32, .f32⟩
  | .hbm, ⟨11, _⟩ => ⟨S16384x2048, .f32⟩
  | .hbm, ⟨12, _⟩ => ⟨S16384x2048, .f32⟩
  | .hbm, ⟨13, _⟩ => ⟨S2048x2048, .bf16⟩
  | .hbm, ⟨14, _⟩ => ⟨S_, .f32⟩
  | .hbm, ⟨15, _⟩ => ⟨S2048x128, .f32⟩
  | .hbm, ⟨16, _⟩ => ⟨S_, .i32⟩
  | .hbm, ⟨17, _⟩ => ⟨S1, .i32⟩
  | .hbm, ⟨18, _⟩ => ⟨S2048x128, .f32⟩
  | .hbm, ⟨19, _⟩ => ⟨S2048x128, .bf16⟩
  | .hbm, ⟨20, _⟩ => ⟨S2048x128, .f32⟩
  | .hbm, ⟨21, _⟩ => ⟨S2048x128, .f32⟩
  | .hbm, ⟨22, _⟩ => ⟨S2048x128, .bf16⟩
  | .hbm, ⟨23, _⟩ => ⟨S_, .f32⟩
  | .hbm, ⟨24, _⟩ => ⟨S1x128, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S1x128, .f32⟩
  | .hbm, ⟨31, _⟩ => ⟨S1x2048, .f32⟩
  | .hbm, ⟨32, _⟩ => ⟨S32768x2048, .f32⟩
  | .hbm, ⟨33, _⟩ => ⟨S32768x2048, .f32⟩
  | .hbm, ⟨34, _⟩ => ⟨S32768x128, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x2048, .bf16⟩
  | .local _ .vmem, ⟨14, _⟩ => ⟨S8x2048, .f32⟩
  | .local _ .vmem, ⟨15, _⟩ => ⟨S8x2048, .f32⟩
  | .local _ .vmem, ⟨16, _⟩ => ⟨S8x2048, .f32⟩
  | .local _ .vmem, ⟨17, _⟩ => ⟨S1x2048, .f32⟩
  | .local _ .vmem, ⟨18, _⟩ => ⟨S2048x128, .bf16⟩
  | .local _ .vmem, ⟨19, _⟩ => ⟨S2048x128, .bf16⟩
  | .local _ .vmem, ⟨20, _⟩ => ⟨S1x128, .f32⟩
  | .local _ .vmem, ⟨21, _⟩ => ⟨S512x2048, .f32⟩
  | .local _ .vmem, ⟨22, _⟩ => ⟨S512x2048, .f32⟩
  | .local _ .vmem, ⟨23, _⟩ => ⟨S512x2048, .f32⟩
  | .local _ .vmem, ⟨24, _⟩ => ⟨S512x2048, .f32⟩
  | .local _ .vmem, ⟨25, _⟩ => ⟨S512x128, .f32⟩
  | .local _ .vmem, ⟨26, _⟩ => ⟨S512x128, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16_0 : Ref sig .tc := ⟨.hbm, 32, rfl⟩
abbrev main_v16_1 : Ref sig .tc := ⟨.hbm, 33, rfl⟩
abbrev main_v16_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let arg0 : BitVec 32 := BitVec.ofNat 32 (i 0).val
  let c512_i32 : BitVec 32 := 512#32
  let v0 : BitVec 32 := Scalar.muli arg0 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8192_i32 : BitVec 32 := 8192#32
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let v1 : BitVec 32 := Scalar.divsi v0 c8192_i32
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let v38 : Index := Scalar.indexCast v18
  let c0_20 : Index := 0#32
  ![v38.toNat, 0]
def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_8 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_9 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_10 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference4Ideal.lean ====
abbrev S2x8192x2048 : Shape := ⟨3, ![2, 8192, 2048]⟩
abbrev S1x16384x2048 : Shape := ⟨3, ![1, 16384, 2048]⟩
abbrev S16384x1024 : Shape := ⟨2, ![16384, 1024]⟩
abbrev S8x12288 : Shape := ⟨2, ![8, 12288]⟩
abbrev S2048 : Shape := ⟨1, ![2048]⟩
abbrev S2048x2048 : Shape := ⟨2, ![2048, 2048]⟩
abbrev S2048x32 : Shape := ⟨2, ![2048, 32]⟩
abbrev S32 : Shape := ⟨1, ![32]⟩
abbrev S8x2048 : Shape := ⟨2, ![8, 2048]⟩
abbrev S2x2048 : Shape := ⟨2, ![2, 2048]⟩
abbrev S16384x2048 : Shape := ⟨2, ![16384, 2048]⟩
abbrev S2x1x2048 : Shape := ⟨3, ![2, 1, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S1x2048 : Shape := ⟨2, ![1, 2048]⟩
abbrev S1x16384 : Shape := ⟨2, ![1, 16384]⟩
abbrev S1x16384x1 : Shape := ⟨3, ![1, 16384, 1]⟩
abbrev S32768x2048 : Shape := ⟨2, ![32768, 2048]⟩

abbrev nBuf : Space → Nat
  | .hbm => 94
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x16384x2048, .f32⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S8x12288, .f32⟩
  | .hbm, ⟨7, _⟩ => ⟨S2048, .f32⟩
  | .hbm, ⟨8, _⟩ => ⟨S2048x2048, .f32⟩
  | .hbm, ⟨9, _⟩ => ⟨S2048x32, .f32⟩
  | .hbm, ⟨10, _⟩ => ⟨S32, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S2x2048, .f32⟩
  | .hbm, ⟨15, _⟩ => ⟨S2x2048, .f32⟩
  | .hbm, ⟨16, _⟩ => ⟨S2x2048, .f32⟩
  | .hbm, ⟨17, _⟩ => ⟨S16384x1024, .f32⟩
  | .hbm, ⟨18, _⟩ => ⟨S16384x1024, .f32⟩
  | .hbm, ⟨19, _⟩ => ⟨S16384x2048, .f32⟩
  | .hbm, ⟨20, _⟩ => ⟨S2x8192x2048, .f32⟩
  | .hbm, ⟨21, _⟩ => ⟨S2x8192x2048, .f32⟩
  | .hbm, ⟨22, _⟩ => ⟨S2x1x2048, .f32⟩
  | .hbm, ⟨23, _⟩ => ⟨S2x8192x2048, .f32⟩
  | .hbm, ⟨24, _⟩ => ⟨S2x8192x2048, .f32⟩
  | .hbm, ⟨25, _⟩ => ⟨S2x8192x2048, .f32⟩
  | .hbm, ⟨26, _⟩ => ⟨S2x8192x2048, .f32⟩
  | .hbm, ⟨27, _⟩ => ⟨S_, .f32⟩
  | .hbm, ⟨28, _⟩ => ⟨S2x8192, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S_, .f32⟩
  | .hbm, ⟨34, _⟩ => ⟨S2x8192x1, .f32⟩
  | .hbm, ⟨35, _⟩ => ⟨S2x8192x1, .f32⟩
  | .hbm, ⟨36, _⟩ => ⟨S2x8192x1, .f32⟩
  | .hbm, ⟨37, _⟩ => ⟨S2x8192x2048, .f32⟩
  | .hbm, ⟨38, _⟩ => ⟨S2x8192x2048, .f32⟩
  | .hbm, ⟨39, _⟩ => ⟨S1x1x2048, .f32⟩
  | .hbm, ⟨40, _⟩ => ⟨S2x8192x2048, .f32⟩
  | .hbm, ⟨41, _⟩ => ⟨S2x8192x2048, .f32⟩
  | .hbm, ⟨42, _⟩ => ⟨S2x1x2048, .f32⟩
  | .hbm, ⟨43, _⟩ => ⟨S_, .f32⟩
  | .hbm, ⟨44, _⟩ => ⟨S2x1x2048, .f32⟩
  | .hbm, ⟨45, _⟩ => ⟨S2x1x2048, .f32⟩
  | .hbm, ⟨46, _⟩ => ⟨S2x8192x2048, .f32⟩
  | .hbm, ⟨47, _⟩ => ⟨S2x8192x2048, .f32⟩
  | .hbm, ⟨48, _⟩ => ⟨S2x1x2048, .f32⟩
  | .hbm, ⟨49, _⟩ => ⟨S2x8192x2048, .f32⟩
  | .hbm, ⟨50, _⟩ => ⟨S2x8192x2048, .f32⟩
  | .hbm, ⟨51, _⟩ => ⟨S16384x2048, .f32⟩
  | .hbm, ⟨52, _⟩ => ⟨S16384x2048, .f32⟩
  | .hbm, ⟨53, _⟩ => ⟨S1x2048, .f32⟩
  | .hbm, ⟨54, _⟩ => ⟨S1x2048, .f32⟩
  | .hbm, ⟨55, _⟩ => ⟨S1x2048, .f32⟩
  | .hbm, ⟨56, _⟩ => ⟨S16384x1024, .f32⟩
  | .hbm, ⟨57, _⟩ => ⟨S16384x1024, .f32⟩
  | .hbm, ⟨58, _⟩ => ⟨S16384x2048, .f32⟩
  | .hbm, ⟨59, _⟩ => ⟨S1x16384x2048, .f32⟩
  | .hbm, ⟨60, _⟩ => ⟨S1x16384x2048, .f32⟩
  | .hbm, ⟨61, _⟩ => ⟨S1x1x2048, .f32⟩
  | .hbm, ⟨62, _⟩ => ⟨S1x16384x2048, .f32⟩
  | .hbm, ⟨63, _⟩ => ⟨S1x16384x2048, .f32⟩
  | .hbm, ⟨64, _⟩ => ⟨S1x16384x2048, .f32⟩
  | .hbm, ⟨65, _⟩ => ⟨S1x16384x2048, .f32⟩
  | .hbm, ⟨66, _⟩ => ⟨S_, .f32⟩
  | .hbm, ⟨67, _⟩ => ⟨S1x16384, .f32⟩
  | .hbm, ⟨68, _⟩ => ⟨S1x16384x1, .f32⟩
  | .hbm, ⟨69, _⟩ => ⟨S_, .f32⟩
  | .hbm, ⟨70, _⟩ => ⟨S1x16384x1, .f32⟩
  | .hbm, ⟨71, _⟩ => ⟨S1x16384x1, .f32⟩
  | .hbm, ⟨72, _⟩ => ⟨S_, .f32⟩
  | .hbm, ⟨73, _⟩ => ⟨S1x16384x1, .f32⟩
  | .hbm, ⟨74, _⟩ => ⟨S1x16384x1, .f32⟩
  | .hbm, ⟨75, _⟩ => ⟨S1x16384x1, .f32⟩
  | .hbm, ⟨76, _⟩ => ⟨S1x16384x2048, .f32⟩
  | .hbm, ⟨77, _⟩ => ⟨S1x16384x2048, .f32⟩
  | .hbm, ⟨78, _⟩ => ⟨S1x1x2048, .f32⟩
  | .hbm, ⟨79, _⟩ => ⟨S1x16384x2048, .f32⟩
  | .hbm, ⟨80, _⟩ => ⟨S1x16384x2048, .f32⟩
  | .hbm, ⟨81, _⟩ => ⟨S1x1x2048, .f32⟩
  | .hbm, ⟨82, _⟩ => ⟨S_, .f32⟩
  | .hbm, ⟨83, _⟩ => ⟨S1x1x2048, .f32⟩
  | .hbm, ⟨84, _⟩ => ⟨S1x1x2048, .f32⟩
  | .hbm, ⟨85, _⟩ => ⟨S1x16384x2048, .f32⟩
  | .hbm, ⟨86, _⟩ => ⟨S1x16384x2048, .f32⟩
  | .hbm, ⟨87, _⟩ => ⟨S1x1x2048, .f32⟩
  | .hbm, ⟨88, _⟩ => ⟨S1x16384x2048, .f32⟩
  | .hbm, ⟨89, _⟩ => ⟨S1x16384x2048, .f32⟩
  | .hbm, ⟨90, _⟩ => ⟨S16384x2048, .f32⟩
  | .hbm, ⟨91, _⟩ => ⟨S16384x2048, .f32⟩
  | .hbm, ⟨92, _⟩ => ⟨S32768x2048, .f32⟩
  | .hbm, ⟨93, _⟩ => ⟨S32768x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_3 : Ref sig .tc := ⟨.hbm, 66, rfl⟩
abbrev main_v51 : Ref sig .tc := ⟨.hbm, 67, rfl⟩
abbrev main_v52 : Ref sig .tc := ⟨.hbm, 68, rfl⟩
abbrev main_cst_4 : Ref sig .tc := ⟨.hbm, 69, rfl⟩
abbrev main_v53 : Ref sig .tc := ⟨.hbm, 70, rfl⟩
abbrev main_v54 : Ref sig .tc := ⟨.hbm, 71, rfl⟩
abbrev main_cst_5 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_6 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩

abbrev nD : Nat := 1
abbrev τ : Topo := Topo.v7x

variable {F : FTy → Type} [FloatOps F]
-- ==== Proof.Steps.lean ====
/-
  The walk over the grouped rows, in natural numbers.

  `c e` rows belong to expert `e`; the rows lie one expert after another, so expert `e` holds the rows
  `pre c e ≤ R < pre c (e + 1)`.  A row tile has 512 rows.  Expert `e` meets `tiles c e` row tiles, and the grid walks
  the pairs (expert, tile) in order: step `s` works for expert `ex c s` on tile `tl c s`.  The steps past the last pair
  repeat it.  Nothing here knows of a program.
-/
module

public import Idealize.ShloMosaic.Lib.Routing.Count

@[expose] public section

namespace Cert.Steps

open Idealize.ShloMosaic Idealize.ShloMosaic.Routing

/-- The sum of the first `n` values. -/
def pre (c : ℕ → ℕ) : ℕ → ℕ
  | 0 => 0
  | n + 1 => pre c n + c n

/-- The sum as a list's. -/
theorem sum_range (c : ℕ → ℕ) (n : ℕ) : ((List.range n).map c).sum = pre c n := by
  induction n with
  | zero => rfl
  | succ n ih => rw [List.range_succ, List.map_append, List.sum_append, ih]; simp [pre]

/-- More terms, a sum at least as large. -/
theorem pre_mono (c : ℕ → ℕ) {a b : ℕ} (h : a ≤ b) : pre c a ≤ pre c b := by
  induction b with
  | zero => rw [Nat.le_zero.1 h]
  | succ b ih =>
    rcases Nat.lt_or_ge a (b + 1) with hl | hl
    · exact (ih (by omega)).trans (Nat.le_add_right _ _)
    · rw [Nat.le_antisymm h hl]

/-- The number of row tiles that expert `e` meets. -/
def tiles (c : ℕ → ℕ) (e : ℕ) : ℕ := if 0 < c e then (pre c (e + 1) - 1) / 512 - pre c e / 512 + 1 else 0

/-- The number of steps that work. -/
def nst (c : ℕ → ℕ) : ℕ := pre (tiles c) 32

/-- The pair that step `s` names. -/
def act (c : ℕ → ℕ) (s : ℕ) : ℕ := min s (nst c - 1)

/-- The expert of step `s`. -/
def ex (c : ℕ → ℕ) (s : ℕ) : ℕ := min (Nat.count (fun e => pre (tiles c) (e + 1) ≤ act c s) 32) 31

/-- The row tile of step `s`. -/
def tl (c : ℕ → ℕ) (s : ℕ) : ℕ := pre c (ex c s) / 512 + act c s - pre (tiles c) (ex c s)

/-- The expert of row `R`. -/
def own (c : ℕ → ℕ) (R : ℕ) : ℕ := Nat.count (fun e => pre c (e + 1) ≤ R) 32

section
variable {c : ℕ → ℕ}

/-- The pairs of the first `e` experts are at most the tiles they fill and one more for each. -/
theorem pre_tiles_le (e : ℕ) : pre (tiles c) e ≤ if pre c e = 0 then 0 else (pre c e - 1) / 512 + e := by
  induction e with
  | zero => simp [pre]
  | succ e ih =>
    have hp : pre c (e + 1) = pre c e + c e := rfl
    have hq : pre (tiles c) (e + 1) = pre (tiles c) e + tiles c e := rfl
    have ht : tiles c e = if 0 < c e then (pre c (e + 1) - 1) / 512 - pre c e / 512 + 1 else 0 := rfl
    rw [hq]
    generalize pre (tiles c) e = A at *
    generalize tiles c e = B at *
    by_cases hc : 0 < c e
    · rw [if_pos hc] at ht
      split at ih <;> split <;> omega
    · rw [if_neg hc] at ht
      split at ih <;> split <;> omega

/-- An expert meets no tile exactly when it has no row. -/
theorem tiles_pos {e : ℕ} : 0 < tiles c e ↔ 0 < c e := by
  unfold tiles
  split <;> omega

/-- Where no pair has come yet, no row has. -/
theorem pre_eq_of_tiles {a b : ℕ} (hab : a ≤ b) (h : pre (tiles c) b = pre (tiles c) a) : pre c b = pre c a := by
  induction b with
  | zero => rw [Nat.le_zero.1 hab]
  | succ b ih =>
    rcases Nat.lt_or_ge a (b + 1) with hl | hl
    · have h1 : pre (tiles c) (b + 1) = pre (tiles c) b + tiles c b := rfl
      have h2 := pre_mono (tiles c) (show a ≤ b by omega)
      have h3 : tiles c b = 0 := by omega
      have h4 : c b = 0 := by
        by_contra hc
        have := tiles_pos.2 (Nat.pos_of_ne_zero hc)
        omega
      have h5 : pre c (b + 1) = pre c b + c b := rfl
      rw [h5, h4, Nat.add_zero, ih (by omega) (by omega)]
    · rw [Nat.le_antisymm hab hl]

variable (hs : pre c 32 = 131072)
include hs

/-- There is a pair. -/
theorem nst_pos : 1 ≤ nst c := by
  by_contra h
  have h0 : pre (tiles c) 32 = pre (tiles c) 0 := by
    have : pre (tiles c) 32 = nst c := rfl
    have : pre (tiles c) 0 = 0 := rfl
    omega
  have := pre_eq_of_tiles (Nat.zero_le 32) h0
  rw [hs] at this
  have h0 : pre c 0 = 0 := rfl
  omega

/-- There are at most as many pairs as steps. -/
theorem nst_le : nst c ≤ 287 := by
  have h := pre_tiles_le (c := c) 32
  rw [hs, if_neg (by decide)] at h
  exact h

/-- The pair of a step is one of the pairs. -/
theorem act_lt (s : ℕ) : act c s < nst c := by
  have := nst_pos hs
  unfold act
  omega

/-- The count of the experts whose pairs are over. -/
theorem ex_spec (s : ℕ) : ex c s < 32 ∧ pre (tiles c) (ex c s) ≤ act c s ∧ act c s < pre (tiles c) (ex c s + 1) := by
  have hlt := act_lt hs s
  have hdown : ∀ a b, a ≤ b → b < 32 → pre (tiles c) (b + 1) ≤ act c s → pre (tiles c) (a + 1) ≤ act c s :=
    fun a b hab _ h => (pre_mono _ (by omega)).trans h
  have key : ∀ e, e < 32 → (e < Nat.count (fun e => pre (tiles c) (e + 1) ≤ act c s) 32 ↔ pre (tiles c) (e + 1) ≤ act c s) :=
    fun e he => (lt_count_iff hdown he).symm
  have h31 : Nat.count (fun e => pre (tiles c) (e + 1) ≤ act c s) 32 ≤ 31 := by
    by_contra hc
    have := (key 31 (by decide)).1 (by omega)
    have h2 : pre (tiles c) (31 + 1) = nst c := rfl
    omega
  have hex : ex c s = Nat.count (fun e => pre (tiles c) (e + 1) ≤ act c s) 32 := by unfold ex; omega
  refine ⟨by omega, ?_, ?_⟩
  · rcases Nat.eq_zero_or_pos (ex c s) with h0 | h0
    · rw [h0]; exact Nat.zero_le _
    · have := (key (ex c s - 1) (by omega)).1 (by omega)
      rwa [Nat.sub_add_cancel h0] at this
  · by_contra hc
    have := (key (ex c s) (by omega)).2 (by omega)
    omega

/-- What a step's expert and tile are to one another. -/
theorem step_spec (s : ℕ) :
    ex c s < 32 ∧ pre (tiles c) (ex c s) ≤ act c s ∧ act c s < pre (tiles c) (ex c s + 1)
      ∧ 0 < c (ex c s) ∧ pre c (ex c s + 1) = pre c (ex c s) + c (ex c s) ∧ pre c (ex c s + 1) ≤ 131072
      ∧ tl c s = pre c (ex c s) / 512 + (act c s - pre (tiles c) (ex c s))
      ∧ pre (tiles c) (ex c s + 1) = pre (tiles c) (ex c s) + ((pre c (ex c s + 1) - 1) / 512 - pre c (ex c s) / 512 + 1) := by
  obtain ⟨h1, h2, h3⟩ := ex_spec hs s
  have h4 : pre (tiles c) (ex c s + 1) = pre (tiles c) (ex c s) + tiles c (ex c s) := rfl
  have h5 : 0 < c (ex c s) := tiles_pos.1 (by omega)
  have h6 := pre_mono c (show ex c s + 1 ≤ 32 by omega)
  have h7 : tiles c (ex c s) = (pre c (ex c s + 1) - 1) / 512 - pre c (ex c s) / 512 + 1 := by unfold tiles; rw [if_pos h5]
  refine ⟨h1, h2, h3, h5, rfl, by omega, by unfold tl; omega, by omega⟩

/-- A tile is one of the 256. -/
theorem tl_lt (s : ℕ) : tl c s < 256 := by
  obtain ⟨_, h2, h3, h5, h6, h7, h8, h9⟩ := step_spec hs s
  omega

/-- An expert is one of the 32. -/
theorem ex_lt (s : ℕ) : ex c s < 32 := (ex_spec hs s).1

/-- The expert of a pair is the one whose pairs it lies among. -/
theorem ex_unique {s e : ℕ} (he : e < 32) (h1 : pre (tiles c) e ≤ act c s) (h2 : act c s < pre (tiles c) (e + 1)) : ex c s = e := by
  obtain ⟨_, h3, h4⟩ := ex_spec hs s
  rcases Nat.lt_trichotomy (ex c s) e with h | h | h
  · have := pre_mono (tiles c) (show ex c s + 1 ≤ e by omega); omega
  · exact h
  · have := pre_mono (tiles c) (show e + 1 ≤ ex c s by omega); omega

omit hs in
/-- Past the last pair a step names the pair before it. -/
theorem act_stay {s : ℕ} (h : nst c ≤ s + 1) : act c (s + 1) = act c s := by unfold act; omega

omit hs in
/-- So it repeats the expert and the tile. -/
theorem stay {s : ℕ} (h : nst c ≤ s + 1) : ex c (s + 1) = ex c s ∧ tl c (s + 1) = tl c s := by
  have e : ex c (s + 1) = ex c s := by unfold ex; rw [act_stay h]
  exact ⟨e, by unfold tl; rw [e, act_stay h]⟩

/-- From one pair to the next: the next tile of the same expert; or, after an expert's last tile, the next expert that
    has rows, from the row where the last one ended. -/
theorem next {s : ℕ} (h : s + 1 < nst c) :
    (ex c (s + 1) = ex c s ∧ tl c (s + 1) = tl c s + 1) ∨
    (pre c (ex c (s + 1)) = pre c (ex c s + 1) ∧ tl c s = (pre c (ex c s + 1) - 1) / 512 ∧ tl c (s + 1) = pre c (ex c (s + 1)) / 512) := by
  have a0 : act c s = s := by unfold act; omega
  have a1 : act c (s + 1) = s + 1 := by unfold act; omega
  obtain ⟨h1, h2, h3, h5, h6, h7, h8, h9⟩ := step_spec hs s
  obtain ⟨k1, k2, k3, k5, k6, k7, k8, k9⟩ := step_spec hs (s + 1)
  rw [a0] at h2 h3 h8
  rw [a1] at k2 k3 k8
  rcases Nat.lt_or_ge (s + 1) (pre (tiles c) (ex c s + 1)) with hl | hl
  · left
    have e : ex c (s + 1) = ex c s := ex_unique hs h1 (by omega) (by omega)
    rw [e] at k8
    exact ⟨e, by omega⟩
  · right
    have hge : ex c s + 1 ≤ ex c (s + 1) := by
      by_contra hc
      have := pre_mono (tiles c) (show ex c (s + 1) + 1 ≤ ex c s + 1 by omega)
      omega
    have hm := pre_mono (tiles c) hge
    have e := pre_eq_of_tiles (c := c) hge (by omega)
    exact ⟨e, by omega, by omega⟩

/-- The first pair's expert has no row before its own, and its tile is the first. -/
theorem first : pre c (ex c 0) = 0 ∧ tl c 0 = 0 := by
  obtain ⟨h1, h2, h3, h5, h6, h7, h8, h9⟩ := step_spec hs 0
  have a0 : act c 0 = 0 := by unfold act; omega
  rw [a0] at h2 h3 h8
  have : pre (tiles c) 0 = 0 := rfl
  have e := pre_eq_of_tiles (c := c) (Nat.zero_le (ex c 0)) (by omega)
  have e0 : pre c 0 = 0 := rfl
  exact ⟨by omega, by omega⟩

/-- At the last step all rows have come and the tile is the last. -/
theorem last {s : ℕ} (h : nst c ≤ s + 1) : pre c (ex c s + 1) = 131072 ∧ tl c s = 255 := by
  obtain ⟨h1, h2, h3, h5, h6, h7, h8, h9⟩ := step_spec hs s
  have hn := nst_pos hs
  have a0 : act c s = nst c - 1 := by unfold act; omega
  have hm := pre_mono (tiles c) (show ex c s + 1 ≤ 32 by omega)
  have hN : pre (tiles c) 32 = nst c := rfl
  have e := pre_eq_of_tiles (c := c) (show ex c s + 1 ≤ 32 by omega) (by omega)
  rw [hs] at e
  exact ⟨e.symm, by omega⟩

/-- At a tile's first visit no row of an earlier expert lies in it. -/
theorem fresh_first {s : ℕ} (h : s = 0 ∨ tl c s ≠ tl c (s - 1)) : pre c (ex c s) ≤ 512 * tl c s := by
  rcases s with _ | s
  · rw [(first hs).1]; exact Nat.zero_le _
  · rcases h with h | h
    · exact absurd h (by omega)
    · rw [Nat.add_sub_cancel] at h
      rcases Nat.lt_or_ge (s + 1) (nst c) with hl | hl
      · obtain ⟨h1, h2, h3, h5, h6, h7, h8, h9⟩ := step_spec hs s
        rcases next hs hl with ⟨e, ht⟩ | ⟨e, h1, h2⟩
        · rw [e]; omega
        · rw [e] at h2 ⊢; omega
      · exact absurd (stay hl).2 h

/-- At a tile's next visit the rows begin where those of the visit before ended. -/
theorem again {s : ℕ} (hn : s + 1 < nst c) (h : tl c (s + 1) = tl c s) : pre c (ex c (s + 1)) = pre c (ex c s + 1) := by
  rcases next hs hn with ⟨_, ht⟩ | ⟨e, _, _⟩
  · omega
  · exact e

/-- At a tile's last visit every row of it has come. -/
theorem fresh_last {s : ℕ} (h : 286 ≤ s ∨ tl c (s + 1) ≠ tl c s) : 512 * (tl c s + 1) ≤ pre c (ex c s + 1) := by
  rcases Nat.lt_or_ge (s + 1) (nst c) with hl | hl
  · have hN := nst_le hs
    have h : tl c (s + 1) ≠ tl c s := by rcases h with h | h <;> [omega; exact h]
    obtain ⟨h1, h2, h3, h5, h6, h7, h8, h9⟩ := step_spec hs s
    obtain ⟨k1, k2, k3, k5, k6, k7, k8, k9⟩ := step_spec hs (s + 1)
    rcases next hs hl with ⟨e, ht⟩ | ⟨e, q1, q2⟩
    · have a0 : act c s = s := by unfold act; omega
      have a1 : act c (s + 1) = s + 1 := by unfold act; omega
      rw [e] at k2 k3 k8
      omega
    · rw [e] at q2; omega
  · obtain ⟨h1, h2⟩ := last hs hl
    rw [h1, h2]

/-- The tiles go up by at most one. -/
theorem tl_succ (s : ℕ) : tl c (s + 1) = tl c s ∨ tl c (s + 1) = tl c s + 1 := by
  rcases Nat.lt_or_ge (s + 1) (nst c) with hl | hl
  · obtain ⟨h1, h2, h3, h5, h6, h7, h8, h9⟩ := step_spec hs s
    rcases next hs hl with ⟨e, ht⟩ | ⟨e, h1, h2⟩
    · exact Or.inr ht
    · rw [e] at h2; omega
  · exact Or.inl (stay hl).2

/-- Every tile is some step's. -/
theorem tl_cover {T : ℕ} (hT : T < 256) : ∃ s, s < 287 ∧ tl c s = T := by
  have key : ∀ s, T ≤ tl c s → ∃ s', s' ≤ s ∧ tl c s' = T := by
    intro s
    induction s with
    | zero => intro h; exact ⟨0, Nat.le_refl _, by have := (first hs).2; omega⟩
    | succ s ih =>
      intro h
      rcases Nat.lt_or_ge (tl c s) T with hl | hl
      · exact ⟨s + 1, Nat.le_refl _, by rcases tl_succ hs s with e | e <;> omega⟩
      · obtain ⟨s', h1, h2⟩ := ih hl
        exact ⟨s', by omega, h2⟩
  have := (last hs (s := 286) (nst_le hs)).2
  obtain ⟨s, h1, h2⟩ := key 286 (by omega)
  exact ⟨s, by omega, h2⟩

/-- A row's expert is the one among whose rows it lies. -/
theorem own_eq {R e : ℕ} (he : e < 32) (h1 : pre c e ≤ R) (h2 : R < pre c (e + 1)) : own c R = e := by
  have hdown : ∀ a b, a ≤ b → b < 32 → pre c (b + 1) ≤ R → pre c (a + 1) ≤ R :=
    fun a b hab _ h => (pre_mono _ (by omega)).trans h
  have key : ∀ e, e < 32 → (e < own c R ↔ pre c (e + 1) ≤ R) := fun e he => (lt_count_iff hdown he).symm
  rcases Nat.lt_trichotomy (own c R) e with h | h | h
  · have := (key (e - 1) (by omega)).2 (by rw [Nat.sub_add_cancel (by omega)]; exact h1)
    omega
  · exact h
  · have := (key e he).1 h; omega

end

end Cert.Steps
-- ==== Proof.Counts.lean ====
/-
  The precondition, decoded: the counts are natural numbers that sum to the number of rows.
-/
module

public import proofs.«01_k».proof.Pre_counts_of_rows
public import proofs.«01_k».proof.Proof.Steps
public import Idealize.ShloMosaic.Lib.Routing.Words
public import Idealize.ShloMosaic.Lib.ReduceAll

@[expose] public section

noncomputable section

namespace Cert.Pre_counts_of_rows.Hand

open Idealize.ShloMosaic Idealize.ShloMosaic.Routing Idealize.ShloMosaic.ValueIdx Idealize.ShloMosaic.WordCmp
open Cert.Steps Cert.Pre_counts_of_rows

/-- The counts as natural numbers. -/
def cnt (C : IVec S32 32) (n : ℕ) : ℕ := if h : n < 32 then (C (ix1 ⟨n, h⟩)).toNat else 0

theorem cnt_ap (C : IVec S32 32) (i : Fin 32) : C (ix1 i) = BitVec.ofNat 32 (cnt C i.val) := by
  unfold cnt
  rw [dif_pos i.isLt, BitVec.ofNat_toNat, BitVec.setWidth_eq]

theorem pre_le_mul (c : ℕ → ℕ) (n : ℕ) (h : ∀ i, i < n → c i ≤ 131072) : pre c n ≤ n * 131072 := by
  induction n with
  | zero => exact Nat.zero_le _
  | succ n ih =>
    have h1 := ih fun i hi => h i (by omega)
    have h2 := h n (by omega)
    show pre c n + c n ≤ _
    omega

instance : Subsingleton S_.Idx := ⟨fun a b => funext fun i => i.elim0⟩

/-- The counts of an admitted vector sum to the number of rows. -/
theorem sum_of_pre {F : FTy → Type} [FloatOps F] [Facts] (C : IVec S32 32) (a1 : FVec F S131072x2048 .f32) (a2 : FVec F S32x2048x2048 .bf16)
    (a3 : FVec F S32x2048x2048 .bf16) (a4 : FVec F S32x4096 .f32) (a5 : FVec F S32x2048x2048 .f32) (a6 : FVec F S32x2048 .f32)
    (h : fn (F := F) C a1 a2 a3 a4 a5 a6 = fun _ => 1#1) : pre (cnt C) 32 = 131072 := by
  have h0 := congrFun h ValueIdx.ix0
  unfold fn at h0
  dsimp only at h0
  obtain ⟨h1, h2⟩ := IntOp.andi_eq_one.1 h0
  have hb : ∀ i, i < 32 → cnt C i ≤ 131072 := by
    intro i hi
    have h3 := Host.reduce_andi_all _ _ _ _ _ h1 (ix1 ⟨i, hi⟩)
    obtain ⟨h4, h5⟩ := IntOp.andi_eq_one.1 h3
    have h4 : IntOp.cmpi .sge (C (ix1 ⟨i, hi⟩)) (broadcastInDim S32 ![] Facts.bcast_S_S32 (constantI S_ 32 0#32) (ix1 ⟨i, hi⟩)) = 1#1 := h4
    have h5 : IntOp.cmpi .sle (C (ix1 ⟨i, hi⟩)) (broadcastInDim S32 ![] Facts.bcast_S_S32 (constantI S_ 32 131072#32) (ix1 ⟨i, hi⟩)) = 1#1 := h5
    rw [bc0, constantI_at] at h4 h5
    unfold cnt
    rw [dif_pos hi]
    have h6 := IntOp.cmpi_sge.1 h4
    have h7 := IntOp.cmpi_sle.1 h5
    have e0 : (0#32 : BitVec 32).toInt = 0 := by decide
    have e1 : (131072#32 : BitVec 32).toInt = 131072 := by decide
    rw [e0] at h6
    rw [e1] at h7
    have h8 := BitVec.toInt_eq_toNat_cond (C (ix1 ⟨i, hi⟩))
    have h9 := (C (ix1 ⟨i, hi⟩)).isLt
    split at h8 <;> omega
  have h6 : IntOp.cmpi .eq (Host.reduce IntOp.addi C (constantI S_ 32 0#32) Facts.reducesTo_S32_S_d0 Facts.h_S_ ValueIdx.ix0) 131072#32 = 1#1 := h2
  rw [reduce_sum C (cnt C) (cnt_ap C), sum_range] at h6
  have hl := pre_le_mul (cnt C) 32 hb
  exact (cmpi_eq_ofNat_eq_one_iff (w := 32) (a := pre (cnt C) 32) (b := 131072) (by omega) (by decide)).1 h6

end Cert.Pre_counts_of_rows.Hand
-- ==== Proof.Body.lean ====
module

public import proofs.«01_k».proof.Proof.Gen.KernelIdeal.Launch
public import proofs.«01_k».proof.Proof.Gen.KernelIdeal.Skeleton
public import Idealize.ShloMosaic.Lib.Pipeline.Frame
public import Idealize.ShloMosaic.Lib.Pipeline.FrameBody
public import Idealize.ShloMosaic.Lib.Tactic
public import Idealize.ShloMosaic.Lib.WordCmp
public import Idealize.ShloMosaic.Lib.Claim
public import Idealize.ShloMosaic.Lib.VecWindow

@[expose] public section

/-! # The body of the experts' call

One triple for each way through the body: past the last step nothing happens; otherwise the first, a middle
or the last chunk of the hidden width, the last one on a tile met for the first time or again. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The prefetched tables, as the body's memrefs: the tile of each step, its expert, the experts' first rows, the step count. -/
abbrev tM : Memref sig .tc .smem S287 .i32 := Memref.whole main_v44
abbrev eM : Memref sig .tc .smem S287 .i32 := Memref.whole main_v27
abbrev gM : Memref sig .tc .smem S33 .i32 := Memref.whole main_v46
abbrev nM : Memref sig .tc .smem S1 .i32 := Memref.whole main_v47

/-- A whole memref's buffer on core `c` held at `f` with share `q`. -/
abbrev ptq (c : Dev nD) {sp : Space} {S : Shape} {e : EltTy} (M : Memref sig .tc sp S e) (q : PosShare TreeShare)
    (f : Buf (Elt F) (M.view.loc (c : Thread nD τ))) : sProp 𝕄 :=
  M.view.loc (c : Thread nD τ) ↦{q} f

/-- The step count as the body reads it. -/
abbrev nW (N : S1.Idx → Elt F .i32) : Elt F .i32 :=
  View.readAt (Elt F) nM.view (Rect.unit (s := S1) ![0] S1.size inb_S1_S1_0).toLoadRect N (Shape.Idx.first (numel1_S1.symm ▸ Nat.one_pos))

/-- The step's expert as the body reads it. -/
abbrev eW (i : grid0.Coords) (h5 : k0_cond5 i = 1#1) (X : S287.Idx → Elt F .i32) : Elt F .i32 :=
  View.readAt (Elt F) eM.view (Rect.unit (s := S287) (k0_off2 i) S1.size (k0_off2_inb i h5)).toLoadRect X (Shape.Idx.first (numel1_S1.symm ▸ Nat.one_pos))

/-- The step's tile. -/
abbrev tW (i : grid0.Coords) (h5 : k0_cond5 i = 1#1) (T : S287.Idx → Elt F .i32) : Elt F .i32 :=
  View.readAt (Elt F) tM.view (Rect.unit (s := S287) (k0_off2 i) S1.size (k0_off2_inb i h5)).toLoadRect T (Shape.Idx.first (numel1_S1.symm ▸ Nat.one_pos))

/-- The previous step's tile. -/
abbrev tpW (i : grid0.Coords) (h5 : k0_cond5 i = 1#1) (T : S287.Idx → Elt F .i32) : Elt F .i32 :=
  View.readAt (Elt F) tM.view (Rect.unit (s := S287) (k0_off5 i) S1.size (k0_off5_inb i h5)).toLoadRect T (Shape.Idx.first (numel1_S1.symm ▸ Nat.one_pos))

/-- The expert's first row, and the next expert's. -/
abbrev g0W (i : grid0.Coords) (n e : BitVec 32) (hw : k0_chk1 i n e) (h1 : k0_cond1 i n = 1#1) (h5 : k0_cond5 i = 1#1) (G : S33.Idx → Elt F .i32) : Elt F .i32 :=
  View.readAt (Elt F) gM.view (Rect.unit (s := S33) (k0_off3 e) S1.size (k0_off3_inb i n e hw h1 h5)).toLoadRect G (Shape.Idx.first (numel1_S1.symm ▸ Nat.one_pos))
abbrev g1W (i : grid0.Coords) (n e : BitVec 32) (hw : k0_chk1 i n e) (h1 : k0_cond1 i n = 1#1) (h5 : k0_cond5 i = 1#1) (G : S33.Idx → Elt F .i32) : Elt F .i32 :=
  View.readAt (Elt F) gM.view (Rect.unit (s := S33) (k0_off4 e) S1.size (k0_off4_inb i n e hw h1 h5)).toLoadRect G (Shape.Idx.first (numel1_S1.symm ▸ Nat.one_pos))

/-- The two conditions on the visit exclude each other. -/
theorem cond7_of_cond6 (i : grid0.Coords) (a b : BitVec 32) (h : k0_cond6 i a b = 1#1) : ¬ k0_cond7 i a b = 1#1 := by
  unfold k0_cond6 at h; unfold k0_cond7; dsimp only at h ⊢
  generalize Scalar.ori (Scalar.cmpi .eq (BitVec.ofNat 32 (i 0).val) 0#32) (Scalar.cmpi .ne b a) = w at h ⊢
  revert w; decide

theorem cond7_of_not_cond6 (i : grid0.Coords) (a b : BitVec 32) (h : ¬ k0_cond6 i a b = 1#1) : k0_cond7 i a b = 1#1 := by
  unfold k0_cond6 at h; unfold k0_cond7; dsimp only at h ⊢
  generalize Scalar.ori (Scalar.cmpi .eq (BitVec.ofNat 32 (i 0).val) 0#32) (Scalar.cmpi .ne b a) = w at h ⊢
  revert w; decide

/-- A load of a whole memref. -/
abbrev rdw {sp : Space} {s : Shape} {e : EltTy} (m : Memref sig .tc sp s e) {off : Fin s.rank → ℕ} (inb : ∀ a, off a + s.size a ≤ s.size a)
    (f : m.view.ty.Contents (Elt F)) : s.Idx → Elt F e :=
  View.readAt (Elt F) m.view (Rect.unit off s.size inb).toLoadRect f

/-- A load of a whole memref held at `X` reads `X`. -/
theorem ldu {sp : Space} {s : Shape} {e : EltTy} {m : Memref sig .tc sp s e} (h : m.IsWhole) (X : s.Idx → Elt F e)
    {off : Fin s.rank → ℕ} (inb : ∀ a, off a + s.size a ≤ s.size a) : rdw m inb (h.unread X) = X := by
  show View.readAt (Elt F) m.view (Rect.unit off s.size inb).toLoadRect (h.unread X) = X
  rw [View.readAt_full, h.read_unread]

/-- What one store of the whole shape leaves, the list of stores given by an equation. -/
theorem read_of_eq {sp : Space} {s : Shape} {e : EltTy} {v : View sig .tc sp s e} {off : Fin s.rank → ℕ} (inb : ∀ a, off a + s.size a ≤ s.size a)
    (f : v.ty.Contents (Elt F)) {L : List (View.Piece (Elt F) s e)} {w : s.Idx → Elt F e} (hL : L = [⟨Rect.unit off s.size inb, w⟩]) :
    v.read (Elt F) (v.writes (Elt F) f L) = w := by
  rw [hL]; exact View.read_writes_full _ _ _ _ _

theorem readCov_of_eq {sp : Space} {s : Shape} {e : EltTy} {v : View sig .tc sp s e} {off : Fin s.rank → ℕ} (inb : ∀ a, off a + s.size a ≤ s.size a)
    {L : List (View.Piece (Elt F) s e)} {w : s.Idx → Elt F e} (hL : L = [⟨Rect.unit off s.size inb, w⟩]) {x : s.Idx → Elt F e}
    (hx : x = v.readCov L (Rect.unit off s.size inb).toLoadRect) : x = w := by
  rw [hx, hL]; exact View.readCov_full v inb inb w []

variable (c : Dev nD) (i : grid0.Coords)
    (arg6 : Memref sig .tc .vmem S512x2048 .f32) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x2048 .f32) (harg11 : arg11.IsWhole) (arg12 : Memref sig .tc .vmem S1x1x2048 .f32) (harg12 : arg12.IsWhole) (arg13 : Memref sig .tc .vmem S512x2048 .f32) (harg13 : arg13.IsWhole) (arg14 : Memref sig .tc .vmem S512x2048 .f32) (harg14 : arg14.IsWhole) (arg15 : Memref sig .tc .vmem S512x2048 .bf16) (harg15 : arg15.IsWhole)
    (T : S287.Idx → Elt F .i32) (X : S287.Idx → Elt F .i32) (G : S33.Idx → Elt F .i32) (N : S1.Idx → Elt F .i32)
    (q : PosShare TreeShare)
    (x0 : Vec F S512x2048 .f32) (x1 : Vec F S1x2048x512 .bf16) (x2 : Vec F S1x2048x512 .bf16) (x3 : Vec F S1x1x512 .f32) (x4 : Vec F S1x1x512 .f32) (x5 : Vec F S1x512x2048 .f32) (x6 : Vec F S1x1x2048 .f32) (x7 : Vec F S512x2048 .f32) (xa : Vec F S512x2048 .f32) (xb : Vec F S512x2048 .bf16)

include harg6 harg7 harg8 harg9 harg10 harg11 harg12 harg13 harg14 harg15

set_option maxHeartbeats 2000000 in
/-- A step past the last one leaves everything as it was. -/
theorem run_idle
    (h1 : ¬ k0_cond1 i (nW N) = 1#1)
    (E : Set ℕ) (K : PUnit → sProp 𝕄) :
    iprop(ptq c tM q T ∗ ptq c eM q X ∗ ptq c gM q G ∗ ptq c nM q N ∗ owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) arg14 fullShare xa ∗ owns (c : Thread nD τ) arg15 fullShare xb
        ∗ (iprop(ptq c tM q T ∗ ptq c eM q X ∗ ptq c gM q G ∗ ptq c nM q N ∗ owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) arg14 fullShare xa ∗ owns (c : Thread nD τ) arg15 fullShare xb) -∗ K ⟨⟩))
      ⊢ wp frame (wpE (defs₀ (F := F)) Variants.none c none) E (cc0_experts i tM (Memref.isWhole_whole _) eM (Memref.isWhole_whole _) gM (Memref.isWhole_whole _) nM (Memref.isWhole_whole _) arg6 harg6 arg7 harg7 arg8 harg8 arg9 harg9 arg10 harg10 arg11 harg11 arg12 harg12 arg13 harg13 arg14 harg14 arg15 harg15) K := by
  simp only [cc0_experts_eq_skeleton]; unfold cc0_experts_skel
  simp only [k0_part1_eq_skeleton, k0_part2_eq_skeleton]
  unfold owns
  iintro ⟨HT, HX, HG, HN, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fa, %hfa, Ha⟩, ⟨%fb, %hfb, Hb⟩, Hk⟩
  obtain rfl := harg6.eq_unread hf0; obtain rfl := harg7.eq_unread hf1; obtain rfl := harg8.eq_unread hf2; obtain rfl := harg9.eq_unread hf3; obtain rfl := harg10.eq_unread hf4; obtain rfl := harg11.eq_unread hf5; obtain rfl := harg12.eq_unread hf6; obtain rfl := harg13.eq_unread hf7; obtain rfl := harg14.eq_unread hfa; obtain rfl := harg15.eq_unread hfb
  sl_exec
  sl_step
  iapply Hk
  isplitl [HT]; · iexact HT
  isplitl [HX]; · iexact HX
  isplitl [HG]; · iexact HG
  isplitl [HN]; · iexact HN
  isplitl [H0]
  · iexists _; isplitr; swap; · iexact H0
    ipureintro; exact harg6.read_unread _
  isplitl [H1]
  · iexists _; isplitr; swap; · iexact H1
    ipureintro; exact harg7.read_unread _
  isplitl [H2]
  · iexists _; isplitr; swap; · iexact H2
    ipureintro; exact harg8.read_unread _
  isplitl [H3]
  · iexists _; isplitr; swap; · iexact H3
    ipureintro; exact harg9.read_unread _
  isplitl [H4]
  · iexists _; isplitr; swap; · iexact H4
    ipureintro; exact harg10.read_unread _
  isplitl [H5]
  · iexists _; isplitr; swap; · iexact H5
    ipureintro; exact harg11.read_unread _
  isplitl [H6]
  · iexists _; isplitr; swap; · iexact H6
    ipureintro; exact harg12.read_unread _
  isplitl [H7]
  · iexists _; isplitr; swap; · iexact H7
    ipureintro; exact harg13.read_unread _
  isplitl [Ha]
  · iexists _; isplitr; swap; · iexact Ha
    ipureintro; exact harg14.read_unread _
  iexists _; isplitr; swap; · iexact Hb
  ipureintro; exact harg15.read_unread _

set_option maxHeartbeats 2000000 in
/-- The first chunk: the row block rounded into the second scratch, the first product into the accumulator. -/
theorem run_first
    (h1 : k0_cond1 i (nW N) = 1#1) (h2 : (i 1).val = 0)
    (E : Set ℕ) (K : PUnit → sProp 𝕄) :
    iprop(ptq c tM q T ∗ ptq c eM q X ∗ ptq c gM q G ∗ ptq c nM q N ∗ owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) arg14 fullShare xa ∗ owns (c : Thread nD τ) arg15 fullShare xb
        ∗ (iprop(ptq c tM q T ∗ ptq c eM q X ∗ ptq c gM q G ∗ ptq c nM q N ∗ owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) arg14 fullShare (k0_pay1 (k0_pay8 (k0_pay7 x0) x1 x3 x2 x4) x5) ∗ owns (c : Thread nD τ) arg15 fullShare (k0_pay7 x0)) -∗ K ⟨⟩))
      ⊢ wp frame (wpE (defs₀ (F := F)) Variants.none c none) E (cc0_experts i tM (Memref.isWhole_whole _) eM (Memref.isWhole_whole _) gM (Memref.isWhole_whole _) nM (Memref.isWhole_whole _) arg6 harg6 arg7 harg7 arg8 harg8 arg9 harg9 arg10 harg10 arg11 harg11 arg12 harg12 arg13 harg13 arg14 harg14 arg15 harg15) K := by
  simp only [cc0_experts_eq_skeleton]; unfold cc0_experts_skel
  simp only [k0_part1_eq_skeleton, k0_part2_eq_skeleton]
  have e0 : BitVec.ofNat 32 (i 1).val = BitVec.ofNat 32 0 := by rw [h2]
  have h5 : ¬ k0_cond5 i = 1#1 := by
    unfold k0_cond5; rw [e0]; decide
  rw [e0]
  unfold owns
  iintro ⟨HT, HX, HG, HN, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fa, %hfa, Ha⟩, ⟨%fb, %hfb, Hb⟩, Hk⟩
  obtain rfl := harg6.eq_unread hf0; obtain rfl := harg7.eq_unread hf1; obtain rfl := harg8.eq_unread hf2; obtain rfl := harg9.eq_unread hf3; obtain rfl := harg10.eq_unread hf4; obtain rfl := harg11.eq_unread hf5; obtain rfl := harg12.eq_unread hf6; obtain rfl := harg13.eq_unread hf7; obtain rfl := harg14.eq_unread hfa; obtain rfl := harg15.eq_unread hfb
  sl_exec
  sl_step
  iapply Hk
  isplitl [HT]; · iexact HT
  isplitl [HX]; · iexact HX
  isplitl [HG]; · iexact HG
  isplitl [HN]; · iexact HN
  isplitl [H0]
  · iexists _; isplitr; swap; · iexact H0
    ipureintro; exact harg6.read_unread _
  isplitl [H1]
  · iexists _; isplitr; swap; · iexact H1
    ipureintro; exact harg7.read_unread _
  isplitl [H2]
  · iexists _; isplitr; swap; · iexact H2
    ipureintro; exact harg8.read_unread _
  isplitl [H3]
  · iexists _; isplitr; swap; · iexact H3
    ipureintro; exact harg9.read_unread _
  isplitl [H4]
  · iexists _; isplitr; swap; · iexact H4
    ipureintro; exact harg10.read_unread _
  isplitl [H5]
  · iexists _; isplitr; swap; · iexact H5
    ipureintro; exact harg11.read_unread _
  isplitl [H6]
  · iexists _; isplitr; swap; · iexact H6
    ipureintro; exact harg12.read_unread _
  isplitl [H7]
  · iexists _; isplitr; swap; · iexact H7
    ipureintro; exact harg13.read_unread _
  isplitl [Ha]
  · iexists _; isplitr; swap; · iexact Ha
    ipureintro; refine (View.read_writes_full _ _ _ _ _).trans (Eq.trans (b := k0_pay1 (k0_pay8 (run_first.sl.v7 c arg6 harg6 arg15 x0) (rdw arg7 inb_S1x2048x512_S1x2048x512_0_0_0 (harg7.unread x1)) (rdw arg9 inb_S1x1x512_S1x1x512_0_0_0 (harg9.unread x3)) (rdw arg8 inb_S1x2048x512_S1x2048x512_0_0_0 (harg8.unread x2)) (rdw arg10 inb_S1x1x512_S1x1x512_0_0_0 (harg10.unread x4))) (rdw arg11 inb_S1x512x2048_S1x512x2048_0_0_0 (harg11.unread x5))) rfl ?_); rw [readCov_of_eq (v := arg15.view) (x := run_first.sl.v7 c arg6 harg6 arg15 x0) inb_S512x2048_S512x2048_0_0 (L := run_first.sl.Hb_1 c arg6 harg6 x0) (w := k0_pay7 (rdw arg6 inb_S512x2048_S512x2048_0_0 (harg6.unread x0))) rfl rfl, ldu harg6 x0 inb_S512x2048_S512x2048_0_0, ldu harg7 x1 inb_S1x2048x512_S1x2048x512_0_0_0, ldu harg9 x3 inb_S1x1x512_S1x1x512_0_0_0, ldu harg8 x2 inb_S1x2048x512_S1x2048x512_0_0_0, ldu harg10 x4 inb_S1x1x512_S1x1x512_0_0_0, ldu harg11 x5 inb_S1x512x2048_S1x512x2048_0_0_0]
  iexists _; isplitr; swap; · iexact Hb
  ipureintro; refine Eq.trans (read_of_eq (v := arg15.view) (L := run_first.sl.Hb_1 c arg6 harg6 x0) (w := k0_pay7 (rdw arg6 inb_S512x2048_S512x2048_0_0 (harg6.unread x0))) inb_S512x2048_S512x2048_0_0 (harg15.unread xb) rfl) ?_; rw [ldu harg6 x0 inb_S512x2048_S512x2048_0_0]

set_option maxHeartbeats 2000000 in
/-- A middle chunk: its product added to the accumulator. -/
theorem run_mid
    (h1 : k0_cond1 i (nW N) = 1#1) (h2 : (i 1).val = 1 ∨ (i 1).val = 2)
    (E : Set ℕ) (K : PUnit → sProp 𝕄) :
    iprop(ptq c tM q T ∗ ptq c eM q X ∗ ptq c gM q G ∗ ptq c nM q N ∗ owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) arg14 fullShare xa ∗ owns (c : Thread nD τ) arg15 fullShare xb
        ∗ (iprop(ptq c tM q T ∗ ptq c eM q X ∗ ptq c gM q G ∗ ptq c nM q N ∗ owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) arg14 fullShare (k0_pay2 (k0_pay8 xb x1 x3 x2 x4) xa x5) ∗ owns (c : Thread nD τ) arg15 fullShare xb) -∗ K ⟨⟩))
      ⊢ wp frame (wpE (defs₀ (F := F)) Variants.none c none) E (cc0_experts i tM (Memref.isWhole_whole _) eM (Memref.isWhole_whole _) gM (Memref.isWhole_whole _) nM (Memref.isWhole_whole _) arg6 harg6 arg7 harg7 arg8 harg8 arg9 harg9 arg10 harg10 arg11 harg11 arg12 harg12 arg13 harg13 arg14 harg14 arg15 harg15) K := by
  simp only [cc0_experts_eq_skeleton]; unfold cc0_experts_skel
  simp only [k0_part1_eq_skeleton, k0_part2_eq_skeleton]
  have hf : (i 1).val = 1 ∨ (i 1).val = 2 := h2
  have h5 : ¬ k0_cond5 i = 1#1 := by
    unfold k0_cond5; rcases hf with h | h <;> rw [h] <;> decide
  have h3 : ¬ Scalar.cmpi .ne (Scalar.extui (Scalar.cmpi .eq (BitVec.ofNat 32 (i 1).val) 0#32) : BitVec 32) 0#32 = 1#1 := by
    rcases hf with h | h <;> rw [h] <;> decide
  have h4 : Scalar.cmpi .ne (Scalar.extui (Scalar.andi (Scalar.cmpi .sgt (BitVec.ofNat 32 (i 1).val) 0#32) (Scalar.cmpi .slt (BitVec.ofNat 32 (i 1).val) 3#32)) : BitVec 32) 0#32 = 1#1 := by
    rcases hf with h | h <;> rw [h] <;> decide
  unfold owns
  iintro ⟨HT, HX, HG, HN, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fa, %hfa, Ha⟩, ⟨%fb, %hfb, Hb⟩, Hk⟩
  obtain rfl := harg6.eq_unread hf0; obtain rfl := harg7.eq_unread hf1; obtain rfl := harg8.eq_unread hf2; obtain rfl := harg9.eq_unread hf3; obtain rfl := harg10.eq_unread hf4; obtain rfl := harg11.eq_unread hf5; obtain rfl := harg12.eq_unread hf6; obtain rfl := harg13.eq_unread hf7; obtain rfl := harg14.eq_unread hfa; obtain rfl := harg15.eq_unread hfb
  sl_exec
  sl_step
  iapply Hk
  isplitl [HT]; · iexact HT
  isplitl [HX]; · iexact HX
  isplitl [HG]; · iexact HG
  isplitl [HN]; · iexact HN
  isplitl [H0]
  · iexists _; isplitr; swap; · iexact H0
    ipureintro; exact harg6.read_unread _
  isplitl [H1]
  · iexists _; isplitr; swap; · iexact H1
    ipureintro; exact harg7.read_unread _
  isplitl [H2]
  · iexists _; isplitr; swap; · iexact H2
    ipureintro; exact harg8.read_unread _
  isplitl [H3]
  · iexists _; isplitr; swap; · iexact H3
    ipureintro; exact harg9.read_unread _
  isplitl [H4]
  · iexists _; isplitr; swap; · iexact H4
    ipureintro; exact harg10.read_unread _
  isplitl [H5]
  · iexists _; isplitr; swap; · iexact H5
    ipureintro; exact harg11.read_unread _
  isplitl [H6]
  · iexists _; isplitr; swap; · iexact H6
    ipureintro; exact harg12.read_unread _
  isplitl [H7]
  · iexists _; isplitr; swap; · iexact H7
    ipureintro; exact harg13.read_unread _
  isplitl [Ha]
  · iexists _; isplitr; swap; · iexact Ha
    ipureintro; refine (View.read_writes_full _ _ _ _ _).trans (Eq.trans (b := k0_pay2 (k0_pay8 (rdw arg15 inb_S512x2048_S512x2048_0_0 (harg15.unread xb)) (rdw arg7 inb_S1x2048x512_S1x2048x512_0_0_0 (harg7.unread x1)) (rdw arg9 inb_S1x1x512_S1x1x512_0_0_0 (harg9.unread x3)) (rdw arg8 inb_S1x2048x512_S1x2048x512_0_0_0 (harg8.unread x2)) (rdw arg10 inb_S1x1x512_S1x1x512_0_0_0 (harg10.unread x4))) (rdw arg14 inb_S512x2048_S512x2048_0_0 (harg14.unread xa)) (rdw arg11 inb_S1x512x2048_S1x512x2048_0_0_0 (harg11.unread x5))) rfl ?_); rw [ldu harg15 xb inb_S512x2048_S512x2048_0_0, ldu harg7 x1 inb_S1x2048x512_S1x2048x512_0_0_0, ldu harg9 x3 inb_S1x1x512_S1x1x512_0_0_0, ldu harg8 x2 inb_S1x2048x512_S1x2048x512_0_0_0, ldu harg10 x4 inb_S1x1x512_S1x1x512_0_0_0, ldu harg14 xa inb_S512x2048_S512x2048_0_0, ldu harg11 x5 inb_S1x512x2048_S1x512x2048_0_0_0]
  iexists _; isplitr; swap; · iexact Hb
  ipureintro; exact harg15.read_unread _

set_option maxHeartbeats 2000000 in
/-- The last chunk on a tile visited for the first time. -/
theorem run_last_new
    (h1 : k0_cond1 i (nW N) = 1#1) (h2 : (i 1).val = 3) (h5 : k0_cond5 i = 1#1)
    (hw : k0_chk1 i (nW N) (eW i h5 X)) (h6 :  k0_cond6 i (tW i h5 T) (tpW i h5 T) = 1#1)
    (E : Set ℕ) (K : PUnit → sProp 𝕄) :
    iprop(ptq c tM q T ∗ ptq c eM q X ∗ ptq c gM q G ∗ ptq c nM q N ∗ owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) arg14 fullShare xa ∗ owns (c : Thread nD τ) arg15 fullShare xb
        ∗ (iprop(ptq c tM q T ∗ ptq c eM q X ∗ ptq c gM q G ∗ ptq c nM q N ∗ owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare (k0_pay5 (k0_pay8 xb x1 x3 x2 x4) (tW i h5 T) (g0W i _ _ hw h1 h5 G) (g1W i _ _ hw h1 h5 G) xa x5 x6) ∗ owns (c : Thread nD τ) arg14 fullShare xa ∗ owns (c : Thread nD τ) arg15 fullShare xb) -∗ K ⟨⟩))
      ⊢ wp frame (wpE (defs₀ (F := F)) Variants.none c none) E (cc0_experts i tM (Memref.isWhole_whole _) eM (Memref.isWhole_whole _) gM (Memref.isWhole_whole _) nM (Memref.isWhole_whole _) arg6 harg6 arg7 harg7 arg8 harg8 arg9 harg9 arg10 harg10 arg11 harg11 arg12 harg12 arg13 harg13 arg14 harg14 arg15 harg15) K := by
  simp only [cc0_experts_eq_skeleton]; unfold cc0_experts_skel
  simp only [k0_part1_eq_skeleton, k0_part2_eq_skeleton]
  have h3 : ¬ Scalar.cmpi .ne (Scalar.extui (Scalar.cmpi .eq (BitVec.ofNat 32 (i 1).val) 0#32) : BitVec 32) 0#32 = 1#1 := by
    rw [h2]; decide
  have h4 : ¬ Scalar.cmpi .ne (Scalar.extui (Scalar.andi (Scalar.cmpi .sgt (BitVec.ofNat 32 (i 1).val) 0#32) (Scalar.cmpi .slt (BitVec.ofNat 32 (i 1).val) 3#32)) : BitVec 32) 0#32 = 1#1 := by
    rw [h2]; decide
  have h7 := cond7_of_cond6 i _ _ h6
  unfold owns
  iintro ⟨HT, HX, HG, HN, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fa, %hfa, Ha⟩, ⟨%fb, %hfb, Hb⟩, Hk⟩
  obtain rfl := harg6.eq_unread hf0; obtain rfl := harg7.eq_unread hf1; obtain rfl := harg8.eq_unread hf2; obtain rfl := harg9.eq_unread hf3; obtain rfl := harg10.eq_unread hf4; obtain rfl := harg11.eq_unread hf5; obtain rfl := harg12.eq_unread hf6; obtain rfl := harg13.eq_unread hf7; obtain rfl := harg14.eq_unread hfa; obtain rfl := harg15.eq_unread hfb
  sl_exec
  sl_step
  iapply Hk
  isplitl [HT]; · iexact HT
  isplitl [HX]; · iexact HX
  isplitl [HG]; · iexact HG
  isplitl [HN]; · iexact HN
  isplitl [H0]
  · iexists _; isplitr; swap; · iexact H0
    ipureintro; exact harg6.read_unread _
  isplitl [H1]
  · iexists _; isplitr; swap; · iexact H1
    ipureintro; exact harg7.read_unread _
  isplitl [H2]
  · iexists _; isplitr; swap; · iexact H2
    ipureintro; exact harg8.read_unread _
  isplitl [H3]
  · iexists _; isplitr; swap; · iexact H3
    ipureintro; exact harg9.read_unread _
  isplitl [H4]
  · iexists _; isplitr; swap; · iexact H4
    ipureintro; exact harg10.read_unread _
  isplitl [H5]
  · iexists _; isplitr; swap; · iexact H5
    ipureintro; exact harg11.read_unread _
  isplitl [H6]
  · iexists _; isplitr; swap; · iexact H6
    ipureintro; exact harg12.read_unread _
  isplitl [H7]
  · iexists _; isplitr; swap; · iexact H7
    ipureintro; refine (View.read_writes_full _ _ _ _ _).trans (Eq.trans (b := k0_pay5 (k0_pay8 (rdw arg15 inb_S512x2048_S512x2048_0_0 (harg15.unread xb)) (rdw arg7 inb_S1x2048x512_S1x2048x512_0_0_0 (harg7.unread x1)) (rdw arg9 inb_S1x1x512_S1x1x512_0_0_0 (harg9.unread x3)) (rdw arg8 inb_S1x2048x512_S1x2048x512_0_0_0 (harg8.unread x2)) (rdw arg10 inb_S1x1x512_S1x1x512_0_0_0 (harg10.unread x4))) (tW i h5 T) (g0W i _ _ hw h1 h5 G) (g1W i _ _ hw h1 h5 G) (rdw arg14 inb_S512x2048_S512x2048_0_0 (harg14.unread xa)) (rdw arg11 inb_S1x512x2048_S1x512x2048_0_0_0 (harg11.unread x5)) (rdw arg12 inb_S1x1x2048_S1x1x2048_0_0_0 (harg12.unread x6))) rfl ?_); rw [ldu harg15 xb inb_S512x2048_S512x2048_0_0, ldu harg7 x1 inb_S1x2048x512_S1x2048x512_0_0_0, ldu harg9 x3 inb_S1x1x512_S1x1x512_0_0_0, ldu harg8 x2 inb_S1x2048x512_S1x2048x512_0_0_0, ldu harg10 x4 inb_S1x1x512_S1x1x512_0_0_0, ldu harg14 xa inb_S512x2048_S512x2048_0_0, ldu harg11 x5 inb_S1x512x2048_S1x512x2048_0_0_0, ldu harg12 x6 inb_S1x1x2048_S1x1x2048_0_0_0]
  isplitl [Ha]
  · iexists _; isplitr; swap; · iexact Ha
    ipureintro; exact harg14.read_unread _
  iexists _; isplitr; swap; · iexact Hb
  ipureintro; exact harg15.read_unread _

set_option maxHeartbeats 2000000 in
/-- The last chunk on a tile the step before also wrote. -/
theorem run_last_old
    (h1 : k0_cond1 i (nW N) = 1#1) (h2 : (i 1).val = 3) (h5 : k0_cond5 i = 1#1)
    (hw : k0_chk1 i (nW N) (eW i h5 X)) (h6 : ¬ k0_cond6 i (tW i h5 T) (tpW i h5 T) = 1#1)
    (E : Set ℕ) (K : PUnit → sProp 𝕄) :
    iprop(ptq c tM q T ∗ ptq c eM q X ∗ ptq c gM q G ∗ ptq c nM q N ∗ owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) arg14 fullShare xa ∗ owns (c : Thread nD τ) arg15 fullShare xb
        ∗ (iprop(ptq c tM q T ∗ ptq c eM q X ∗ ptq c gM q G ∗ ptq c nM q N ∗ owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare (k0_pay6 (k0_pay8 xb x1 x3 x2 x4) (tW i h5 T) (g0W i _ _ hw h1 h5 G) (g1W i _ _ hw h1 h5 G) xa x5 x6 x7) ∗ owns (c : Thread nD τ) arg14 fullShare xa ∗ owns (c : Thread nD τ) arg15 fullShare xb) -∗ K ⟨⟩))
      ⊢ wp frame (wpE (defs₀ (F := F)) Variants.none c none) E (cc0_experts i tM (Memref.isWhole_whole _) eM (Memref.isWhole_whole _) gM (Memref.isWhole_whole _) nM (Memref.isWhole_whole _) arg6 harg6 arg7 harg7 arg8 harg8 arg9 harg9 arg10 harg10 arg11 harg11 arg12 harg12 arg13 harg13 arg14 harg14 arg15 harg15) K := by
  simp only [cc0_experts_eq_skeleton]; unfold cc0_experts_skel
  simp only [k0_part1_eq_skeleton, k0_part2_eq_skeleton]
  have h3 : ¬ Scalar.cmpi .ne (Scalar.extui (Scalar.cmpi .eq (BitVec.ofNat 32 (i 1).val) 0#32) : BitVec 32) 0#32 = 1#1 := by
    rw [h2]; decide
  have h4 : ¬ Scalar.cmpi .ne (Scalar.extui (Scalar.andi (Scalar.cmpi .sgt (BitVec.ofNat 32 (i 1).val) 0#32) (Scalar.cmpi .slt (BitVec.ofNat 32 (i 1).val) 3#32)) : BitVec 32) 0#32 = 1#1 := by
    rw [h2]; decide
  have h7 := cond7_of_not_cond6 i _ _ h6
  unfold owns
  iintro ⟨HT, HX, HG, HN, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fa, %hfa, Ha⟩, ⟨%fb, %hfb, Hb⟩, Hk⟩
  obtain rfl := harg6.eq_unread hf0; obtain rfl := harg7.eq_unread hf1; obtain rfl := harg8.eq_unread hf2; obtain rfl := harg9.eq_unread hf3; obtain rfl := harg10.eq_unread hf4; obtain rfl := harg11.eq_unread hf5; obtain rfl := harg12.eq_unread hf6; obtain rfl := harg13.eq_unread hf7; obtain rfl := harg14.eq_unread hfa; obtain rfl := harg15.eq_unread hfb
  sl_exec
  sl_step
  iapply Hk
  isplitl [HT]; · iexact HT
  isplitl [HX]; · iexact HX
  isplitl [HG]; · iexact HG
  isplitl [HN]; · iexact HN
  isplitl [H0]
  · iexists _; isplitr; swap; · iexact H0
    ipureintro; exact harg6.read_unread _
  isplitl [H1]
  · iexists _; isplitr; swap; · iexact H1
    ipureintro; exact harg7.read_unread _
  isplitl [H2]
  · iexists _; isplitr; swap; · iexact H2
    ipureintro; exact harg8.read_unread _
  isplitl [H3]
  · iexists _; isplitr; swap; · iexact H3
    ipureintro; exact harg9.read_unread _
  isplitl [H4]
  · iexists _; isplitr; swap; · iexact H4
    ipureintro; exact harg10.read_unread _
  isplitl [H5]
  · iexists _; isplitr; swap; · iexact H5
    ipureintro; exact harg11.read_unread _
  isplitl [H6]
  · iexists _; isplitr; swap; · iexact H6
    ipureintro; exact harg12.read_unread _
  isplitl [H7]
  · iexists _; isplitr; swap; · iexact H7
    ipureintro; refine (View.read_writes_full _ _ _ _ _).trans (Eq.trans (b := k0_pay6 (k0_pay8 (rdw arg15 inb_S512x2048_S512x2048_0_0 (harg15.unread xb)) (rdw arg7 inb_S1x2048x512_S1x2048x512_0_0_0 (harg7.unread x1)) (rdw arg9 inb_S1x1x512_S1x1x512_0_0_0 (harg9.unread x3)) (rdw arg8 inb_S1x2048x512_S1x2048x512_0_0_0 (harg8.unread x2)) (rdw arg10 inb_S1x1x512_S1x1x512_0_0_0 (harg10.unread x4))) (tW i h5 T) (g0W i _ _ hw h1 h5 G) (g1W i _ _ hw h1 h5 G) (rdw arg14 inb_S512x2048_S512x2048_0_0 (harg14.unread xa)) (rdw arg11 inb_S1x512x2048_S1x512x2048_0_0_0 (harg11.unread x5)) (rdw arg12 inb_S1x1x2048_S1x1x2048_0_0_0 (harg12.unread x6)) (rdw arg13 inb_S512x2048_S512x2048_0_0 (harg13.unread x7))) rfl ?_); rw [ldu harg15 xb inb_S512x2048_S512x2048_0_0, ldu harg7 x1 inb_S1x2048x512_S1x2048x512_0_0_0, ldu harg9 x3 inb_S1x1x512_S1x1x512_0_0_0, ldu harg8 x2 inb_S1x2048x512_S1x2048x512_0_0_0, ldu harg10 x4 inb_S1x1x512_S1x1x512_0_0_0, ldu harg14 xa inb_S512x2048_S512x2048_0_0, ldu harg11 x5 inb_S1x512x2048_S1x512x2048_0_0_0, ldu harg12 x6 inb_S1x1x2048_S1x1x2048_0_0_0, ldu harg13 x7 inb_S512x2048_S512x2048_0_0]
  isplitl [Ha]
  · iexists _; isplitr; swap; · iexact Ha
    ipureintro; exact harg14.read_unread _
  iexists _; isplitr; swap; · iexact Hb
  ipureintro; exact harg15.read_unread _

end Cert.KernelIdeal.Hand

end
-- ==== Proof.Data.lean ====
module

public import proofs.«01_k».proof.Proof.Body

@[expose] public section

/-! # The data of the experts' pipeline

What each window's buffer holds at a point, what the accumulator holds between the chunks of the hidden
width, and what the last chunk leaves in the output block. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [∀ e, Nonempty (Elt F e)]

local notation "𝕄" => MT nD τ sig Unit (Elt F) ℕ (UR sig nD τ) ℕ

variable (a : (pcfg0 (F := F)).Adm)
  (V : (c : Dev nD) → (b : Ref sig .tc) → Buf (Elt F) ((c.tc : Thread nD τ).loc b)) (c : Dev nD)

/-- The grid's second coordinate, the chunk of the hidden width, runs fastest. -/
theorem coords_val (t : Fin grid0.N) : (grid0.coords t 0).val = t.val / 4 ∧ (grid0.coords t 1).val = t.val % 4 := by
  have h : t.val < 1148 := lt_of_lt_of_eq t.isLt N_0
  have e0 : (grid0.coords t 0).val = (t.val / 4) % 287 := rfl
  have e1 : (grid0.coords t 1).val = (t.val / 1) % 4 := rfl
  rw [e0, e1]; omega

/-- The block of window `w`'s array at point `t`. -/
def blkV (w : Fin 8) (t : Fin (cfg0 a).N) : ((cfg0 a).win w).block.Idx → Elt F ((cfg0 a).win w).elt :=
  ((cfg0 a).win w).fill ((cfg0 a).grid.coords t) (fun _ => Classical.arbitrary _)
    ((((cfg0 a).win w).blk t).view.read (Elt F) (V c (Pipeline.arrRef (cfg0 a).spec w)))

abbrev B0 (t : Fin (cfg0 a).N) : Vec F S512x2048 .f32 := blkV a V c 0 t
abbrev B1 (t : Fin (cfg0 a).N) : Vec F S1x2048x512 .bf16 := blkV a V c 1 t
abbrev B2 (t : Fin (cfg0 a).N) : Vec F S1x2048x512 .bf16 := blkV a V c 2 t
abbrev B3 (t : Fin (cfg0 a).N) : Vec F S1x1x512 .f32 := blkV a V c 3 t
abbrev B4 (t : Fin (cfg0 a).N) : Vec F S1x1x512 .f32 := blkV a V c 4 t
abbrev B5 (t : Fin (cfg0 a).N) : Vec F S1x512x2048 .f32 := blkV a V c 5 t
abbrev B6 (t : Fin (cfg0 a).N) : Vec F S1x1x2048 .f32 := blkV a V c 6 t

/-- The activation of the point's chunk. -/
def actV (t : Fin (cfg0 a).N) : Vec F S512x512 .bf16 :=
  k0_pay8 (k0_pay7 (B0 a V c t)) (B1 a V c t) (B3 a V c t) (B2 a V c t) (B4 a V c t)

/-- The accumulator after point `n`: the first chunk's product, then each chunk's added. -/
def accAft : (n : ℕ) → n < (cfg0 a).N → Vec F S512x2048 .f32
  | 0, h => k0_pay1 (actV a V c ⟨0, h⟩) (B5 a V c ⟨0, h⟩)
  | n + 1, h =>
    if (n + 1) % 4 = 0 then k0_pay1 (actV a V c ⟨n + 1, h⟩) (B5 a V c ⟨n + 1, h⟩)
    else k0_pay2 (actV a V c ⟨n + 1, h⟩) (accAft n (Nat.lt_of_succ_lt h)) (B5 a V c ⟨n + 1, h⟩)

/-- The tables' contents. -/
abbrev tabT : S287.Idx → Elt F .i32 := a.1 0
abbrev tabX : S287.Idx → Elt F .i32 := a.1 1
abbrev tabG : S33.Idx → Elt F .i32 := a.1 2
abbrev tabN : S1.Idx → Elt F .i32 := a.1 3

/-- What the body leaves in the output block, given what it found there. -/
def outRel (t : Fin (cfg0 a).N) (Y X : Vec F S512x2048 .f32) : Prop :=
  (¬ (k0_cond1 ((cfg0 a).grid.coords t) (nW (tabN a)) = 1#1 ∧ k0_cond5 ((cfg0 a).grid.coords t) = 1#1) → X = Y) ∧
  ∀ (h1 : k0_cond1 ((cfg0 a).grid.coords t) (nW (tabN a)) = 1#1) (h5 : k0_cond5 ((cfg0 a).grid.coords t) = 1#1)
    (hw : k0_chk1 ((cfg0 a).grid.coords t) (nW (tabN a)) (eW _ h5 (tabX a))) (h : t.val - 1 < (cfg0 a).N),
    (k0_cond6 ((cfg0 a).grid.coords t) (tW _ h5 (tabT a)) (tpW _ h5 (tabT a)) = 1#1 →
      X = k0_pay5 (actV a V c t) (tW _ h5 (tabT a)) (g0W _ _ _ hw h1 h5 (tabG a)) (g1W _ _ _ hw h1 h5 (tabG a))
        (accAft a V c (t.val - 1) h) (B5 a V c t) (B6 a V c t)) ∧
    (¬ k0_cond6 ((cfg0 a).grid.coords t) (tW _ h5 (tabT a)) (tpW _ h5 (tabT a)) = 1#1 →
      X = k0_pay6 (actV a V c t) (tW _ h5 (tabT a)) (g0W _ _ _ hw h1 h5 (tabG a)) (g1W _ _ _ hw h1 h5 (tabG a))
        (accAft a V c (t.val - 1) h) (B5 a V c t) (B6 a V c t) Y)

/-- The scratch buffers between the chunks of one active step. -/
def ScrOk (t : ℕ) (xa : Vec F S512x2048 .f32) (xb : Vec F S512x2048 .bf16) : Prop :=
  ∀ h : t < (cfg0 a).N, t % 4 ≠ 0 → k0_cond1 ((cfg0 a).grid.coords ⟨t, h⟩) (nW (tabN a)) = 1#1 →
    xb = k0_pay7 (B0 a V c ⟨t, h⟩) ∧ xa = accAft a V c (t - 1) (by omega)

abbrev accM : Memref sig .tc .vmem S512x2048 .f32 := Memref.whole cc0_scratch0
abbrev xbM : Memref sig .tc .vmem S512x2048 .bf16 := Memref.whole cc0_scratch1

/-- The invariant between two points. -/
def Phi (t : ℕ) : sProp 𝕄 :=
  iprop((∃ xa xb, ⌜ScrOk a V c t xa xb⌝ ∗ owns (c : Thread nD τ) accM fullShare xa ∗ owns (c : Thread nD τ) xbM fullShare xb)
    ∗ (∃ r, prngReg c r) ∗ ptq c tM fullShare.right (tabT a) ∗ ptq c eM fullShare.right (tabX a)
    ∗ ptq c gM fullShare.right (tabG a) ∗ ptq c nM fullShare.right (tabN a))

/-- The pipeline's data on core `c`. -/
def rdat : RDat τ (Elt F) Unit ℕ (UR sig nD τ) ℕ (cfg0 a) c where
  A w := V c (Pipeline.arrRef (cfg0 a).spec w)
  after := fun
    | 0 => fun _ Y X => X = Y | 1 => fun _ Y X => X = Y | 2 => fun _ Y X => X = Y | 3 => fun _ Y X => X = Y
    | 4 => fun _ Y X => X = Y | 5 => fun _ Y X => X = Y | 6 => fun _ Y X => X = Y
    | 7 => fun t Y X => outRel a V c t Y X
    | ⟨_ + 8, h⟩ => absurd h (Nat.not_lt.2 (Nat.le_add_left _ _))
  Φ t := Phi a V c t.val
  q _ := fullShare
  owed _ := 0

theorem A_eq (w : Fin (cfg0 a).W) : (rdat a V c).A w = V c (Pipeline.arrRef (cfg0 a).spec w) := rfl

/-- A block's fetch takes nothing from what the buffer held. -/
theorem fetched_eq (w : Fin 8) (t : Fin (cfg0 a).N) (d) : (rdat a V c).fetched w t d = blkV a V c w t := by
  unfold RDat.fetched blkV
  exact Pipeline.fill_of_clip_none (cfg := cfg0 a) w _ (fun _ => rfl) _ _ _

/-- A window whose index does not move between two points holds one block at both. -/
theorem blkV_congr (w : Fin 8) {t t' : Fin (cfg0 a).N} (h : ((cfg0 a).win w).index t = ((cfg0 a).win w).index t') :
    blkV a V c w t = blkV a V c w t' := by
  rw [← fetched_eq a V c w t (fun _ => Classical.arbitrary _), ← fetched_eq a V c w t' (fun _ => Classical.arbitrary _)]
  exact (rdat a V c).fetched_congr w h rfl _

/-- An input that the body leaves alone holds its block at every point. -/
theorem finds_in (w : Fin 8) (hin : ((cfg0 a).win w).isOut = false) (hra : ∀ t Y X, (rdat a V c).after w t Y X → X = Y) :
    ∀ n (t : Fin (cfg0 a).N), t.val = n → ∀ X, (rdat a V c).Finds w t X → X = blkV a V c w t := by
  intro n
  induction n with
  | zero =>
    intro t ht X hX
    rw [RDat.finds_of_fetch _ ((Pipeline.Window.fetch_in _ hin t).2 (.inl ht))] at hX
    obtain ⟨d, rfl⟩ := hX; exact fetched_eq a V c w t d
  | succ n ih =>
    intro t ht X hX
    by_cases hf : ((cfg0 a).win w).fetch t = true
    · rw [RDat.finds_of_fetch _ hf] at hX
      obtain ⟨d, rfl⟩ := hX; exact fetched_eq a V c w t d
    · have hf' : ((cfg0 a).win w).fetch t = false := by simpa using hf
      obtain ⟨h0, hix⟩ := Pipeline.Window.index_eq_of_fetch _ hin t hf'
      rw [RDat.finds_of_pos _ hf' (by omega)] at hX
      rcases hX with hX | ⟨Y, hY, hYX⟩
      · rw [Pipeline.Window.flush_in _ hin] at hX; exact absurd hX Bool.false_ne_true
      · have hlt : t.val - 1 < (cfg0 a).N := Nat.lt_of_le_of_lt (Nat.sub_le _ _) t.isLt
        rw [hra _ _ _ hYX, ih ⟨t.val - 1, hlt⟩ (by simp only; omega) Y hY]
        exact (blkV_congr a V c w hix).symm

end Cert.KernelIdeal.Hand

end
-- ==== Proof.Oblig.lean ====
module

public import proofs.«01_k».proof.Proof.Data

@[expose] public section

/-! # The body obligation of the experts' pipeline -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [∀ e, Nonempty (Elt F e)]

local notation "𝕄" => MT nD τ sig Unit (Elt F) ℕ (UR sig nD τ) ℕ

variable (a : (pcfg0 (F := F)).Adm)
  (V : (c : Dev nD) → (b : Ref sig .tc) → Buf (Elt F) ((c.tc : Thread nD τ).loc b)) (c : Dev nD)

theorem cond5_iff (i : grid0.Coords) : k0_cond5 i = 1#1 ↔ (i 1).val = 3 := by
  have h : (i 1).val < 4 := (i 1).isLt
  unfold k0_cond5
  generalize (i 1).val = n at h ⊢
  have h4 : n = 0 ∨ n = 1 ∨ n = 2 ∨ n = 3 := by omega
  rcases h4 with rfl | rfl | rfl | rfl <;> decide

/-- The step's activity depends on the step alone. -/
theorem cond1_congr (i i' : grid0.Coords) (n : BitVec 32) (h : (i 0).val = (i' 0).val) : k0_cond1 i n = k0_cond1 i' n := by
  unfold k0_cond1; rw [h]

theorem accAft_first {n : ℕ} (h : n < (cfg0 a).N) (hn : n % 4 = 0) :
    accAft a V c n h = k0_pay1 (actV a V c ⟨n, h⟩) (B5 a V c ⟨n, h⟩) := by
  cases n with
  | zero => rfl
  | succ n => rw [accAft, if_pos hn]

theorem accAft_next {n : ℕ} (h : n < (cfg0 a).N) (hn : n % 4 ≠ 0) :
    accAft a V c n h = k0_pay2 (actV a V c ⟨n, h⟩) (accAft a V c (n - 1) (by omega)) (B5 a V c ⟨n, h⟩) := by
  cases n with
  | zero => exact absurd rfl hn
  | succ n => rw [accAft, if_neg hn]; rfl

/-- The row block stays through a step. -/
theorem B0_step (t t' : Fin (cfg0 a).N) (h : t.val / 4 = t'.val / 4) : B0 a V c t = B0 a V c t' := by
  refine blkV_congr a V c 0 ?_
  refine hreads0 a.1 0 (grid0.coords t) (grid0.coords t') fun b hb => ?_
  match b, hb with
  | ⟨0, _⟩, _ => exact Fin.ext ((coords_val t).1.trans (h.trans (coords_val t').1.symm))
  | ⟨1, _⟩, hb => exact absurd (show false = true from hb) Bool.false_ne_true
  | ⟨n + 2, hn⟩, _ => exact absurd (show n + 2 < 2 from hn) (by omega)

/-- The staging buffers at a point. -/
abbrev st0 (t : Fin (cfg0 a).N) : Memref sig .tc .vmem S512x2048 .f32 := spec0_0.stage ((cfg0 a).slots t 0)
abbrev st1 (t : Fin (cfg0 a).N) : Memref sig .tc .vmem S1x2048x512 .bf16 := spec0_1.stage ((cfg0 a).slots t 1)
abbrev st2 (t : Fin (cfg0 a).N) : Memref sig .tc .vmem S1x2048x512 .bf16 := spec0_2.stage ((cfg0 a).slots t 2)
abbrev st3 (t : Fin (cfg0 a).N) : Memref sig .tc .vmem S1x1x512 .f32 := spec0_3.stage ((cfg0 a).slots t 3)
abbrev st4 (t : Fin (cfg0 a).N) : Memref sig .tc .vmem S1x1x512 .f32 := spec0_4.stage ((cfg0 a).slots t 4)
abbrev st5 (t : Fin (cfg0 a).N) : Memref sig .tc .vmem S1x512x2048 .f32 := spec0_5.stage ((cfg0 a).slots t 5)
abbrev st6 (t : Fin (cfg0 a).N) : Memref sig .tc .vmem S1x1x2048 .f32 := spec0_6.stage ((cfg0 a).slots t 6)
abbrev st7 (t : Fin (cfg0 a).N) : Memref sig .tc .vmem S512x2048 .f32 := spec0_7.stage ((cfg0 a).slots t 7)

/-- The body as the pipeline calls it at a point. -/
abbrev bodyAt (t : Fin (cfg0 a).N) :=
  cc0_experts (F := F) (grid0.coords t) tM (Memref.isWhole_whole _) eM (Memref.isWhole_whole _) gM (Memref.isWhole_whole _) nM (Memref.isWhole_whole _)
    (st0 a t) (hstage0_0 (((cfg0 a).slots t 0).cast nbuf0_0)) (st1 a t) (hstage0_1 (((cfg0 a).slots t 1).cast nbuf0_1))
    (st2 a t) (hstage0_2 (((cfg0 a).slots t 2).cast nbuf0_2)) (st3 a t) (hstage0_3 (((cfg0 a).slots t 3).cast nbuf0_3))
    (st4 a t) (hstage0_4 (((cfg0 a).slots t 4).cast nbuf0_4)) (st5 a t) (hstage0_5 (((cfg0 a).slots t 5).cast nbuf0_5))
    (st6 a t) (hstage0_6 (((cfg0 a).slots t 6).cast nbuf0_6)) (st7 a t) (hstage0_7 (((cfg0 a).slots t 7).cast nbuf0_7))
    accM (Memref.isWhole_whole _) xbM (Memref.isWhole_whole _)

theorem defs₀_row (t : Fin (cfg0 a).N) : defs₀ (F := F) .tc (cfg0 a).body ((cfg0 a).bodyArgs t ((cfg0 a).slots t)) = bodyAt a t := by
  unfold defs₀; rw [Defs.onTc_tc]

set_option maxHeartbeats 1000000 in
/-- At every point the body takes the scratch and the output block from one state to the next. -/
theorem run_point (hchk : ∀ (i : grid0.Coords) (h5 : k0_cond5 i = 1#1), k0_chk1 i (nW (tabN a)) (eW i h5 (tabX a)))
    (t : Fin (cfg0 a).N) (y7 xa : Vec F S512x2048 .f32) (xb : Vec F S512x2048 .bf16) (hs : ScrOk a V c t.val xa xb) :
    ∃ (x7' xa' : Vec F S512x2048 .f32) (xb' : Vec F S512x2048 .bf16), ScrOk a V c (t.val + 1) xa' xb' ∧ outRel a V c t y7 x7' ∧
    ∀ K : PUnit → sProp 𝕄,
      iprop(ptq c tM fullShare.right (tabT a) ∗ ptq c eM fullShare.right (tabX a) ∗ ptq c gM fullShare.right (tabG a) ∗ ptq c nM fullShare.right (tabN a)
        ∗ owns (c : Thread nD τ) (st0 a t) fullShare (B0 a V c t) ∗ owns (c : Thread nD τ) (st1 a t) fullShare (B1 a V c t)
        ∗ owns (c : Thread nD τ) (st2 a t) fullShare (B2 a V c t) ∗ owns (c : Thread nD τ) (st3 a t) fullShare (B3 a V c t)
        ∗ owns (c : Thread nD τ) (st4 a t) fullShare (B4 a V c t) ∗ owns (c : Thread nD τ) (st5 a t) fullShare (B5 a V c t)
        ∗ owns (c : Thread nD τ) (st6 a t) fullShare (B6 a V c t) ∗ owns (c : Thread nD τ) (st7 a t) fullShare y7
        ∗ owns (c : Thread nD τ) accM fullShare xa ∗ owns (c : Thread nD τ) xbM fullShare xb
        ∗ (iprop(ptq c tM fullShare.right (tabT a) ∗ ptq c eM fullShare.right (tabX a) ∗ ptq c gM fullShare.right (tabG a) ∗ ptq c nM fullShare.right (tabN a)
          ∗ owns (c : Thread nD τ) (st0 a t) fullShare (B0 a V c t) ∗ owns (c : Thread nD τ) (st1 a t) fullShare (B1 a V c t)
          ∗ owns (c : Thread nD τ) (st2 a t) fullShare (B2 a V c t) ∗ owns (c : Thread nD τ) (st3 a t) fullShare (B3 a V c t)
          ∗ owns (c : Thread nD τ) (st4 a t) fullShare (B4 a V c t) ∗ owns (c : Thread nD τ) (st5 a t) fullShare (B5 a V c t)
          ∗ owns (c : Thread nD τ) (st6 a t) fullShare (B6 a V c t) ∗ owns (c : Thread nD τ) (st7 a t) fullShare x7'
          ∗ owns (c : Thread nD τ) accM fullShare xa' ∗ owns (c : Thread nD τ) xbM fullShare xb') -∗ K ⟨⟩))
      ⊢ wp frame (wpE (defs₀ (F := F)) Variants.none c none) Set.univ (bodyAt a t) K := by
  obtain ⟨e0, e1⟩ := coords_val t
  have hlt : ∀ (h : t.val + 1 < (cfg0 a).N), (t.val + 1) % 4 ≠ 0 → (⟨t.val + 1, h⟩ : Fin (cfg0 a).N).val / 4 = t.val / 4 := by
    intro h h'; simp only; omega
  have hc : ∀ (h : t.val + 1 < (cfg0 a).N), (t.val + 1) % 4 ≠ 0 →
      k0_cond1 ((cfg0 a).grid.coords ⟨t.val + 1, h⟩) (nW (tabN a)) = k0_cond1 (grid0.coords t) (nW (tabN a)) := by
    intro h h'
    refine cond1_congr _ _ _ ((coords_val ⟨t.val + 1, h⟩).1.trans ?_)
    rw [e0]; exact hlt h h'
  by_cases h1 : k0_cond1 (grid0.coords t) (nW (tabN a)) = 1#1
  · have hm : t.val % 4 < 4 := Nat.mod_lt _ (by omega)
    by_cases m0 : t.val % 4 = 0
    · refine ⟨y7, _, _, ?_, ⟨fun _ => rfl, fun _ h5 => ?_⟩, fun K => run_first c (grid0.coords t) (st0 a t) _ (st1 a t) _ (st2 a t) _ (st3 a t) _ (st4 a t) _ (st5 a t) _ (st6 a t) _ (st7 a t) _ accM _ xbM _ (tabT a) (tabX a) (tabG a) (tabN a) fullShare.right _ _ _ _ _ _ _ y7 xa xb h1 (e1.trans m0) Set.univ K⟩
      · intro h hn _
        refine ⟨?_, ?_⟩
        · rw [B0_step a V c ⟨t.val + 1, h⟩ t (hlt h hn)]
        · exact (accAft_first a V c t.isLt m0).symm
      · have := (cond5_iff _).1 h5
        exact absurd (e1.symm.trans this) (by omega)
    · obtain ⟨rfl, rfl⟩ := hs t.isLt m0 h1
      by_cases m3 : t.val % 4 = 3
      · have h5 : k0_cond5 (grid0.coords t) = 1#1 := (cond5_iff _).2 (e1.trans m3)
        have hw := hchk (grid0.coords t) h5
        have hscr : ∀ xa xb, ScrOk a V c (t.val + 1) xa xb := fun _ _ h hn => absurd hn (by omega)
        by_cases h6 : k0_cond6 (grid0.coords t) (tW _ h5 (tabT a)) (tpW _ h5 (tabT a)) = 1#1
        · refine ⟨_, _, _, hscr _ _, ⟨fun hn => absurd ⟨h1, h5⟩ hn, fun _ _ _ _ => ⟨fun _ => ?_, fun hn => absurd h6 hn⟩⟩, fun K => run_last_new c (grid0.coords t) (st0 a t) _ (st1 a t) _ (st2 a t) _ (st3 a t) _ (st4 a t) _ (st5 a t) _ (st6 a t) _ (st7 a t) _ accM _ xbM _ (tabT a) (tabX a) (tabG a) (tabN a) fullShare.right _ _ _ _ _ _ _ y7 _ _ h1 (e1.trans m3) h5 hw h6 Set.univ K⟩
          rfl
        · refine ⟨_, _, _, hscr _ _, ⟨fun hn => absurd ⟨h1, h5⟩ hn, fun _ _ _ _ => ⟨fun hn => absurd hn h6, fun _ => ?_⟩⟩, fun K => run_last_old c (grid0.coords t) (st0 a t) _ (st1 a t) _ (st2 a t) _ (st3 a t) _ (st4 a t) _ (st5 a t) _ (st6 a t) _ (st7 a t) _ accM _ xbM _ (tabT a) (tabX a) (tabG a) (tabN a) fullShare.right _ _ _ _ _ _ _ y7 _ _ h1 (e1.trans m3) h5 hw h6 Set.univ K⟩
          rfl
      · refine ⟨y7, _, _, ?_, ⟨fun _ => rfl, fun _ h5 => ?_⟩, fun K => run_mid c (grid0.coords t) (st0 a t) _ (st1 a t) _ (st2 a t) _ (st3 a t) _ (st4 a t) _ (st5 a t) _ (st6 a t) _ (st7 a t) _ accM _ xbM _ (tabT a) (tabX a) (tabG a) (tabN a) fullShare.right _ _ _ _ _ _ _ y7 _ _ h1 (by rw [e1]; omega) Set.univ K⟩
        · intro h hn _
          refine ⟨?_, ?_⟩
          · rw [B0_step a V c ⟨t.val + 1, h⟩ t (hlt h hn)]
          · exact (accAft_next a V c t.isLt m0).symm
        · have := (cond5_iff _).1 h5
          exact absurd (e1.symm.trans this) (by omega)
  · refine ⟨y7, xa, xb, ?_, ⟨fun _ => rfl, fun h => absurd h h1⟩, fun K => run_idle c (grid0.coords t) (st0 a t) _ (st1 a t) _ (st2 a t) _ (st3 a t) _ (st4 a t) _ (st5 a t) _ (st6 a t) _ (st7 a t) _ accM _ xbM _ (tabT a) (tabX a) (tabG a) (tabN a) fullShare.right _ _ _ _ _ _ _ y7 xa xb h1 Set.univ K⟩
    intro h hn hc1
    rw [hc h hn] at hc1; exact absurd hc1 h1

set_option maxHeartbeats 1000000 in
/-- The body at a point: the invariant opened, the run, the invariant closed. -/
theorem sound_body (hchk : ∀ (i : grid0.Coords) (h5 : k0_cond5 i = 1#1), k0_chk1 i (nW (tabN a)) (eW i h5 (tabX a)))
    (t : Fin (cfg0 a).N) (y7 : Vec F S512x2048 .f32) (O : sProp 𝕄) :
    iprop(Phi a V c t.val ∗ O
        ∗ owns (c : Thread nD τ) (st0 a t) fullShare (B0 a V c t)
        ∗ owns (c : Thread nD τ) (st1 a t) fullShare (B1 a V c t)
        ∗ owns (c : Thread nD τ) (st2 a t) fullShare (B2 a V c t)
        ∗ owns (c : Thread nD τ) (st3 a t) fullShare (B3 a V c t)
        ∗ owns (c : Thread nD τ) (st4 a t) fullShare (B4 a V c t)
        ∗ owns (c : Thread nD τ) (st5 a t) fullShare (B5 a V c t)
        ∗ owns (c : Thread nD τ) (st6 a t) fullShare (B6 a V c t)
        ∗ owns (c : Thread nD τ) (st7 a t) fullShare y7)
      ⊢ wp frame (wpE (defs₀ (F := F)) Variants.none c none) Set.univ (bodyAt a t) (fun _ => iprop(Phi a V c (t.val + 1) ∗ O
        ∗ (∃ X, ⌜X = B0 a V c t⌝ ∗ owns (c : Thread nD τ) (st0 a t) fullShare X)
        ∗ (∃ X, ⌜X = B1 a V c t⌝ ∗ owns (c : Thread nD τ) (st1 a t) fullShare X)
        ∗ (∃ X, ⌜X = B2 a V c t⌝ ∗ owns (c : Thread nD τ) (st2 a t) fullShare X)
        ∗ (∃ X, ⌜X = B3 a V c t⌝ ∗ owns (c : Thread nD τ) (st3 a t) fullShare X)
        ∗ (∃ X, ⌜X = B4 a V c t⌝ ∗ owns (c : Thread nD τ) (st4 a t) fullShare X)
        ∗ (∃ X, ⌜X = B5 a V c t⌝ ∗ owns (c : Thread nD τ) (st5 a t) fullShare X)
        ∗ (∃ X, ⌜X = B6 a V c t⌝ ∗ owns (c : Thread nD τ) (st6 a t) fullShare X)
        ∗ (∃ X, ⌜outRel a V c t y7 X⌝ ∗ owns (c : Thread nD τ) (st7 a t) fullShare X))) := by
  rw [show Phi a V c t.val = iprop((∃ xa xb, ⌜ScrOk a V c t.val xa xb⌝ ∗ owns (c : Thread nD τ) accM fullShare xa ∗ owns (c : Thread nD τ) xbM fullShare xb)
    ∗ (∃ r, prngReg c r) ∗ ptq c tM fullShare.right (tabT a) ∗ ptq c eM fullShare.right (tabX a)
    ∗ ptq c gM fullShare.right (tabG a) ∗ ptq c nM fullShare.right (tabN a)) from rfl]
  iintro ⟨⟨⟨%xa, %xb, %hs, Ha, Hb⟩, Hr, HT, HX, HG, HN⟩, HO, H0, H1, H2, H3, H4, H5, H6, H7⟩
  obtain ⟨x7', xa', xb', hs', ho, hrun⟩ := run_point a V c hchk t y7 xa xb hs
  iapply (hrun _)
  isplitl [HT]; · iexact HT
  isplitl [HX]; · iexact HX
  isplitl [HG]; · iexact HG
  isplitl [HN]; · iexact HN
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Ha]; · iexact Ha
  isplitl [Hb]; · iexact Hb
  iintro ⟨HT, HX, HG, HN, H0, H1, H2, H3, H4, H5, H6, H7, Ha, Hb⟩
  unfold Phi
  isplitl [Ha Hb Hr HT HX HG HN]
  · isplitl [Ha Hb]
    · iexists xa', xb'
      isplitr; · ipureintro; exact hs'
      isplitl [Ha]; · iexact Ha
      iexact Hb
    isplitl [Hr]; · iexact Hr
    isplitl [HT]; · iexact HT
    isplitl [HX]; · iexact HX
    isplitl [HG]; · iexact HG
    iexact HN
  isplitl [HO]; · iexact HO
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  iexists x7'
  isplitr; · ipureintro; exact ho
  iexact H7

set_option maxHeartbeats 1000000 in
/-- The body obligation: at every point, from what the windows' buffers may hold. -/
theorem body_obligation (hchk : ∀ (i : grid0.Coords) (h5 : k0_cond5 i = 1#1), k0_chk1 i (nW (tabN a)) (eW i h5 (tabX a))) :
    (rdat a V c).BodyObligation (defs₀ (F := F)) Variants.none () Set.univ := fun t Y hY => by
  rw [bigSep_W0, bigSep_W0, defs₀_row]
  have y0 : Y 0 = blkV a V c 0 t := finds_in a V c 0 rfl (fun _ _ _ h => h) _ t rfl _ (hY 0)
  have y1 : Y 1 = blkV a V c 1 t := finds_in a V c 1 rfl (fun _ _ _ h => h) _ t rfl _ (hY 1)
  have y2 : Y 2 = blkV a V c 2 t := finds_in a V c 2 rfl (fun _ _ _ h => h) _ t rfl _ (hY 2)
  have y3 : Y 3 = blkV a V c 3 t := finds_in a V c 3 rfl (fun _ _ _ h => h) _ t rfl _ (hY 3)
  have y4 : Y 4 = blkV a V c 4 t := finds_in a V c 4 rfl (fun _ _ _ h => h) _ t rfl _ (hY 4)
  have y5 : Y 5 = blkV a V c 5 t := finds_in a V c 5 rfl (fun _ _ _ h => h) _ t rfl _ (hY 5)
  have y6 : Y 6 = blkV a V c 6 t := finds_in a V c 6 rfl (fun _ _ _ h => h) _ t rfl _ (hY 6)
  rw [y0, y1, y2, y3, y4, y5, y6]
  exact sound_body a V c hchk t (Y 7) ((rdat a V c).owesAt () t.castSucc)

end Cert.KernelIdeal.Hand

end
-- ==== Proof.Run.lean ====
module

public import proofs.«01_k».proof.Proof.Oblig

@[expose] public section

/-! # The run of the experts' program

From any memory whose tables stay in range the program ends, the output's array in the data's relation. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The host operations before the call. -/
abbrev opss : List (List (HloOp τ sig (Elt F))) :=
  [hostOps0, hostOps0_1, hostOps0_2, hostOps0_3, hostOps0_4, hostOps0_5, hostOps0_6, hostOps0_7, hostOps0_8]

/-- What every buffer holds when the call begins. -/
def Vr (c : Dev nD) (b : Ref sig .tc) : Buf (Elt F) ((c : Thread nD τ).loc b) :=
  StableHlo.after (opss (F := F)).flatten (fun b => m (c, b)) b

/-- The tables the call reads. -/
def pfOf : pre0.Contents (Elt F) := fun k => Vr m 0 (pre0.ref k)

instance : Subsingleton (Dev nD) := inferInstanceAs (Subsingleton (Fin 1))

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub⟩

theorem opss_fresh : (opss (F := F)).Forall fun ops => ops.Forall fun op => op.fresh = ∅ := by
  simp only [List.Forall]
  repeat' constructor

theorem hmainR :
    Pipeline.HMainP (Ix := Unit) (Name := ℕ) (U := UR sig nD τ) (Lvl := ℕ) (pcfgs (F := F)) 0 defs₀ Variants.none m (main (F := F)) (Vr m) :=
  Pipeline.hmainP_prefixes _ 0 defs₀ Variants.none m main opss opss_sub opss_fresh main_chain

/-- The tables keep every block inside its array, and the words the body loads stay in the table of first rows. -/
def TabsOk : Prop := ∃ h : ok0 (pfOf m), ∀ (i : grid0.Coords) (h5 : k0_cond5 i = 1#1),
  k0_chk1 i (nW (tabN (F := F) ⟨pfOf m, h⟩)) (eW i h5 (tabX (F := F) ⟨pfOf m, h⟩))

variable {m}

abbrev admOf (h : TabsOk m) : (pcfg0 (F := F)).Adm := ⟨pfOf m, h.choose⟩

/-- The tables held, one by one. -/
theorem prefHeld_eq (c : Dev nD) (v : pre0.Contents (Elt F)) :
    (Pipeline.prefHeld (Ix := Unit) (Name := ℕ) (U := UR sig nD τ) (Lvl := ℕ) pre0 c (fun _ => fullShare.right) v : sProp 𝕄)
      = iprop(ptq c tM fullShare.right (v 0) ∗ ptq c eM fullShare.right (v 1) ∗ ptq c gM fullShare.right (v 2) ∗ ptq c nM fullShare.right (v 3)) :=
  bigSep_univ_eq_bigSepL [(0 : Fin 4), 1, 2, 3] (by decide) (by decide) _

theorem scr_in (h : TabsOk m) (c : Dev nD) :
    iprop(Pipeline.ΦA (cfg0 (admOf h)).spec c ∗ Pipeline.ΦT pre0 (pfOf m) c) ⊢ (Phi (admOf h) (Vr m) c 0 : sProp 𝕄) := by
  unfold Pipeline.ΦA Pipeline.ΦT Phi
  rw [scopedRest0_eq, prefHeld_eq]
  iintro ⟨⟨⟨⟨%fa, Ha⟩, ⟨%fb, Hb⟩⟩, Hr⟩, HT, HX, HG, HN⟩
  isplitl [Ha Hb]
  · iexists fa, fb
    isplitr
    · ipureintro; intro _ h0; exact absurd rfl h0
    simp only [owns_whole]
    isplitl [Ha]; · iexact Ha
    iexact Hb
  isplitl [Hr]; · iexact Hr
  isplitl [HT]; · iexact HT
  isplitl [HX]; · iexact HX
  isplitl [HG]; · iexact HG
  iexact HN

theorem scr_out (h : TabsOk m) (c : Dev nD) (n : ℕ) :
    (Phi (admOf h) (Vr m) c n : sProp 𝕄) ⊢ Pipeline.ΦA (cfg0 (admOf h)).spec c := by
  unfold Pipeline.ΦA Phi
  rw [scopedRest0_eq]
  simp only [owns_whole]
  iintro ⟨⟨%xa, %xb, -, Ha, Hb⟩, Hr, HT, HX, HG, HN⟩
  isplitl [Ha Hb]
  · isplitl [Ha]
    · iexists _; iexact Ha
    iexists _; iexact Hb
  iexact Hr

set_option maxHeartbeats 2000000 in
set_option backward.isDefEq.respectTransparency.types false in
/-- The run. -/
theorem run_main (h : TabsOk m) :
    θ_run defs (onTc (τ := τ) (main (F := F))) (s₀ m ρ)
      (fun r => RDat.FramePost (cfg0 (admOf h)) (fun c => rdat (admOf h) (Vr m) c) (Vr m) r ∧ r.2.sem = fun _ => 0) :=
  RDat.θ_run_frameP_track (Q' := _) (pcfgs (F := F)) (fun _ => admOf h) (0 : Fin 1) launch0 defs₀ Variants.none
    (fun c => rdat (admOf h) (Vr m) c) m ρ main
    (hbody := fun c => body_obligation (admOf h) (Vr m) c h.choose_spec)
    (hshare := fun c w => by unfold RDat.share; split <;> rfl)
    (howed := fun _ _ => rfl) (V := Vr m) (hmain := hmainR m) (hA := fun _ _ => rfl)
    (hpf := fun c k => by obtain rfl := Subsingleton.elim c 0; rfl)
    (hin := fun c => scr_in h c) (hout := fun c => scr_out h c _)

end Cert.KernelIdeal.Hand

end
-- ==== Proof.Tables.lean ====
/-
  The four tables that the host computes before the call, as functions of the counts, and their entries as the natural
  numbers of the walk.
-/
module

public import proofs.«01_k».proof.Proof.Gen.KernelIdeal
public import proofs.«01_k».proof.Proof.Steps
public import Idealize.ShloMosaic.Lib.Routing.Words
public import Idealize.ShloMosaic.Lib.Routing.OpsSet
public import Idealize.ShloMosaic.Lib.Routing.OpsSearch
public import Idealize.ShloMosaic.Lib.Pipeline.Value

@[expose] public section

set_option maxRecDepth 16384

noncomputable section

namespace Cert.KernelIdeal.Hand

open Idealize.ShloMosaic Idealize.ShloMosaic.ValueIdx Idealize.ShloMosaic.Routing Idealize.ShloMosaic.WordCmp
open Cert.Steps
open Cert.KernelIdeal.Gen

/-- The running sum of a vector of 32 words. -/
def tCum (x : IVec S32 32) : IVec S32 32 :=
  Host.reduceWindow IntOp.addi ![32] ![1] ![31] ![0] x (broadcastInDim S_ ![] bcast_S_S_ (constantI S_ 32 0#32)) reduceWindows_S32_S32_w32s1p31_0 h_S_

/-- The constant vector of 32 words. -/
abbrev k32 (v : BitVec 32) : IVec S32 32 := broadcastInDim S32 ![] bcast_S_S32 (constantI S_ 32 v)
/-- The constant vector of 287 words. -/
abbrev k287 (v : BitVec 32) : IVec S287 32 := broadcastInDim S287 ![] bcast_S_S287 (constantI S_ 32 v)

/-- Where each expert's rows begin. -/
def tStart (C : IVec S32 32) : IVec S32 32 := subi (tCum C) C
/-- The tile of each expert's first row. -/
def tFirst (C : IVec S32 32) : IVec S32 32 := pyDiv bcast_S_S32 (tStart C) (constantI S_ 32 512#32)
/-- The tile of each expert's last row. -/
def tLast (C : IVec S32 32) : IVec S32 32 := pyDiv bcast_S_S32 (subi (tCum C) (k32 1#32)) (constantI S_ 32 512#32)
/-- How many tiles each expert meets. -/
def tTiles (C : IVec S32 32) : IVec S32 32 := select (cmpi .sgt C (k32 0#32)) (addi (subi (tLast C) (tFirst C)) (k32 1#32)) (k32 0#32)
/-- The number of working steps, a scalar. -/
def tNum (C : IVec S32 32) : IVec S_ 32 := shapeCast S_ (extractStridedSlice S1 ![31] (tCum (tTiles C)) slices_S32_S1_31) shapeCasts_S1_S_
/-- The pair of each step. -/
def tAct (C : IVec S32 32) : IVec S287 32 :=
  minsi (iotaInDim S287 32 0) (broadcastInDim S287 ![] bcast_S_S287 (subi (tNum C) (constantI S_ 32 1#32)))
/-- Which experts' pairs are over at each step. -/
def tOver (C : IVec S32 32) : IVec S287x32 1 :=
  cmpi .sle (broadcastInDim S287x32 ![0, 1] bcast_S1x32_S287x32_0_1 (broadcastInDim S1x32 ![1] bcast_S32_S1x32_1 (tCum (tTiles C))))
    (broadcastInDim S287x32 ![0, 1] bcast_S287x1_S287x32_0_1 (broadcastInDim S287x1 ![0] bcast_S287_S287x1_0 (tAct C)))
/-- The expert of each step. -/
def tEx (C : IVec S32 32) : IVec S287 32 :=
  minsi (Host.reduce IntOp.addi (extui 32 (tOver C) natLt_1_32) (constantI S_ 32 0#32) reducesTo_S287x32_S287_d1 h_S_) (k287 31#32)
/-- The experts as a column of positions. -/
def tCol (C : IVec S32 32) : IVec S287x1 32 :=
  broadcastInDim S287x1 ![0] bcast_S287_S287x1_0 (select (cmpi .slt (tEx C) (k287 0#32)) (addi (tEx C) (k287 32#32)) (tEx C))
/-- The tile of each step. -/
def tTile (C : IVec S32 32) : IVec S287 32 :=
  subi (addi (Host.gather gather_S32_S287x1_S287_n_0_n_n_0_1_1 (tFirst C) (tCol C)) (tAct C))
    (Host.gather gather_S32_S287x1_S287_n_0_n_n_0_1_1 (subi (tCum (tTiles C)) (tTiles C)) (tCol C))
/-- The starts and the end of the last. -/
def tSeg (C : IVec S32 32) : IVec S33 32 :=
  concatenate S33 0 [⟨S32, tStart C⟩, ⟨S1, extractStridedSlice S1 ![31] (tCum C) slices_S32_S1_31⟩] concatenates_S32_S1_S33_d0
/-- The number of working steps, one word. -/
def tNst (C : IVec S32 32) : IVec S1 32 := shapeCast S1 (tNum C) shapeCasts_S_S1

section
variable {C : IVec S32 32} {c : ℕ → ℕ} (hC : ∀ i : Fin 32, C (ix1 i) = BitVec.ofNat 32 (c i.val)) (hs : pre c 32 = 131072)

omit hC hs in
/-- The running sum at an index. -/
theorem tCum_ap {x : IVec S32 32} {f : ℕ → ℕ} (hx : ∀ i : Fin 32, x (ix1 i) = BitVec.ofNat 32 (f i.val)) (i : Fin 32) :
    tCum x (ix1 i) = BitVec.ofNat 32 (pre f (i.val + 1)) := by
  rw [← sum_range]
  exact cumsum1 rfl x f hx _ (bc0 _ _ _) _ _ i

omit hC hs in
theorem k32_ap (v : BitVec 32) (i : S32.Idx) : k32 v i = v := bc0 _ _ _
omit hC hs in
theorem k287_ap (v : BitVec 32) (i : S287.Idx) : k287 v i = v := bc0 _ _ _

include hC

theorem tStart_ap (i : Fin 32) : tStart C (ix1 i) = BitVec.ofNat 32 (pre c i.val) := by
  show tCum C (ix1 i) - C (ix1 i) = _
  rw [tCum_ap hC, hC, ofNat32_sub (show c i.val ≤ pre c (i.val + 1) from Nat.le_add_left _ _)]
  exact congrArg _ (Nat.add_sub_cancel _ _)

include hs

theorem pre_le (i : Fin 32) : pre c (i.val + 1) ≤ 131072 := hs ▸ pre_mono c (by omega)

theorem tFirst_ap (i : Fin 32) : tFirst C (ix1 i) = BitVec.ofNat 32 (pre c i.val / 512) := by
  have h1 := pre_le hC hs i
  have h2 : pre c (i.val + 1) = pre c i.val + c i.val := rfl
  exact pyDiv_ap _ _ _ _ (tStart_ap hC i) rfl (by omega) (by decide) (by decide)

theorem tLast_ap (i : Fin 32) (hc : 0 < c i.val) : tLast C (ix1 i) = BitVec.ofNat 32 ((pre c (i.val + 1) - 1) / 512) := by
  have h1 := pre_le hC hs i
  have h2 : pre c (i.val + 1) = pre c i.val + c i.val := rfl
  refine pyDiv_ap _ _ _ _ ?_ rfl (by omega) (by decide) (by decide)
  show tCum C (ix1 i) - k32 1#32 (ix1 i) = _
  rw [tCum_ap hC, k32_ap]
  exact ofNat32_sub (by omega)

theorem tTiles_ap (i : Fin 32) : tTiles C (ix1 i) = BitVec.ofNat 32 (tiles c i.val) := by
  have h1 := pre_le hC hs i
  have h2 : pre c (i.val + 1) = pre c i.val + c i.val := rfl
  show Scalar.select (IntOp.cmpi .sgt (C (ix1 i)) (k32 0#32 (ix1 i))) (tLast C (ix1 i) - tFirst C (ix1 i) + k32 1#32 (ix1 i)) (k32 0#32 (ix1 i)) = _
  rw [k32_ap, k32_ap, hC, show (0#32 : BitVec 32) = BitVec.ofNat 32 0 from rfl, cmpi_sgt_ofNat (w := 32) (by omega) (by decide), select_decide]
  unfold tiles
  by_cases hc : 0 < c i.val
  · rw [if_pos hc, if_pos hc, tLast_ap hC hs i hc, tFirst_ap hC hs, ofNat32_sub (by omega), show (1#32 : BitVec 32) = BitVec.ofNat 32 1 from rfl, BitVec.ofNat_add_ofNat]
  · rw [if_neg hc, if_neg hc]

theorem tNum_ap (j : S_.Idx) : tNum C j = BitVec.ofNat 32 (nst c) := by
  have h : tNum C j = tCum (tTiles C) (ix1 (31 : Fin 32)) := by
    unfold tNum
    rw [show ∀ v : IVec S1 32, shapeCast S_ v shapeCasts_S1_S_ j = v (ix1 (0 : Fin 1)) from fun v => by
      unfold shapeCast
      exact congrArg v (funext fun a => by
        match a with
        | ⟨0, _⟩ => exact Subsingleton.elim (α := Fin 1) _ _)]
    exact slice1 31 _ _ (0 : Fin 1) (by decide)
  rw [h, tCum_ap (tTiles_ap hC hs)]
  rfl

theorem tNst_ap (j : S1.Idx) : tNst C j = BitVec.ofNat 32 (nst c) := by
  unfold tNst shapeCast
  exact tNum_ap hC hs _

theorem tAct_ap (s : Fin 287) : tAct C (ix1 s) = BitVec.ofNat 32 (act c s.val) := by
  have h1 := nst_pos hs
  have h2 := nst_le hs
  show IntOp.minsi (BitVec.ofNat 32 s.val) (broadcastInDim S287 ![] bcast_S_S287 (subi (tNum C) (constantI S_ 32 1#32)) (ix1 s)) = _
  rw [show broadcastInDim S287 ![] bcast_S_S287 (subi (tNum C) (constantI S_ 32 1#32)) (ix1 s) = tNum C ValueIdx.ix0 - BitVec.ofNat 32 1 from bc0 _ _ _,
    tNum_ap hC hs, ofNat32_sub (by omega)]
  have hsl := s.isLt
  unfold IntOp.minsi act
  rw [slt_ofNat32 (by omega) (by omega)]
  by_cases h : s.val < nst c - 1
  · rw [if_pos (by simpa using h), Nat.min_eq_left (by omega)]
  · rw [if_neg (by simpa using h), Nat.min_eq_right (by omega)]

theorem tEx_ap (s : Fin 287) : tEx C (ix1 s) = BitVec.ofNat 32 (ex c s.val) := by
  have h2 := nst_le hs
  have hl := act_lt hs s.val
  have hr : Host.reduce IntOp.addi (extui 32 (tOver C) natLt_1_32) (constantI S_ 32 0#32) reducesTo_S287x32_S287_d1 h_S_ (ix1 s)
      = BitVec.ofNat 32 (Nat.count (fun e => pre (tiles c) (e + 1) ≤ act c s.val) 32) := by
    refine reduce_count (by decide) (tOver C) _ _ _ s _ fun q => ?_
    show IntOp.cmpi .sle (broadcastInDim S287x32 ![0, 1] bcast_S1x32_S287x32_0_1 (broadcastInDim S1x32 ![1] bcast_S32_S1x32_1 (tCum (tTiles C))) (ix2 s q))
      (broadcastInDim S287x32 ![0, 1] bcast_S287x1_S287x32_0_1 (broadcastInDim S287x1 ![0] bcast_S287_S287x1_0 (tAct C)) (ix2 s q)) = 1#1 ↔ _
    rw [bcCols, bcRows, tAct_ap hC hs, tCum_ap (tTiles_ap hC hs)]
    have hq : pre (tiles c) (q.val + 1) ≤ nst c := pre_mono _ (by omega)
    exact cmpi_sle_ofNat_eq_one_iff (w := 32) (by omega) (by omega)
  have hcnt : Nat.count (fun e => pre (tiles c) (e + 1) ≤ act c s.val) 32 ≤ 32 := Nat.count_le _
  show IntOp.minsi (Host.reduce IntOp.addi (extui 32 (tOver C) natLt_1_32) (constantI S_ 32 0#32) reducesTo_S287x32_S287_d1 h_S_ (ix1 s)) (k287 31#32 (ix1 s)) = _
  rw [hr, k287_ap, show (31#32 : BitVec 32) = BitVec.ofNat 32 31 from rfl]
  unfold IntOp.minsi ex
  rw [slt_ofNat32 (by omega) (by omega)]
  by_cases h : Nat.count (fun e => pre (tiles c) (e + 1) ≤ act c s.val) 32 < 31
  · rw [if_pos (by simpa using h), Nat.min_eq_left (by omega)]
  · rw [if_neg (by simpa using h), Nat.min_eq_right (by omega)]

theorem tCol_ap (s : Fin 287) : tCol C (ix2 s (0 : Fin 1)) = BitVec.ofNat 32 (ex c s.val) := by
  have hl := ex_lt hs s.val
  unfold tCol
  rw [bcCol]
  show Scalar.select (IntOp.cmpi .slt (tEx C (ix1 s)) (k287 0#32 (ix1 s))) (tEx C (ix1 s) + k287 32#32 (ix1 s)) (tEx C (ix1 s)) = _
  rw [k287_ap, tEx_ap hC hs, show (0#32 : BitVec 32) = BitVec.ofNat 32 0 from rfl, cmpi_slt_ofNat (w := 32) (by omega) (by decide), select_decide,
    if_neg (by omega)]

theorem tTile_ap (s : Fin 287) : tTile C (ix1 s) = BitVec.ofNat 32 (tl c s.val) := by
  obtain ⟨h1, h2, h3, h5, h6, h7, h8, h9⟩ := step_spec hs s.val
  show Host.gather gather_S32_S287x1_S287_n_0_n_n_0_1_1 (tFirst C) (tCol C) (ix1 s) + tAct C (ix1 s)
    - Host.gather gather_S32_S287x1_S287_n_0_n_n_0_1_1 (subi (tCum (tTiles C)) (tTiles C)) (tCol C) (ix1 s) = _
  rw [gather_take1 _ rfl rfl rfl rfl _ _ s ⟨ex c s.val, h1⟩ (tCol_ap hC hs s) (by decide),
    gather_take1 _ rfl rfl rfl rfl _ _ s ⟨ex c s.val, h1⟩ (tCol_ap hC hs s) (by decide), tFirst_ap hC hs, tAct_ap hC hs]
  show _ - (tCum (tTiles C) (ix1 ⟨ex c s.val, h1⟩) - tTiles C (ix1 ⟨ex c s.val, h1⟩)) = _
  rw [tCum_ap (tTiles_ap hC hs), tTiles_ap hC hs, ofNat32_sub (show tiles c (ex c s.val) ≤ pre (tiles c) (ex c s.val + 1) from Nat.le_add_left _ _),
    show pre (tiles c) (ex c s.val + 1) - tiles c (ex c s.val) = pre (tiles c) (ex c s.val) from Nat.add_sub_cancel _ _,
    BitVec.ofNat_add_ofNat, ofNat32_sub (by omega)]
  rfl

theorem tSeg_ap (e : Fin 33) : tSeg C (ix1 e) = BitVec.ofNat 32 (pre c e.val) := by
  unfold tSeg
  by_cases h : e.val < 32
  · rw [concatenate_pair_apply_left 0 (tStart C) (extractStridedSlice S1 ![31] (tCum C) slices_S32_S1_31) _ (ix1 e) rfl (ix1 (⟨e.val, h⟩ : Fin 32))
      (fun b => by match b with | ⟨0, _⟩ => rfl)]
    exact tStart_ap hC ⟨e.val, h⟩
  · have he : e.val = 32 := by omega
    rw [concatenate_pair_apply_right 0 (tStart C) (extractStridedSlice S1 ![31] (tCum C) slices_S32_S1_31) _ (ix1 e) rfl rfl (ix1 (0 : Fin 1))
      (fun b hb => by match b with | ⟨0, _⟩ => exact absurd rfl hb) (by show 0 + 32 = e.val; omega)]
    refine (slice1 31 _ _ (0 : Fin 1) (by decide)).trans ?_
    rw [tCum_ap hC, he]
    rfl

end

end Cert.KernelIdeal.Hand
-- ==== Proof.Prefix.lean ====
/-
  What the host has written when the call begins: the four tables are the tables of the counts, and no argument has
  changed.
-/
module

public import proofs.«01_k».proof.Proof.Run
public import proofs.«01_k».proof.Proof.Tables
public import Idealize.ShloMosaic.Lib.StableHlo.RunRead

@[expose] public section

set_option maxRecDepth 16384
noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F] [∀ e, Nonempty (Elt F e)]
variable (m : (ℓ : Loc nD τ sig) → Buf (Elt F) ℓ)

attribute [local irreducible] Host.reduceWindow Host.reduce Host.gather concatenate

/-- A core's buffers after the operations up to the tiles of each expert. -/
def V6 (c : Dev nD) (b : DevRef τ sig) : Buf (Elt F) ((c, b) : Loc nD τ sig) :=
  StableHlo.after ([hostOps0, hostOps0_1, hostOps0_2, hostOps0_3, hostOps0_4, hostOps0_5, hostOps0_6] : List (List (HloOp τ sig (Elt F)))).flatten
    (fun b => m (c, b)) b

/-- And after the running sum of those. -/
def V7 (c : Dev nD) (b : DevRef τ sig) : Buf (Elt F) ((c, b) : Loc nD τ sig) :=
  StableHlo.after (hostOps0_7 (F := F)) (V6 m c) b

theorem Vr_eq (c : Dev nD) (b : Ref sig .tc) : Vr m c b = StableHlo.after (hostOps0_8 (F := F)) (V7 m c) b := by
  unfold Vr V7 V6
  rw [← StableHlo.after_append, ← StableHlo.after_append]
  rfl

theorem v6_v0 (c : Dev nD) : V6 m c main_v0 = tCum (m ((c : Thread nD τ).loc main_arg0)) := by
  unfold V6
  simp only [List.flatten_cons, List.flatten_nil, List.cons_append, List.nil_append]
  after_reads_simp
  simp only [StableHlo.TRef.ofBuf_toBuf, id]
  simp only [tTiles, tLast, tFirst, tStart, tCum, Routing.pyDiv, k32, k287]
  rfl

theorem v6_v1 (c : Dev nD) : V6 m c main_v1 = tStart (m ((c : Thread nD τ).loc main_arg0)) := by
  unfold V6
  simp only [List.flatten_cons, List.flatten_nil, List.cons_append, List.nil_append]
  after_reads_simp
  simp only [StableHlo.TRef.ofBuf_toBuf, id]
  simp only [tTiles, tLast, tFirst, tStart, tCum, Routing.pyDiv, k32, k287]
  rfl

theorem v6_v2 (c : Dev nD) : V6 m c main_v2 = tFirst (m ((c : Thread nD τ).loc main_arg0)) := by
  unfold V6
  simp only [List.flatten_cons, List.flatten_nil, List.cons_append, List.nil_append]
  after_reads_simp
  simp only [StableHlo.TRef.ofBuf_toBuf, id]
  simp only [tTiles, tLast, tFirst, tStart, tCum, Routing.pyDiv, k32, k287]
  rfl

theorem v6_v11 (c : Dev nD) : V6 m c main_v11 = tTiles (m ((c : Thread nD τ).loc main_arg0)) := by
  unfold V6
  simp only [List.flatten_cons, List.flatten_nil, List.cons_append, List.nil_append]
  after_reads_simp
  simp only [StableHlo.TRef.ofBuf_toBuf, id]
  simp only [tTiles, tLast, tFirst, tStart, tCum, Routing.pyDiv, k32, k287]
  rfl

attribute [local irreducible] tTiles tFirst tStart

theorem v7_v12 (c : Dev nD) : V7 m c main_v12 = tCum (tTiles (m ((c : Thread nD τ).loc main_arg0))) := by
  unfold V7
  after_reads_simp
  rw [v6_v11]
  rfl

theorem v7_v0 (c : Dev nD) : V7 m c main_v0 = tCum (m ((c : Thread nD τ).loc main_arg0)) := by
  unfold V7
  after_reads_simp
  exact v6_v0 m c

theorem v7_v1 (c : Dev nD) : V7 m c main_v1 = tStart (m ((c : Thread nD τ).loc main_arg0)) := by
  unfold V7
  after_reads_simp
  exact v6_v1 m c

theorem v7_v2 (c : Dev nD) : V7 m c main_v2 = tFirst (m ((c : Thread nD τ).loc main_arg0)) := by
  unfold V7
  after_reads_simp
  exact v6_v2 m c

theorem v7_v11 (c : Dev nD) : V7 m c main_v11 = tTiles (m ((c : Thread nD τ).loc main_arg0)) := by
  unfold V7
  after_reads_simp
  exact v6_v11 m c

attribute [local irreducible] tCum

theorem vr_v27 (c : Dev nD) : Vr m c main_v27 = tEx (m ((c : Thread nD τ).loc main_arg0)) := by
  rw [Vr_eq]
  after_reads_simp
  rw [v7_v12]
  rfl

theorem vr_v44 (c : Dev nD) : Vr m c main_v44 = tTile (m ((c : Thread nD τ).loc main_arg0)) := by
  rw [Vr_eq]
  after_reads_simp
  rw [v7_v12, v7_v2, v7_v11]
  rfl

/-- The join of the 32 starts and the end. -/
def catG (x : IVec S32 32) (y : IVec S1 32) : IVec S33 32 := concatenate S33 0 [⟨S32, x⟩, ⟨S1, y⟩] concatenates_S32_S1_S33_d0

theorem vr_v46 (c : Dev nD) : Vr m c main_v46 = tSeg (m ((c : Thread nD τ).loc main_arg0)) := by
  rw [Vr_eq]
  after_reads_simp
  refine congrArg₂ catG ?_ ?_
  · after_reads_simp
    exact v7_v1 m c
  · after_reads_simp
    rw [v7_v0]

theorem vr_v47 (c : Dev nD) : Vr m c main_v47 = tNst (m ((c : Thread nD τ).loc main_arg0)) := by
  rw [Vr_eq]
  after_reads_simp
  exact congrArg (fun x : IVec S32 32 => shapeCast S1 (shapeCast S_ (extractStridedSlice S1 ![31] x slices_S32_S1_31) shapeCasts_S1_S_) shapeCasts_S_S1) (v7_v12 m c)

theorem vr_arg0 (c : Dev nD) : Vr m c main_arg0 = m ((c : Thread nD τ).loc main_arg0) := by
  unfold Vr opss
  simp only [List.flatten_cons, List.flatten_nil, List.cons_append, List.nil_append]
  after_reads_simp

theorem vr_arg1 (c : Dev nD) : Vr m c main_arg1 = m ((c : Thread nD τ).loc main_arg1) := by
  unfold Vr opss
  simp only [List.flatten_cons, List.flatten_nil, List.cons_append, List.nil_append]
  after_reads_simp

theorem vr_arg2 (c : Dev nD) : Vr m c main_arg2 = m ((c : Thread nD τ).loc main_arg2) := by
  unfold Vr opss
  simp only [List.flatten_cons, List.flatten_nil, List.cons_append, List.nil_append]
  after_reads_simp

theorem vr_arg3 (c : Dev nD) : Vr m c main_arg3 = m ((c : Thread nD τ).loc main_arg3) := by
  unfold Vr opss
  simp only [List.flatten_cons, List.flatten_nil, List.cons_append, List.nil_append]
  after_reads_simp

theorem vr_arg4 (c : Dev nD) : Vr m c main_arg4 = m ((c : Thread nD τ).loc main_arg4) := by
  unfold Vr opss
  simp only [List.flatten_cons, List.flatten_nil, List.cons_append, List.nil_append]
  after_reads_simp

theorem vr_arg5 (c : Dev nD) : Vr m c main_arg5 = m ((c : Thread nD τ).loc main_arg5) := by
  unfold Vr opss
  simp only [List.flatten_cons, List.flatten_nil, List.cons_append, List.nil_append]
  after_reads_simp

theorem vr_arg6 (c : Dev nD) : Vr m c main_arg6 = m ((c : Thread nD τ).loc main_arg6) := by
  unfold Vr opss
  simp only [List.flatten_cons, List.flatten_nil, List.cons_append, List.nil_append]
  after_reads_simp

end Cert.KernelIdeal.Hand
-- ==== Proof.Valid.lean ====
/-
  The tables of an admitted memory: their entries are the walk's numbers, so every block lies in its array.
-/
module

public import proofs.«01_k».proof.Proof.Counts
public import proofs.«01_k».proof.Proof.Prefix

@[expose] public section

set_option maxRecDepth 16384

noncomputable section

namespace Cert.KernelIdeal.Hand

open Cert.KernelIdeal Cert.KernelIdeal.Gen Cert.Steps
open Idealize.ShloMosaic Idealize.ShloMosaic.TcCoe Idealize.ShloMosaic.ValueIdx Idealize.ShloMosaic.WordCmp

variable {F : FTy → Type} [FloatOps F] [∀ e, Nonempty (Elt F e)]

/-- The tables hold the walk of the counts `c`. -/
structure TabsAre (pf : pre0.Contents (Elt F)) (c : ℕ → ℕ) : Prop where
  sum : pre c 32 = 131072
  t : ∀ s : Fin 287, (pf 0 : S287.Idx → BitVec 32) (ix1 s) = BitVec.ofNat 32 (tl c s.val)
  x : ∀ s : Fin 287, (pf 1 : S287.Idx → BitVec 32) (ix1 s) = BitVec.ofNat 32 (ex c s.val)
  g : ∀ e : Fin 33, (pf 2 : S33.Idx → BitVec 32) (ix1 e) = BitVec.ofNat 32 (pre c e.val)
  n : (pf 3 : S1.Idx → BitVec 32) (ix1 (0 : Fin 1)) = BitVec.ofNat 32 (nst c)

/-- The chunk of a point: past the last step it stays at the last. -/
def chunk (c : ℕ → ℕ) (s f : ℕ) : ℕ := if s < nst c then f else 3

variable {pf : pre0.Contents (Elt F)} {c : ℕ → ℕ}

theorem emb287 (v : ℕ) (hv : v < 287) (h : ∀ a, (![v] : Fin 1 → ℕ) a + S1.size a ≤ S287.size a) (i) :
    (Rect.unit (s := S287) ![v] S1.size h).emb i = ix1 (⟨v, hv⟩ : Fin 287) := by
  funext a
  obtain rfl : a = 0 := Subsingleton.elim _ _
  refine Fin.ext ?_
  have hi : (i 0).val < 1 := (i 0).isLt
  show v + 1 * (i 0).val = v
  omega

theorem emb33 (v : ℕ) (hv : v < 33) (h : ∀ a, (![v] : Fin 1 → ℕ) a + S1.size a ≤ S33.size a) (i) :
    (Rect.unit (s := S33) ![v] S1.size h).emb i = ix1 (⟨v, hv⟩ : Fin 33) := by
  funext a
  obtain rfl : a = 0 := Subsingleton.elim _ _
  refine Fin.ext ?_
  have hi : (i 0).val < 1 := (i 0).isLt
  show v + 1 * (i 0).val = v
  omega

theorem emb1 (h : ∀ a, (![0] : Fin 1 → ℕ) a + S1.size a ≤ S1.size a) (i) :
    (Rect.unit (s := S1) ![0] S1.size h).emb i = ix1 (0 : Fin 1) := by
  funext a
  obtain rfl : a = 0 := Subsingleton.elim _ _
  refine Fin.ext ?_
  have hi : (i 0).val < 1 := (i 0).isLt
  show 0 + 1 * (i 0).val = 0
  omega

theorem toNat32 {n : ℕ} (h : n < 2 ^ 32) : (BitVec.ofNat 32 n).toNat = n := toNat_ofNat_of_lt h

theorem co0 (i : grid0.Coords) : (i 0).val < 287 := (i 0).isLt
theorem co1 (i : grid0.Coords) : (i 1).val < 4 := (i 1).isLt

theorem off_eq (i : grid0.Coords) : (BitVec.ofNat 32 (i 0).val).toNat = (i 0).val := toNat32 (by have := co0 i; omega)

theorem at_t (H : TabsAre pf c) (i : grid0.Coords) (h : ∀ a, (![(BitVec.ofNat 32 (i 0).val).toNat] : Fin 1 → ℕ) a + S1.size a ≤ S287.size a) (h1) :
    (pf.at 0 (Rect.unit (s := S287) ![(BitVec.ofNat 32 (i 0).val).toNat] S1.size h) h1 : BitVec 32) = BitVec.ofNat 32 (tl c (i 0).val) := by
  refine Eq.trans (congrArg (pf 0 : S287.Idx → BitVec 32) ?_) (H.t ⟨(i 0).val, co0 i⟩)
  refine (emb287 (BitVec.ofNat 32 (i 0).val).toNat (by rw [off_eq]; exact co0 i) h _).trans ?_
  exact congrArg ix1 (Fin.ext (off_eq i))

theorem at_x (H : TabsAre pf c) (i : grid0.Coords) (h : ∀ a, (![(BitVec.ofNat 32 (i 0).val).toNat] : Fin 1 → ℕ) a + S1.size a ≤ S287.size a) (h1) :
    (pf.at 1 (Rect.unit (s := S287) ![(BitVec.ofNat 32 (i 0).val).toNat] S1.size h) h1 : BitVec 32) = BitVec.ofNat 32 (ex c (i 0).val) := by
  refine Eq.trans (congrArg (pf 1 : S287.Idx → BitVec 32) ?_) (H.x ⟨(i 0).val, co0 i⟩)
  refine (emb287 (BitVec.ofNat 32 (i 0).val).toNat (by rw [off_eq]; exact co0 i) h _).trans ?_
  exact congrArg ix1 (Fin.ext (off_eq i))

theorem at_n (H : TabsAre pf c) (h : ∀ a, (![0] : Fin 1 → ℕ) a + S1.size a ≤ S1.size a) (h1) :
    (pf.at 3 (Rect.unit (s := S1) ![0] S1.size h) h1 : BitVec 32) = BitVec.ofNat 32 (nst c) := by
  refine Eq.trans (congrArg (pf 3 : S1.Idx → BitVec 32) ?_) H.n
  exact emb1 _ _

theorem tl32 (H : TabsAre pf c) (s : ℕ) : (BitVec.ofNat 32 (tl c s)).toNat = tl c s := toNat32 (by have := tl_lt H.sum s; omega)
theorem ex32 (H : TabsAre pf c) (s : ℕ) : (BitVec.ofNat 32 (ex c s)).toNat = ex c s := toNat32 (by have := ex_lt H.sum s; omega)

/-- The chunk as the index maps compute it. -/
theorem chunk32 (H : TabsAre pf c) (i : grid0.Coords) :
    (Scalar.select (Scalar.cmpi .slt (BitVec.ofNat 32 (i 0).val) (BitVec.ofNat 32 (nst c))) (BitVec.ofNat 32 (i 1).val) 3#32).toNat
      = chunk c (i 0).val (i 1).val := by
  have h0 := co0 i
  have h1 := co1 i
  have h2 := nst_le H.sum
  rw [scalar_cmpi_eq, cmpi_slt_ofNat (w := 32) (by omega) (by omega), select_ofBool]
  unfold chunk
  by_cases h : (i 0).val < nst c
  · rw [if_pos h, if_pos (decide_eq_true h)]
    exact toNat32 (by omega)
  · rw [if_neg h, if_neg (by simpa using h)]
    rfl

theorem chunk_lt (s f : ℕ) (h : f < 4) : chunk c s f < 4 := by unfold chunk; split <;> omega

variable (H : TabsAre pf c) (i : grid0.Coords)
include H

theorem im0 : cc0_transform_0 k0_off1_inb numel1_S1 pf i = ![tl c (i 0).val, 0] := by
  have h := at_t H i (k0_off1_inb i) numel1_S1
  refine Eq.trans (b := ![(BitVec.ofNat 32 (tl c (i 0).val)).toNat, (0#32).toNat]) ?_ ?_
  · rw [← h]; rfl
  · rw [tl32 H]; rfl
theorem im7 : cc0_transform_7 k0_off1_inb numel1_S1 pf i = ![tl c (i 0).val, 0] := im0 H i
theorem im1 : cc0_transform_1 k0_off1_inb numel1_S1 inb_S1_S1_0 pf i = ![ex c (i 0).val, 0, chunk c (i 0).val (i 1).val] := by
  have h := at_x H i (k0_off1_inb i) numel1_S1
  have hn := at_n H inb_S1_S1_0 numel1_S1
  refine Eq.trans (b := ![(BitVec.ofNat 32 (ex c (i 0).val)).toNat, (0#32).toNat,
    (Scalar.select (Scalar.cmpi .slt (BitVec.ofNat 32 (i 0).val) (BitVec.ofNat 32 (nst c))) (BitVec.ofNat 32 (i 1).val) 3#32).toNat]) ?_ ?_
  · rw [← h, ← hn]; rfl
  · rw [ex32 H, chunk32 H]; rfl
theorem im2 : cc0_transform_2 k0_off1_inb numel1_S1 inb_S1_S1_0 pf i = ![ex c (i 0).val, 0, chunk c (i 0).val (i 1).val] := im1 H i
theorem im3 : cc0_transform_3 k0_off1_inb numel1_S1 inb_S1_S1_0 pf i = ![ex c (i 0).val, 0, chunk c (i 0).val (i 1).val] := im1 H i
theorem im4 : cc0_transform_4 k0_off1_inb numel1_S1 inb_S1_S1_0 pf i = ![ex c (i 0).val, 0, chunk c (i 0).val (i 1).val] := im1 H i
theorem im5 : cc0_transform_5 k0_off1_inb numel1_S1 inb_S1_S1_0 pf i = ![ex c (i 0).val, chunk c (i 0).val (i 1).val, 0] := by
  have h := at_x H i (k0_off1_inb i) numel1_S1
  have hn := at_n H inb_S1_S1_0 numel1_S1
  refine Eq.trans (b := ![(BitVec.ofNat 32 (ex c (i 0).val)).toNat,
    (Scalar.select (Scalar.cmpi .slt (BitVec.ofNat 32 (i 0).val) (BitVec.ofNat 32 (nst c))) (BitVec.ofNat 32 (i 1).val) 3#32).toNat, (0#32).toNat]) ?_ ?_
  · rw [← h, ← hn]; rfl
  · rw [ex32 H, chunk32 H]; rfl
theorem im6 : cc0_transform_6 k0_off1_inb numel1_S1 pf i = ![ex c (i 0).val, 0, 0] := by
  have h := at_x H i (k0_off1_inb i) numel1_S1
  refine Eq.trans (b := ![(BitVec.ofNat 32 (ex c (i 0).val)).toNat, (0#32).toNat, (0#32).toNat]) ?_ ?_
  · rw [← h]; rfl
  · rw [ex32 H]; rfl

omit i in
/-- Every block lies in its array. -/
theorem ok0_of : ok0 pf := by
  have ht := tl_lt H.sum
  have he := ex_lt H.sum
  have b2 : ∀ i : grid0.Coords, ∀ a : Fin 2, ((![tl c (i 0).val, 0] : Fin 2 → ℕ) a + 1) * S512x2048.size a ≤ S131072x2048.size a := by
    intro i a
    have := ht (i 0).val
    refine Fin.cases ?_ (fun a => ?_) a
    · show (tl c (i 0).val + 1) * 512 ≤ 131072; omega
    · obtain rfl : a = 0 := Subsingleton.elim _ _
      show (0 + 1) * 2048 ≤ 2048; omega
  have b3 : ∀ i : grid0.Coords, ∀ a : Fin 3, ((![ex c (i 0).val, 0, chunk c (i 0).val (i 1).val] : Fin 3 → ℕ) a + 1) * S1x2048x512.size a ≤ S32x2048x2048.size a := by
    intro i a
    have h1 := he (i 0).val
    have h2 := chunk_lt (c := c) (i 0).val (i 1).val (co1 i)
    match a with
    | 0 => show (ex c (i 0).val + 1) * 1 ≤ 32; omega
    | 1 => show (0 + 1) * 2048 ≤ 2048; omega
    | 2 => show (chunk c (i 0).val (i 1).val + 1) * 512 ≤ 2048; omega
  have b31 : ∀ i : grid0.Coords, ∀ a : Fin 3, ((![ex c (i 0).val, 0, chunk c (i 0).val (i 1).val] : Fin 3 → ℕ) a + 1) * S1x1x512.size a ≤ S32x1x2048.size a := by
    intro i a
    have h1 := he (i 0).val
    have h2 := chunk_lt (c := c) (i 0).val (i 1).val (co1 i)
    match a with
    | 0 => show (ex c (i 0).val + 1) * 1 ≤ 32; omega
    | 1 => show (0 + 1) * 1 ≤ 1; omega
    | 2 => show (chunk c (i 0).val (i 1).val + 1) * 512 ≤ 2048; omega
  refine ⟨fun i => ?_, fun i => ?_, fun i => ?_, fun i => ?_, fun i => ?_, fun i => ?_, fun i => ?_, fun i => ?_⟩
  · rw [im0 H]; exact ⟨b2 i, .inl rfl⟩
  · rw [im1 H]
    refine ⟨b3 i, .inr (.inr ⟨by decide, rfl, ?_, rfl⟩)⟩
    show 0 * 2048 = 0; rfl
  · rw [im2 H]
    refine ⟨b3 i, .inr (.inr ⟨by decide, rfl, ?_, rfl⟩)⟩
    show 0 * 2048 = 0; rfl
  · rw [im3 H]; exact ⟨b31 i, .inl rfl⟩
  · rw [im4 H]; exact ⟨b31 i, .inl rfl⟩
  · rw [im5 H]
    refine ⟨fun a => ?_, .inl rfl⟩
    have h1 := he (i 0).val
    have h2 := chunk_lt (c := c) (i 0).val (i 1).val (co1 i)
    match a with
    | 0 => show (ex c (i 0).val + 1) * 1 ≤ 32; omega
    | 1 => show (chunk c (i 0).val (i 1).val + 1) * 512 ≤ 2048; omega
    | 2 => show (0 + 1) * 2048 ≤ 2048; omega
  · rw [im6 H]
    refine ⟨fun a => ?_, .inl rfl⟩
    have h1 := he (i 0).val
    match a with
    | 0 => show (ex c (i 0).val + 1) * 1 ≤ 32; omega
    | 1 => show (0 + 1) * 1 ≤ 1; omega
    | 2 => show (0 + 1) * 2048 ≤ 2048; omega
  · rw [im7 H]; exact ⟨b2 i, .inl rfl⟩

/-! ### The words the body loads -/

theorem nW_eq : nW (F := F) (pf 3) = BitVec.ofNat 32 (nst c) := by
  refine Eq.trans (congrArg (pf 3 : S1.Idx → BitVec 32) ?_) H.n
  exact emb1 _ _

theorem eW_eq (h5 : k0_cond5 i = 1#1) : eW (F := F) i h5 (pf 1) = BitVec.ofNat 32 (ex c (i 0).val) := by
  refine Eq.trans (congrArg (pf 1 : S287.Idx → BitVec 32) ?_) (H.x ⟨(i 0).val, co0 i⟩)
  refine (emb287 (BitVec.ofNat 32 (i 0).val).toNat (by rw [off_eq]; exact co0 i) (k0_off2_inb i h5) _).trans ?_
  exact congrArg ix1 (Fin.ext (off_eq i))

theorem tW_eq (h5 : k0_cond5 i = 1#1) : tW (F := F) i h5 (pf 0) = BitVec.ofNat 32 (tl c (i 0).val) := by
  refine Eq.trans (congrArg (pf 0 : S287.Idx → BitVec 32) ?_) (H.t ⟨(i 0).val, co0 i⟩)
  refine (emb287 (BitVec.ofNat 32 (i 0).val).toNat (by rw [off_eq]; exact co0 i) (k0_off2_inb i h5) _).trans ?_
  exact congrArg ix1 (Fin.ext (off_eq i))

omit H in
theorem prev_eq : (Scalar.indexCast (Scalar.maxsi (Scalar.subi (BitVec.ofNat 32 (i 0).val) 1#32) 0#32)).toNat = (i 0).val - 1 := by
  have h0 := co0 i
  generalize (i 0).val = s at h0
  revert s
  decide +kernel

theorem tpW_eq (h5 : k0_cond5 i = 1#1) : tpW (F := F) i h5 (pf 0) = BitVec.ofNat 32 (tl c ((i 0).val - 1)) := by
  have h0 := co0 i
  refine Eq.trans (congrArg (pf 0 : S287.Idx → BitVec 32) ?_) (H.t ⟨(i 0).val - 1, by omega⟩)
  refine (emb287 _ (by rw [prev_eq]; omega) (k0_off5_inb i h5) _).trans ?_
  exact congrArg ix1 (Fin.ext (prev_eq i))

theorem g0W_eq (n e : BitVec 32) (hw : k0_chk1 i n e) (h1 : k0_cond1 i n = 1#1) (h5 : k0_cond5 i = 1#1) (s : ℕ) (he : e = BitVec.ofNat 32 (ex c s)) :
    g0W (F := F) i n e hw h1 h5 (pf 2) = BitVec.ofNat 32 (pre c (ex c s)) := by
  have hl := ex_lt H.sum s
  subst he
  refine Eq.trans (congrArg (pf 2 : S33.Idx → BitVec 32) ?_) (H.g ⟨ex c s, by omega⟩)
  refine (emb33 (BitVec.ofNat 32 (ex c s)).toNat (by rw [ex32 H]; omega) (k0_off3_inb i n _ hw h1 h5) _).trans ?_
  exact congrArg ix1 (Fin.ext (ex32 H s))

omit i in
theorem succ_eq (s : ℕ) : (Scalar.indexCast (Scalar.addi (BitVec.ofNat 32 (ex c s)) 1#32)).toNat = ex c s + 1 := by
  have hl := ex_lt H.sum s
  generalize ex c s = e at hl
  revert e
  decide +kernel

theorem g1W_eq (n e : BitVec 32) (hw : k0_chk1 i n e) (h1 : k0_cond1 i n = 1#1) (h5 : k0_cond5 i = 1#1) (s : ℕ) (he : e = BitVec.ofNat 32 (ex c s)) :
    g1W (F := F) i n e hw h1 h5 (pf 2) = BitVec.ofNat 32 (pre c (ex c s + 1)) := by
  have hl := ex_lt H.sum s
  subst he
  refine Eq.trans (congrArg (pf 2 : S33.Idx → BitVec 32) ?_) (H.g ⟨ex c s + 1, by omega⟩)
  refine (emb33 _ (by rw [succ_eq H]; omega) (k0_off4_inb i n _ hw h1 h5) _).trans ?_
  exact congrArg ix1 (Fin.ext (succ_eq H s))

omit i in
/-- The body's own side condition. -/
theorem chk_of (i : grid0.Coords) (h5 : k0_cond5 i = 1#1) : k0_chk1 i (nW (F := F) (pf 3)) (eW (F := F) i h5 (pf 1)) := by
  rw [eW_eq H]
  have hl := ex_lt H.sum (i 0).val
  refine ⟨fun _ _ a => ?_, fun _ _ a => ?_⟩
  · obtain rfl : a = 0 := Subsingleton.elim _ _
    show (BitVec.ofNat 32 (ex c (i 0).val)).toNat + 1 ≤ 33
    rw [ex32 H]; omega
  · obtain rfl : a = 0 := Subsingleton.elim _ _
    show (Scalar.indexCast (Scalar.addi (BitVec.ofNat 32 (ex c (i 0).val)) 1#32)).toNat + 1 ≤ 33
    rw [succ_eq H]; omega

end Cert.KernelIdeal.Hand

namespace Cert.KernelIdeal.Hand

open Cert.KernelIdeal Cert.KernelIdeal.Gen Cert.Steps
open Idealize.ShloMosaic Idealize.ShloMosaic.TcCoe Idealize.ShloMosaic.ValueIdx Idealize.ShloMosaic.WordCmp
open Cert.Pre_counts_of_rows.Hand

variable {F : FTy → Type} [FloatOps F] [∀ e, Nonempty (Elt F e)]

/-- The counts that a memory holds. -/
def cntOf (m : (ℓ : Loc nD τ sig) → Buf (Elt F) ℓ) : ℕ → ℕ := cnt (m ((0 : Dev nD), main_arg0))

attribute [local irreducible] tTile tEx tSeg tNst in
set_option maxHeartbeats 1000000 in
theorem tabsAre_of (m : (ℓ : Loc nD τ sig) → Buf (Elt F) ℓ) (hs : pre (cntOf m) 32 = 131072) : TabsAre (pfOf m) (cntOf m) := by
  have hC := cnt_ap (m ((0 : Dev nD), main_arg0))
  refine ⟨hs, fun s => ?_, fun s => ?_, fun e => ?_, ?_⟩
  · exact (congrFun (vr_v44 m 0) (ix1 s)).trans (tTile_ap hC hs s)
  · exact (congrFun (vr_v27 m 0) (ix1 s)).trans (tEx_ap hC hs s)
  · exact (congrFun (vr_v46 m 0) (ix1 e)).trans (tSeg_ap hC hs e)
  · exact (congrFun (vr_v47 m 0) (ix1 (0 : Fin 1))).trans (tNst_ap hC hs (ix1 (0 : Fin 1)))

theorem tabs_of {pf : pre0.Contents (Elt F)} {c : ℕ → ℕ} (H : TabsAre pf c) : ∃ h : ok0 pf, ∀ (i : grid0.Coords) (h5 : k0_cond5 i = 1#1),
    k0_chk1 i (nW (tabN (F := F) ⟨pf, h⟩)) (eW i h5 (tabX (F := F) ⟨pf, h⟩)) :=
  ⟨ok0_of H, fun i h5 => chk_of H i h5⟩

theorem tabsOk_of (m : (ℓ : Loc nD τ sig) → Buf (Elt F) ℓ) (hs : pre (cntOf m) 32 = 131072) : TabsOk m :=
  tabs_of (tabsAre_of m hs)

end Cert.KernelIdeal.Hand

end
-- ==== Proof.Args.lean ====
/-
  The frame of the experts' program: its arguments end as they began, every semaphore at zero.
-/
module

public import proofs.«01_k».proof.Proof.Valid

@[expose] public section

set_option maxRecDepth 16384
set_option maxHeartbeats 1000000

noncomputable section

namespace Cert.KernelIdeal.Hand

open Cert.KernelIdeal Cert.KernelIdeal.Gen Cert.Steps
open Idealize.ShloMosaic Idealize.ShloMosaic.TcCoe Idealize.SL.Sem
open Idealize.ShloMosaic.Pipeline (Dat RDat Cfg Window)

variable {F : FTy → Type} [FloatOps F] [∀ e, Nonempty (Elt F e)]
variable (a : (pcfg0 (F := F)).Adm) (V : (c : Dev nD) → (b : Ref sig .tc) → Buf (Elt F) ((c : Thread nD τ).loc b))

theorem win_ne0 : ∀ w : Fin 8, (spec0 w).arr.view.ref ≠ main_arg0 := by decide
theorem win_ne4 : ∀ w : Fin 8, (spec0 w).arr.view.ref ≠ main_arg4 := by decide
theorem win_ne6 : ∀ w : Fin 8, (spec0 w).arr.view.ref ≠ main_arg6 := by decide

/-- The arguments after a run, as they stood when the call began. -/
theorem args_after {r : PUnit × MemSt nD τ sig (Elt F)} (hr : RDat.FramePost (cfg0 a) (fun c => rdat a V c) V r) (c : Dev nD) :
    r.2.mem ((c : Thread nD τ).loc main_arg0) = V c main_arg0
    ∧ r.2.mem ((c : Thread nD τ).loc main_arg1) = V c main_arg1
    ∧ r.2.mem ((c : Thread nD τ).loc main_arg2) = V c main_arg2
    ∧ r.2.mem ((c : Thread nD τ).loc main_arg3) = V c main_arg3
    ∧ r.2.mem ((c : Thread nD τ).loc main_arg4) = V c main_arg4
    ∧ r.2.mem ((c : Thread nD τ).loc main_arg5) = V c main_arg5
    ∧ r.2.mem ((c : Thread nD τ).loc main_arg6) = V c main_arg6 :=
  ⟨(hr c).2 main_arg0 (Pipeline.mem_restRefs_of main_arg0 (by decide) win_ne0),
   RDat.FramePost.arr_in hr c 0 rfl,
   RDat.FramePost.arr_in hr c 1 rfl,
   RDat.FramePost.arr_in hr c 2 rfl,
   (hr c).2 main_arg4 (Pipeline.mem_restRefs_of main_arg4 (by decide) win_ne4),
   RDat.FramePost.arr_in hr c 5 rfl,
   (hr c).2 main_arg6 (Pipeline.mem_restRefs_of main_arg6 (by decide) win_ne6)⟩

/-- The arguments are what they were at the start. -/
theorem args_kept (m : (ℓ : Loc nD τ sig) → Buf (Elt F) ℓ) {r : PUnit × MemSt nD τ sig (Elt F)} (c : Dev nD)
    (h : r.2.mem ((c : Thread nD τ).loc main_arg0) = Vr m c main_arg0
    ∧ r.2.mem ((c : Thread nD τ).loc main_arg1) = Vr m c main_arg1
    ∧ r.2.mem ((c : Thread nD τ).loc main_arg2) = Vr m c main_arg2
    ∧ r.2.mem ((c : Thread nD τ).loc main_arg3) = Vr m c main_arg3
    ∧ r.2.mem ((c : Thread nD τ).loc main_arg4) = Vr m c main_arg4
    ∧ r.2.mem ((c : Thread nD τ).loc main_arg5) = Vr m c main_arg5
    ∧ r.2.mem ((c : Thread nD τ).loc main_arg6) = Vr m c main_arg6) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) :=
  ⟨h.1.trans (vr_arg0 m c), h.2.1.trans (vr_arg1 m c), h.2.2.1.trans (vr_arg2 m c), h.2.2.2.1.trans (vr_arg3 m c), h.2.2.2.2.1.trans (vr_arg4 m c),
    h.2.2.2.2.2.1.trans (vr_arg5 m c), h.2.2.2.2.2.2.trans (vr_arg6 m c)⟩

/-- The frame of the run. -/
theorem run_frame (m : (ℓ : Loc nD τ sig) → Buf (Elt F) ℓ) (ρ : Dev nD → PrngReg) (h : TabsOk m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r hr => ⟨fun c => args_kept m c (args_after (admOf h) (Vr m) hr.1 c), hr.2⟩) (run_main ρ h)

end Cert.KernelIdeal.Hand

end
-- ==== Proof.Frames.lean ====
/-
  The frames: both readings of the kernel, and the reference, end with their arguments unchanged and every semaphore at zero.
-/
module

public import proofs.«01_k».proof.Defs
public import proofs.«01_k».proof.Proof.Args
public import proofs.«01_k».proof.Proof.Bits.Args
public import proofs.«01_k».proof.Proof.Gen.Kernel
public import proofs.«01_k».proof.Proof.Gen.ReferenceIdeal
public import proofs.«01_k».proof.Proof.Gen.ReferenceIdeal.Run
public import proofs.«01_k».proof.Proof.Gen.Pre_counts_of_rows

@[expose] public section

set_option maxRecDepth 16384
set_option maxHeartbeats 1000000

noncomputable section

namespace Cert.Proof

open Idealize.ShloMosaic Idealize.ShloMosaic.TcCoe Idealize.SL.Sem
open Cert.KernelIdeal.Hand Cert.Steps

attribute [local instance] Cert.Kernel.Gen.facts Cert.KernelIdeal.Gen.facts Cert.ReferenceIdeal.Gen.facts Cert.Pre_counts_of_rows.Gen.facts

theorem sum_ideal (m : (ℓ : Loc Cert.KernelIdeal.nD Cert.KernelIdeal.τ Cert.KernelIdeal.sig) → Buf (Elt Ideal) ℓ) (h : Cert.Pre_KernelIdeal m) :
    pre (cntOf m) 32 = 131072 :=
  Cert.Pre_counts_of_rows.Hand.sum_of_pre _ _ _ _ _ _ _ (h 0)

theorem sum_bits (m : (ℓ : Loc Cert.Kernel.nD Cert.Kernel.τ Cert.Kernel.sig) → Buf (Elt Bits) ℓ) (h : Cert.Pre_Kernel m) :
    pre (Cert.Kernel.Hand.cntOf m) 32 = 131072 :=
  Cert.Pre_counts_of_rows.Hand.sum_of_pre _ _ _ _ _ _ _ (h 0)

theorem frame_kernel : Cert.quiescent_Kernel := fun m ρ h => Cert.Kernel.Hand.run_frame (F := Bits) m ρ (Cert.Kernel.Hand.tabsOk_of m (sum_bits m h))

theorem frame_kernelIdeal : Cert.quiescent_KernelIdeal := fun m ρ h => run_frame (F := Ideal) m ρ (tabsOk_of m (sum_ideal m h))

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Spec.lean ====
/-
  The feed-forward of one expert, written as sums over the extended reals.
-/
module

public import Idealize.ShloMosaic.Lib.Pointwise

@[expose] public section

noncomputable section

namespace Cert.Spec

open Idealize.ShloMosaic

/-- The gated activation of a gate value `g` and an up value `u`, both clamped. -/
def gated (g u : EReal) : EReal :=
  (min (Ideal.ofBits .f32 1088421888#32) (max (Ideal.ofBits .f32 3235905536#32) u) + 1) * min g (Ideal.ofBits .f32 1088421888#32)
    * Ideal.logistic (Ideal.ofBits .f32 1071242019#32 * min g (Ideal.ofBits .f32 1088421888#32))

variable (X : FVec Ideal ⟨2, ![131072, 2048]⟩ .f32) (Wg Wu : FVec Ideal ⟨3, ![32, 2048, 2048]⟩ .bf16) (b : FVec Ideal ⟨2, ![32, 4096]⟩ .f32)
  (Wd : FVec Ideal ⟨3, ![32, 2048, 2048]⟩ .f32) (bd : FVec Ideal ⟨2, ![32, 2048]⟩ .f32)

/-- Column `k` of the hidden layer of expert `e` at row `R`. -/
def hid (R : Fin 131072) (e : Fin 32) (k : Fin 2048) : EReal :=
  gated (∑ d : Fin 2048, X (ix2 R d) * Wg (ix3 e d k) + b (ix2 e (⟨2 * k.val, by omega⟩ : Fin 4096)))
    (∑ d : Fin 2048, X (ix2 R d) * Wu (ix3 e d k) + b (ix2 e (⟨2 * k.val + 1, by omega⟩ : Fin 4096)))

/-- Column `j` of the output of expert `e` at row `R`. -/
def ffn (R : Fin 131072) (e : Fin 32) (j : Fin 2048) : EReal :=
  ∑ k : Fin 2048, hid X Wg Wu b R e k * Wd (ix3 e k j) + bd (ix2 e j)

end Cert.Spec

end
-- ==== Proof.Blocks.lean ====
/-
  The blocks of the experts' call at coordinates.
-/
module

public import proofs.«01_k».proof.Proof.Valid
public import proofs.«01_k».proof.Proof.Spec
public import Idealize.ShloMosaic.Lib.Pointwise

@[expose] public section

set_option maxRecDepth 16384

noncomputable section

namespace Cert.KernelIdeal.Hand

open Cert.KernelIdeal Cert.KernelIdeal.Gen Cert.Steps
open Idealize.ShloMosaic Idealize.ShloMosaic.TcCoe
open Idealize.ShloMosaic.Pipeline (Dat RDat Cfg Window)

variable (a : (pcfg0 (F := Ideal)).Adm) (V : (c : Dev nD) → (b : Ref sig .tc) → Buf (Elt Ideal) ((c : Thread nD τ).loc b)) (k : Dev nD)
variable {c : ℕ → ℕ} (H : TabsAre a.1 c)

/-- No block is cut: every coordinate of one moves. -/
theorem moved_all (w : Fin 8) (i : grid0.Coords) (y : ((cfg0 a).win w).block.Idx) : ((cfg0 a).win w).moved i y = true :=
  (((cfg0 a).win w).moved_iff _ y).mpr fun b => (y b).isLt

include H

/-- The rows of the step's tile. -/
theorem B0_at (t : Fin (cfg0 a).N) (s : ℕ) (ht : t.val / 4 = s) (r : Fin 512) (d : Fin 2048) (R : Fin 131072) (hR : R.val = 512 * tl c s + r.val) :
    B0 a V k t (ix2 r d) = V k main_arg1 (ix2 R d) := by
  unfold B0 blkV Window.fill
  rw [dif_pos (moved_all a 0 _ _)]
  refine congrArg (V k main_arg1) ?_
  funext b
  refine Fin.ext ?_
  match b with
  | ⟨0, _⟩ =>
    show cc0_transform_0 k0_off1_inb numel1_S1 a.1 (grid0.coords t) 0 * 512 + 1 * r.val = R.val
    rw [im0 H, (coords_val t).1, ht]
    show tl c s * 512 + 1 * r.val = R.val
    omega
  | ⟨1, _⟩ =>
    show cc0_transform_0 k0_off1_inb numel1_S1 a.1 (grid0.coords t) 1 * 2048 + 1 * d.val = d.val
    rw [im0 H, (coords_val t).1, ht]
    show 0 * 2048 + 1 * d.val = d.val
    omega

/-- A chunk of the expert's gate weights. -/
theorem B1_at (t : Fin (cfg0 a).N) (s f : ℕ) (ht : t.val / 4 = s) (hf : t.val % 4 = f) (d : Fin 2048) (q : Fin 512) (e : Fin 32) (K : Fin 2048) (he : e.val = ex c s) (hK : K.val = 512 * chunk c s f + q.val) :
    B1 a V k t (ix3 (0 : Fin 1) d q) = V k main_arg2 (ix3 e d K) := by
  unfold B1 blkV Window.fill
  rw [dif_pos (moved_all a 1 _ _)]
  refine congrArg (V k main_arg2) ?_
  funext b
  refine Fin.ext ?_
  match b with
  | ⟨0, _⟩ =>
    show cc0_transform_1 k0_off1_inb numel1_S1 inb_S1_S1_0 a.1 (grid0.coords t) 0 * 1 + 1 * (0 : Fin 1).val = e.val
    rw [im1 H, (coords_val t).1, (coords_val t).2, ht, hf]
    show ex c s * 1 + 1 * (0 : Fin 1).val = e.val
    omega
  | ⟨1, _⟩ =>
    show cc0_transform_1 k0_off1_inb numel1_S1 inb_S1_S1_0 a.1 (grid0.coords t) 1 * 2048 + 1 * d.val = d.val
    rw [im1 H, (coords_val t).1, (coords_val t).2, ht, hf]
    show 0 * 2048 + 1 * d.val = d.val
    omega
  | ⟨2, _⟩ =>
    show cc0_transform_1 k0_off1_inb numel1_S1 inb_S1_S1_0 a.1 (grid0.coords t) 2 * 512 + 1 * q.val = K.val
    rw [im1 H, (coords_val t).1, (coords_val t).2, ht, hf]
    show chunk c s f * 512 + 1 * q.val = K.val
    omega

/-- A chunk of the expert's up weights. -/
theorem B2_at (t : Fin (cfg0 a).N) (s f : ℕ) (ht : t.val / 4 = s) (hf : t.val % 4 = f) (d : Fin 2048) (q : Fin 512) (e : Fin 32) (K : Fin 2048) (he : e.val = ex c s) (hK : K.val = 512 * chunk c s f + q.val) :
    B2 a V k t (ix3 (0 : Fin 1) d q) = V k main_arg3 (ix3 e d K) := by
  unfold B2 blkV Window.fill
  rw [dif_pos (moved_all a 2 _ _)]
  refine congrArg (V k main_arg3) ?_
  funext b
  refine Fin.ext ?_
  match b with
  | ⟨0, _⟩ =>
    show cc0_transform_2 k0_off1_inb numel1_S1 inb_S1_S1_0 a.1 (grid0.coords t) 0 * 1 + 1 * (0 : Fin 1).val = e.val
    rw [im2 H, (coords_val t).1, (coords_val t).2, ht, hf]
    show ex c s * 1 + 1 * (0 : Fin 1).val = e.val
    omega
  | ⟨1, _⟩ =>
    show cc0_transform_2 k0_off1_inb numel1_S1 inb_S1_S1_0 a.1 (grid0.coords t) 1 * 2048 + 1 * d.val = d.val
    rw [im2 H, (coords_val t).1, (coords_val t).2, ht, hf]
    show 0 * 2048 + 1 * d.val = d.val
    omega
  | ⟨2, _⟩ =>
    show cc0_transform_2 k0_off1_inb numel1_S1 inb_S1_S1_0 a.1 (grid0.coords t) 2 * 512 + 1 * q.val = K.val
    rw [im2 H, (coords_val t).1, (coords_val t).2, ht, hf]
    show chunk c s f * 512 + 1 * q.val = K.val
    omega

/-- A chunk of the expert's gate bias. -/
theorem B3_at (t : Fin (cfg0 a).N) (s f : ℕ) (ht : t.val / 4 = s) (hf : t.val % 4 = f) (q : Fin 512) (e : Fin 32) (K : Fin 2048) (he : e.val = ex c s) (hK : K.val = 512 * chunk c s f + q.val) :
    B3 a V k t (ix3 (0 : Fin 1) (0 : Fin 1) q) = V k main_v51 (ix3 e (0 : Fin 1) K) := by
  unfold B3 blkV Window.fill
  rw [dif_pos (moved_all a 3 _ _)]
  refine congrArg (V k main_v51) ?_
  funext b
  refine Fin.ext ?_
  match b with
  | ⟨0, _⟩ =>
    show cc0_transform_3 k0_off1_inb numel1_S1 inb_S1_S1_0 a.1 (grid0.coords t) 0 * 1 + 1 * (0 : Fin 1).val = e.val
    rw [im3 H, (coords_val t).1, (coords_val t).2, ht, hf]
    show ex c s * 1 + 1 * (0 : Fin 1).val = e.val
    omega
  | ⟨1, _⟩ =>
    show cc0_transform_3 k0_off1_inb numel1_S1 inb_S1_S1_0 a.1 (grid0.coords t) 1 * 1 + 1 * (0 : Fin 1).val = (0 : Fin 1).val
    rw [im3 H, (coords_val t).1, (coords_val t).2, ht, hf]
    show 0 * 1 + 1 * (0 : Fin 1).val = (0 : Fin 1).val
    omega
  | ⟨2, _⟩ =>
    show cc0_transform_3 k0_off1_inb numel1_S1 inb_S1_S1_0 a.1 (grid0.coords t) 2 * 512 + 1 * q.val = K.val
    rw [im3 H, (coords_val t).1, (coords_val t).2, ht, hf]
    show chunk c s f * 512 + 1 * q.val = K.val
    omega

/-- A chunk of the expert's up bias. -/
theorem B4_at (t : Fin (cfg0 a).N) (s f : ℕ) (ht : t.val / 4 = s) (hf : t.val % 4 = f) (q : Fin 512) (e : Fin 32) (K : Fin 2048) (he : e.val = ex c s) (hK : K.val = 512 * chunk c s f + q.val) :
    B4 a V k t (ix3 (0 : Fin 1) (0 : Fin 1) q) = V k main_v54 (ix3 e (0 : Fin 1) K) := by
  unfold B4 blkV Window.fill
  rw [dif_pos (moved_all a 4 _ _)]
  refine congrArg (V k main_v54) ?_
  funext b
  refine Fin.ext ?_
  match b with
  | ⟨0, _⟩ =>
    show cc0_transform_4 k0_off1_inb numel1_S1 inb_S1_S1_0 a.1 (grid0.coords t) 0 * 1 + 1 * (0 : Fin 1).val = e.val
    rw [im4 H, (coords_val t).1, (coords_val t).2, ht, hf]
    show ex c s * 1 + 1 * (0 : Fin 1).val = e.val
    omega
  | ⟨1, _⟩ =>
    show cc0_transform_4 k0_off1_inb numel1_S1 inb_S1_S1_0 a.1 (grid0.coords t) 1 * 1 + 1 * (0 : Fin 1).val = (0 : Fin 1).val
    rw [im4 H, (coords_val t).1, (coords_val t).2, ht, hf]
    show 0 * 1 + 1 * (0 : Fin 1).val = (0 : Fin 1).val
    omega
  | ⟨2, _⟩ =>
    show cc0_transform_4 k0_off1_inb numel1_S1 inb_S1_S1_0 a.1 (grid0.coords t) 2 * 512 + 1 * q.val = K.val
    rw [im4 H, (coords_val t).1, (coords_val t).2, ht, hf]
    show chunk c s f * 512 + 1 * q.val = K.val
    omega

/-- A chunk of the expert's down weights. -/
theorem B5_at (t : Fin (cfg0 a).N) (s f : ℕ) (ht : t.val / 4 = s) (hf : t.val % 4 = f) (q : Fin 512) (j : Fin 2048) (e : Fin 32) (K : Fin 2048) (he : e.val = ex c s) (hK : K.val = 512 * chunk c s f + q.val) :
    B5 a V k t (ix3 (0 : Fin 1) q j) = V k main_arg5 (ix3 e K j) := by
  unfold B5 blkV Window.fill
  rw [dif_pos (moved_all a 5 _ _)]
  refine congrArg (V k main_arg5) ?_
  funext b
  refine Fin.ext ?_
  match b with
  | ⟨0, _⟩ =>
    show cc0_transform_5 k0_off1_inb numel1_S1 inb_S1_S1_0 a.1 (grid0.coords t) 0 * 1 + 1 * (0 : Fin 1).val = e.val
    rw [im5 H, (coords_val t).1, (coords_val t).2, ht, hf]
    show ex c s * 1 + 1 * (0 : Fin 1).val = e.val
    omega
  | ⟨1, _⟩ =>
    show cc0_transform_5 k0_off1_inb numel1_S1 inb_S1_S1_0 a.1 (grid0.coords t) 1 * 512 + 1 * q.val = K.val
    rw [im5 H, (coords_val t).1, (coords_val t).2, ht, hf]
    show chunk c s f * 512 + 1 * q.val = K.val
    omega
  | ⟨2, _⟩ =>
    show cc0_transform_5 k0_off1_inb numel1_S1 inb_S1_S1_0 a.1 (grid0.coords t) 2 * 2048 + 1 * j.val = j.val
    rw [im5 H, (coords_val t).1, (coords_val t).2, ht, hf]
    show 0 * 2048 + 1 * j.val = j.val
    omega

/-- The expert's down bias. -/
theorem B6_at (t : Fin (cfg0 a).N) (s : ℕ) (ht : t.val / 4 = s) (j : Fin 2048) (e : Fin 32) (he : e.val = ex c s) :
    B6 a V k t (ix3 (0 : Fin 1) (0 : Fin 1) j) = V k main_v55 (ix3 e (0 : Fin 1) j) := by
  unfold B6 blkV Window.fill
  rw [dif_pos (moved_all a 6 _ _)]
  refine congrArg (V k main_v55) ?_
  funext b
  refine Fin.ext ?_
  match b with
  | ⟨0, _⟩ =>
    show cc0_transform_6 k0_off1_inb numel1_S1 a.1 (grid0.coords t) 0 * 1 + 1 * (0 : Fin 1).val = e.val
    rw [im6 H, (coords_val t).1, ht]
    show ex c s * 1 + 1 * (0 : Fin 1).val = e.val
    omega
  | ⟨1, _⟩ =>
    show cc0_transform_6 k0_off1_inb numel1_S1 a.1 (grid0.coords t) 1 * 1 + 1 * (0 : Fin 1).val = (0 : Fin 1).val
    rw [im6 H, (coords_val t).1, ht]
    show 0 * 1 + 1 * (0 : Fin 1).val = (0 : Fin 1).val
    omega
  | ⟨2, _⟩ =>
    show cc0_transform_6 k0_off1_inb numel1_S1 a.1 (grid0.coords t) 2 * 2048 + 1 * j.val = j.val
    rw [im6 H, (coords_val t).1, ht]
    show 0 * 2048 + 1 * j.val = j.val
    omega

omit H

/-- The even columns of a matrix, split off by two reshapes. -/
theorem even_at (x : FVec Ideal S32x4096 .f32) (e : Fin 32) (K : Fin 2048) :
    shapeCast S32x1x2048 (shapeCast S32x2048 (extractStridedSlice S32x2048x1 ![0, 0, 0] (shapeCast S32x2048x2 x shapeCasts_S32x4096_S32x2048x2)
      slices_S32x2048x2_S32x2048x1_0_0_0) shapeCasts_S32x2048x1_S32x2048) shapeCasts_S32x2048_S32x1x2048 (ix3 e (0 : Fin 1) K)
      = x (ix2 e (⟨2 * K.val, by omega⟩ : Fin 4096)) := by
  pointwise
  exact congrArg x (congrArg (ix2 e) (Fin.ext (by show _ = 2 * K.val; simp only [Fin.val_zero]; omega)))

/-- The odd columns. -/
theorem odd_at (x : FVec Ideal S32x4096 .f32) (e : Fin 32) (K : Fin 2048) :
    shapeCast S32x1x2048 (shapeCast S32x2048 (extractStridedSlice S32x2048x1 ![0, 0, 1] (shapeCast S32x2048x2 x shapeCasts_S32x4096_S32x2048x2)
      slices_S32x2048x2_S32x2048x1_0_0_1) shapeCasts_S32x2048x1_S32x2048) shapeCasts_S32x2048_S32x1x2048 (ix3 e (0 : Fin 1) K)
      = x (ix2 e (⟨2 * K.val + 1, by omega⟩ : Fin 4096)) := by
  pointwise
  exact congrArg x (congrArg (ix2 e) (Fin.ext (by show _ = 2 * K.val + 1; simp only [Fin.val_zero]; omega)))

/-- A matrix with a unit axis put in. -/
theorem mid_at (x : FVec Ideal S32x2048 .f32) (e : Fin 32) (j : Fin 2048) :
    shapeCast S32x1x2048 x shapeCasts_S32x2048_S32x1x2048 (ix3 e (0 : Fin 1) j) = x (ix2 e j) := by
  pointwise

variable (m : (ℓ : Loc nD τ sig) → Buf (Elt Ideal) ℓ)

theorem v7_arg4 : V7 m k main_arg4 = m ((k : Thread nD τ).loc main_arg4) := by
  unfold V7
  after_reads_simp
  unfold V6
  simp only [List.flatten_cons, List.flatten_nil, List.cons_append, List.nil_append]
  after_reads_simp

theorem v7_arg6 : V7 m k main_arg6 = m ((k : Thread nD τ).loc main_arg6) := by
  unfold V7
  after_reads_simp
  unfold V6
  simp only [List.flatten_cons, List.flatten_nil, List.cons_append, List.nil_append]
  after_reads_simp

/-- The gate's bias. -/
theorem vr_v51 (e : Fin 32) (K : Fin 2048) : Vr m k main_v51 (ix3 e (0 : Fin 1) K)
    = (m ((k : Thread nD τ).loc main_arg4) : S32x4096.Idx → EReal) (ix2 e (⟨2 * K.val, by omega⟩ : Fin 4096)) := by
  rw [Vr_eq]
  after_reads_simp
  rw [v7_arg4]
  exact even_at _ e K

/-- The up projection's bias. -/
theorem vr_v54 (e : Fin 32) (K : Fin 2048) : Vr m k main_v54 (ix3 e (0 : Fin 1) K)
    = (m ((k : Thread nD τ).loc main_arg4) : S32x4096.Idx → EReal) (ix2 e (⟨2 * K.val + 1, by omega⟩ : Fin 4096)) := by
  rw [Vr_eq]
  after_reads_simp
  rw [v7_arg4]
  exact odd_at _ e K

/-- The down bias. -/
theorem vr_v55 (e : Fin 32) (j : Fin 2048) : Vr m k main_v55 (ix3 e (0 : Fin 1) j)
    = (m ((k : Thread nD τ).loc main_arg6) : S32x2048.Idx → EReal) (ix2 e j) := by
  rw [Vr_eq]
  after_reads_simp
  rw [v7_arg6]
  exact mid_at _ e j

end Cert.KernelIdeal.Hand

end
-- ==== Proof.Pays.lean ====
/-
  What the body computes, at an entry.
-/
module

public import proofs.«01_k».proof.Proof.Blocks

@[expose] public section

set_option maxRecDepth 16384

noncomputable section

namespace Cert.KernelIdeal.Hand

open Cert.KernelIdeal Cert.KernelIdeal.Gen Cert.Steps Cert.Spec
open Idealize.ShloMosaic Idealize.ShloMosaic.TcCoe Idealize.ShloMosaic.WordCmp

theorem pay1_at (A : FVec Ideal S512x512 .bf16) (W : FVec Ideal S1x512x2048 .f32) (r : Fin 512) (j : Fin 2048) :
    k0_pay1 (F := Ideal) A W (ix2 r j) = ∑ q : Fin 512, A (ix2 r q) * W (ix3 (0 : Fin 1) q j) := by
  pointwise [k0_pay1]

theorem pay2_at (A : FVec Ideal S512x512 .bf16) (acc : FVec Ideal S512x2048 .f32) (W : FVec Ideal S1x512x2048 .f32) (r : Fin 512) (j : Fin 2048) :
    k0_pay2 (F := Ideal) A acc W (ix2 r j) = acc (ix2 r j) + ∑ q : Fin 512, A (ix2 r q) * W (ix3 (0 : Fin 1) q j) := by
  pointwise [k0_pay2]

theorem pay4_at (A : FVec Ideal S512x512 .bf16) (acc : FVec Ideal S512x2048 .f32) (W : FVec Ideal S1x512x2048 .f32) (b : FVec Ideal S1x1x2048 .f32)
    (r : Fin 512) (j : Fin 2048) :
    k0_pay4 (F := Ideal) A acc W b (ix2 r j)
      = acc (ix2 r j) + ∑ q : Fin 512, A (ix2 r q) * W (ix3 (0 : Fin 1) q j) + b (ix3 (0 : Fin 1) (0 : Fin 1) j) := by
  pointwise [k0_pay4]

/-- The chunk's activation. -/
theorem pay8_at (X : FVec Ideal S512x2048 .f32) (Wg Wu : FVec Ideal S1x2048x512 .bf16) (bg bu : FVec Ideal S1x1x512 .f32) (r q : Fin 512) :
    k0_pay8 (F := Ideal) (k0_pay7 (F := Ideal) X) Wg bg Wu bu (ix2 r q)
      = gated (∑ d : Fin 2048, X (ix2 r d) * Wg (ix3 (0 : Fin 1) d q) + bg (ix3 (0 : Fin 1) (0 : Fin 1) q))
          (∑ d : Fin 2048, X (ix2 r d) * Wu (ix3 (0 : Fin 1) d q) + bu (ix3 (0 : Fin 1) (0 : Fin 1) q)) := by
  pointwise [k0_pay8, k0_pay7]
  rfl

/-- Whether row `r` of tile `T` lies from `g0` on and before `g1`. -/
theorem mask_iff {T g0 g1 : ℕ} (hT : T < 256) (h0 : g0 ≤ 131072) (h1 : g1 ≤ 131072) (r : Fin 512) :
    IntOp.andi (IntOp.cmpi .sge (IntOp.addi (Scalar.muli (BitVec.ofNat 32 T) 512#32) (BitVec.ofNat 32 r.val)) (BitVec.ofNat 32 g0))
      (IntOp.cmpi .slt (IntOp.addi (Scalar.muli (BitVec.ofNat 32 T) 512#32) (BitVec.ofNat 32 r.val)) (BitVec.ofNat 32 g1)) = 1#1
      ↔ g0 ≤ 512 * T + r.val ∧ 512 * T + r.val < g1 := by
  have hr := r.isLt
  have e : IntOp.addi (Scalar.muli (BitVec.ofNat 32 T) 512#32) (BitVec.ofNat 32 r.val) = BitVec.ofNat 32 (512 * T + r.val) := by
    show BitVec.ofNat 32 T * 512#32 + BitVec.ofNat 32 r.val = _
    apply BitVec.eq_of_toNat_eq
    rw [BitVec.toNat_add, BitVec.toNat_mul, BitVec.toNat_ofNat, BitVec.toNat_ofNat, BitVec.toNat_ofNat, BitVec.toNat_ofNat]
    omega
  have ti : ∀ n, n ≤ 131583 → (BitVec.ofNat 32 n).toInt = (n : ℤ) := fun n hn => by
    rw [BitVec.toInt_eq_toNat_cond, BitVec.toNat_ofNat, Nat.mod_eq_of_lt (by omega), if_pos (by omega)]
  rw [e, IntOp.andi_eq_one, IntOp.cmpi_sge, IntOp.cmpi_slt, ti _ (by omega), ti _ (by omega), ti _ (by omega)]
  omega

/-- What the first visit of a tile writes. -/
theorem pay5_at (A : FVec Ideal S512x512 .bf16) {T g0 g1 : ℕ} (hT : T < 256) (h0 : g0 ≤ 131072) (h1 : g1 ≤ 131072)
    (acc : FVec Ideal S512x2048 .f32) (W : FVec Ideal S1x512x2048 .f32) (b : FVec Ideal S1x1x2048 .f32) (r : Fin 512) (j : Fin 2048) :
    k0_pay5 (F := Ideal) A (BitVec.ofNat 32 T) (BitVec.ofNat 32 g0) (BitVec.ofNat 32 g1) acc W b (ix2 r j)
      = if g0 ≤ 512 * T + r.val ∧ 512 * T + r.val < g1 then k0_pay4 (F := Ideal) A acc W b (ix2 r j) else 0 := by
  pointwise [k0_pay5, k0_pay3]
  exact if_congr (mask_iff hT h0 h1 r) rfl rfl

/-- What a repeated visit writes. -/
theorem pay6_at (A : FVec Ideal S512x512 .bf16) {T g0 g1 : ℕ} (hT : T < 256) (h0 : g0 ≤ 131072) (h1 : g1 ≤ 131072)
    (acc : FVec Ideal S512x2048 .f32) (W : FVec Ideal S1x512x2048 .f32) (b : FVec Ideal S1x1x2048 .f32) (Y : FVec Ideal S512x2048 .f32) (r : Fin 512) (j : Fin 2048) :
    k0_pay6 (F := Ideal) A (BitVec.ofNat 32 T) (BitVec.ofNat 32 g0) (BitVec.ofNat 32 g1) acc W b Y (ix2 r j)
      = if g0 ≤ 512 * T + r.val ∧ 512 * T + r.val < g1 then k0_pay4 (F := Ideal) A acc W b (ix2 r j) else Y (ix2 r j) := by
  pointwise [k0_pay6, k0_pay3]
  exact if_congr (mask_iff hT h0 h1 r) rfl rfl

/-- A step works when it is one of the first. -/
theorem cond1_iff (i : grid0.Coords) {n : ℕ} (hn : n ≤ 287) : k0_cond1 i (BitVec.ofNat 32 n) = 1#1 ↔ (i 0).val < n := by
  have h0 := co0 i
  unfold k0_cond1
  dsimp only
  have key : ∀ b : BitVec 1, Scalar.cmpi .ne (Scalar.extui b) 0#32 = 1#1 ↔ b = 1#1 := by decide
  rw [key, scalar_cmpi_eq, cmpi_slt_ofNat (w := 32) (by omega) (by omega)]
  by_cases h : (i 0).val < n
  · rw [decide_eq_true h]; exact ⟨fun _ => h, fun _ => by decide⟩
  · rw [decide_eq_false h]; exact ⟨fun h' => absurd h' (by decide), fun h' => absurd h' h⟩

/-- A tile's first visit is the first step or comes after another tile's. -/
theorem cond6_iff (i : grid0.Coords) {T T' : ℕ} (hT : T < 256) (hT' : T' < 256) :
    k0_cond6 i (BitVec.ofNat 32 T) (BitVec.ofNat 32 T') = 1#1 ↔ (i 0).val = 0 ∨ T ≠ T' := by
  have h0 := co0 i
  unfold k0_cond6
  dsimp only
  have key : ∀ b b' : BitVec 1, Scalar.cmpi .ne (Scalar.extui (Scalar.ori b b')) 0#32 = 1#1 ↔ b = 1#1 ∨ b' = 1#1 := by decide
  rw [key]
  have e1 : Scalar.cmpi .eq (BitVec.ofNat 32 (i 0).val) 0#32 = 1#1 ↔ (i 0).val = 0 :=
    cmpi_eq_ofNat_eq_one_iff (w := 32) (a := (i 0).val) (b := 0) (by omega) (by decide)
  have e2 : Scalar.cmpi .ne (BitVec.ofNat 32 T') (BitVec.ofNat 32 T) = 1#1 ↔ T ≠ T' := by
    have h := cmpi_eq_ofNat_eq_one_iff (w := 32) (a := T') (b := T) (by omega) (by omega)
    have h2 : ∀ x y : BitVec 32, Scalar.cmpi .ne x y = 1#1 ↔ x ≠ y := fun x y => by
      show BitVec.ofBool (x != y) = 1#1 ↔ _
      by_cases hx : x = y
      · subst hx; simp
      · have hb : (x != y) = true := by simpa [bne] using hx
        rw [hb]; exact ⟨fun _ => hx, fun _ => by decide⟩
    rw [h2]
    constructor
    · intro hn ht; exact hn (by rw [ht])
    · intro hn ht
      have := congrArg BitVec.toNat ht
      rw [toNat32 (by omega), toNat32 (by omega)] at this
      omega
  rw [e1, e2]

end Cert.KernelIdeal.Hand

end
-- ==== Proof.Acts.lean ====
/-
  A step's four chunks together: the product that the last chunk has in hand is the expert's feed-forward of the tile's rows.
-/
module

public import proofs.«01_k».proof.Proof.Pays
public import proofs.«01_k».proof.Proof.Oblig

@[expose] public section

set_option maxRecDepth 16384

noncomputable section

namespace Cert.KernelIdeal.Hand

open Cert.KernelIdeal Cert.KernelIdeal.Gen Cert.Steps Cert.Spec
open Idealize.ShloMosaic Idealize.ShloMosaic.TcCoe
open Idealize.ShloMosaic.Pipeline (Dat RDat Cfg Window)

variable (a : (pcfg0 (F := Ideal)).Adm) (V : (c : Dev nD) → (b : Ref sig .tc) → Buf (Elt Ideal) ((c : Thread nD τ).loc b)) (k : Dev nD)
variable {c : ℕ → ℕ} (H : TabsAre a.1 c)

/-- What the call's arrays hold: the rows, the expert's weights and biases, the gate's and the up projection's apart. -/
structure ArgsAre (X : FVec Ideal ⟨2, ![131072, 2048]⟩ .f32) (Wg Wu : FVec Ideal ⟨3, ![32, 2048, 2048]⟩ .bf16) (b : FVec Ideal ⟨2, ![32, 4096]⟩ .f32)
    (Wd : FVec Ideal ⟨3, ![32, 2048, 2048]⟩ .f32) (bd : FVec Ideal ⟨2, ![32, 2048]⟩ .f32) : Prop where
  x : ∀ R d, V k main_arg1 (ix2 R d) = X (ix2 R d)
  g : ∀ e d K, V k main_arg2 (ix3 e d K) = Wg (ix3 e d K)
  u : ∀ e d K, V k main_arg3 (ix3 e d K) = Wu (ix3 e d K)
  bg : ∀ (e : Fin 32) (K : Fin 2048), V k main_v51 (ix3 e (0 : Fin 1) K) = b (ix2 e (⟨2 * K.val, by omega⟩ : Fin 4096))
  bu : ∀ (e : Fin 32) (K : Fin 2048), V k main_v54 (ix3 e (0 : Fin 1) K) = b (ix2 e (⟨2 * K.val + 1, by omega⟩ : Fin 4096))
  d : ∀ e K j, V k main_arg5 (ix3 e K j) = Wd (ix3 e K j)
  bd : ∀ (e : Fin 32) (j : Fin 2048), V k main_v55 (ix3 e (0 : Fin 1) j) = bd (ix2 e j)

variable {X : FVec Ideal ⟨2, ![131072, 2048]⟩ .f32} {Wg Wu : FVec Ideal ⟨3, ![32, 2048, 2048]⟩ .bf16} {b : FVec Ideal ⟨2, ![32, 4096]⟩ .f32}
  {Wd : FVec Ideal ⟨3, ![32, 2048, 2048]⟩ .f32} {bd : FVec Ideal ⟨2, ![32, 2048]⟩ .f32} (A : ArgsAre V k X Wg Wu b Wd bd)

include H A

/-- The chunk's activation at an entry. -/
theorem act_at (t : Fin (cfg0 a).N) (s f : ℕ) (hs : s < nst c) (ht : t.val / 4 = s) (hf : t.val % 4 = f) (r q : Fin 512) (R : Fin 131072)
    (hR : R.val = 512 * tl c s + r.val) (e : Fin 32) (he : e.val = ex c s) (K : Fin 2048) (hK : K.val = f * 512 + q.val) :
    actV a V k t (ix2 r q) = hid X Wg Wu b R e K := by
  have hK' : K.val = 512 * chunk c s f + q.val := by unfold chunk; rw [if_pos hs]; omega
  unfold actV
  rw [pay8_at]
  unfold hid
  rw [B3_at a V k H t s f ht hf q e K he hK', B4_at a V k H t s f ht hf q e K he hK', A.bg, A.bu]
  congr 2
  · refine Finset.sum_congr rfl fun d _ => ?_
    rw [B0_at a V k H t s ht r d R hR, B1_at a V k H t s f ht hf d q e K he hK', A.x, A.g]
  · refine Finset.sum_congr rfl fun d _ => ?_
    rw [B0_at a V k H t s ht r d R hR, B2_at a V k H t s f ht hf d q e K he hK', A.x, A.u]

/-- The chunk's product at an entry. -/
theorem part_at (t : Fin (cfg0 a).N) (s : ℕ) (f : Fin 4) (hs : s < nst c) (ht : t.val / 4 = s) (hf : t.val % 4 = f.val) (r : Fin 512) (j : Fin 2048)
    (R : Fin 131072) (hR : R.val = 512 * tl c s + r.val) (e : Fin 32) (he : e.val = ex c s) :
    ∑ q : Fin 512, actV a V k t (ix2 r q) * B5 a V k t (ix3 (0 : Fin 1) q j)
      = ∑ q : Fin 512, hid X Wg Wu b R e ⟨f.val * 512 + q.val, by omega⟩ * Wd (ix3 e (⟨f.val * 512 + q.val, by omega⟩ : Fin 2048) j) := by
  refine Finset.sum_congr rfl fun q _ => ?_
  have hK' : f.val * 512 + q.val = 512 * chunk c s f.val + q.val := by unfold chunk; rw [if_pos hs]; omega
  rw [act_at a V k H A t s f.val hs ht hf r q R hR e he ⟨f.val * 512 + q.val, by omega⟩ rfl,
    B5_at a V k H t s f.val ht hf q j e ⟨f.val * 512 + q.val, by omega⟩ he hK', A.d]

/-- The four chunks' products and the bias. -/
theorem out_at (t : Fin (cfg0 a).N) (h : t.val - 1 < (cfg0 a).N) (s : ℕ) (hs : s < nst c) (ht : t.val / 4 = s) (hf : t.val % 4 = 3)
    (r : Fin 512) (j : Fin 2048) (R : Fin 131072) (hR : R.val = 512 * tl c s + r.val) (e : Fin 32) (he : e.val = ex c s) :
    k0_pay4 (F := Ideal) (actV a V k t) (accAft a V k (t.val - 1) h) (B5 a V k t) (B6 a V k t) (ix2 r j) = ffn X Wg Wu b Wd bd R e j := by
  obtain ⟨n, hn⟩ := t
  obtain ⟨p, rfl⟩ : ∃ p, n = p + 3 := ⟨n - 3, by simp only at hf; omega⟩
  simp only at ht hf h
  rw [pay4_at]
  show accAft a V k (p + 2) h (ix2 r j) + _ + _ = _
  rw [accAft_next a V k (n := p + 2) h (by omega), pay2_at]
  show accAft a V k (p + 1) (by omega) (ix2 r j) + _ + _ + _ = _
  rw [accAft_next a V k (n := p + 1) (by omega) (by omega), pay2_at]
  show accAft a V k p (by omega) (ix2 r j) + _ + _ + _ + _ = _
  rw [accAft_first a V k (n := p) (by omega) (by omega), pay1_at,
    part_at a V k H A ⟨p, by omega⟩ s 0 hs (by simp only; omega) (by simp only [Fin.val_zero]; omega) r j R hR e he,
    part_at a V k H A ⟨p + 1, by omega⟩ s 1 hs (by simp only; omega) (by show (p + 1) % 4 = 1; omega) r j R hR e he,
    part_at a V k H A ⟨p + 2, by omega⟩ s 2 hs (by simp only; omega) (by show (p + 2) % 4 = 2; omega) r j R hR e he,
    part_at a V k H A ⟨p + 3, hn⟩ s 3 hs (by simp only; omega) (by show (p + 3) % 4 = 3; omega) r j R hR e he,
    B6_at a V k H ⟨p + 3, hn⟩ s (by simp only; omega) j e he, A.bd]
  unfold ffn
  rw [Fin.sum_univ_tiles 4 512 (by decide) (fun K : Fin 2048 => hid X Wg Wu b R e K * Wd (ix3 e K j)), Fin.sum_univ_four]

end Cert.KernelIdeal.Hand

end
-- ==== Proof.KVal.lean ====
/-
  The value of the experts' call: every row's result is its own expert's feed-forward.
-/
module

public import proofs.«01_k».proof.Proof.Acts
public import proofs.«01_k».proof.Proof.Args
public import Idealize.ShloMosaic.Lib.Pipeline.ArrRel
public import Idealize.ShloMosaic.Lib.Pipeline.Covers

@[expose] public section

set_option maxRecDepth 16384

noncomputable section

namespace Cert.KernelIdeal.Hand

open Cert.KernelIdeal Cert.KernelIdeal.Gen Cert.Steps Cert.Spec
open Idealize.ShloMosaic Idealize.ShloMosaic.TcCoe
open Idealize.ShloMosaic.Pipeline (Dat RDat Cfg Window)

variable (a : (pcfg0 (F := Ideal)).Adm) (V : (c : Dev nD) → (b : Ref sig .tc) → Buf (Elt Ideal) ((c : Thread nD τ).loc b)) (k : Dev nD)
variable {c : ℕ → ℕ} (H : TabsAre a.1 c)

variable {X : FVec Ideal ⟨2, ![131072, 2048]⟩ .f32} {Wg Wu : FVec Ideal ⟨3, ![32, 2048, 2048]⟩ .bf16} {b : FVec Ideal ⟨2, ![32, 4096]⟩ .f32}
  {Wd : FVec Ideal ⟨3, ![32, 2048, 2048]⟩ .f32} {bd : FVec Ideal ⟨2, ![32, 2048]⟩ .f32} (A : ArgsAre V k X Wg Wu b Wd bd)

variable (c X Wg Wu b Wd bd) in
/-- The tile of step `s` is right in the rows before the end of the step's expert. -/
def Good (s : ℕ) (Z : FVec Ideal S512x2048 .f32) : Prop :=
  ∀ (r : Fin 512) (j : Fin 2048) (R : Fin 131072) (e : Fin 32), R.val = 512 * tl c s + r.val → R.val < pre c (ex c s + 1) → e.val = own c R.val →
    Z (ix2 r j) = ffn X Wg Wu b Wd bd R e j

include H

/-- Where the output's block lies. -/
theorem idx7 (t : Fin (cfg0 a).N) : ((cfg0 a).win 7).index t = ![tl c (t.val / 4), 0] := by
  have h := im7 H (grid0.coords t)
  rw [(coords_val t).1] at h
  exact h

/-- The output's block is not written back where the next point has the same tile. -/
theorem flush7_false (t : Fin (cfg0 a).N) (h : t.val + 1 < (cfg0 a).N) (he : tl c ((t.val + 1) / 4) = tl c (t.val / 4)) :
    ¬ ((cfg0 a).win 7).flush t = true := by
  intro hf
  rcases (Pipeline.Window.flush_out _ rfl t).1 hf with hN | ⟨h', hne⟩
  · have hN : t.val + 1 = (cfg0 a).N := hN
    omega
  · exact hne ((idx7 a H ⟨t.val + 1, h⟩).trans ((congrArg (fun x => (![x, 0] : Fin 2 → ℕ)) he).trans (idx7 a H t).symm))

include A

/-- The last chunk of a step leaves the tile right up to the end of the step's expert, if the tile came to it right. -/
theorem good_step (t : Fin (cfg0 a).N) (h3 : t.val % 4 = 3) (Y Z : FVec Ideal S512x2048 .f32) (ho : outRel a V k t Y Z)
    (hY : t.val / 4 ≠ 0 → tl c (t.val / 4) = tl c (t.val / 4 - 1) → Good c X Wg Wu b Wd bd (t.val / 4 - 1) Y) :
    Good c X Wg Wu b Wd bd (t.val / 4) Z := by
  have hlt : t.val - 1 < (cfg0 a).N := Nat.lt_of_le_of_lt (Nat.sub_le _ _) t.isLt
  obtain ⟨e0, e1⟩ := coords_val t
  have hsum := H.sum
  have hnl := nst_le hsum
  have hnp := nst_pos hsum
  have h5 : k0_cond5 ((cfg0 a).grid.coords t) = 1#1 := (cond5_iff _).2 (e1.trans h3)
  have hn : nW (tabN a) = BitVec.ofNat 32 (nst c) := nW_eq H
  have c1 : k0_cond1 ((cfg0 a).grid.coords t) (nW (tabN a)) = 1#1 ↔ t.val / 4 < nst c := by
    rw [hn, cond1_iff _ hnl]
    exact ⟨fun h => e0 ▸ h, fun h => e0.symm ▸ h⟩
  by_cases hs : t.val / 4 < nst c
  · have h1 := c1.2 hs
    have hw : k0_chk1 ((cfg0 a).grid.coords t) (nW (tabN a)) (eW _ h5 (tabX a)) := chk_of H _ h5
    obtain ⟨hnew, hold⟩ := ho.2 h1 h5 hw hlt
    have hT := tl_lt hsum (t.val / 4)
    have hT' := tl_lt hsum (t.val / 4 - 1)
    obtain ⟨hE, -, -, hc, hp, hple, -, -⟩ := step_spec hsum (t.val / 4)
    have wT : tW _ h5 (tabT a) = BitVec.ofNat 32 (tl c (t.val / 4)) := (tW_eq H _ h5).trans (by rw [show ((cfg0 a).grid.coords t 0).val = t.val / 4 from e0])
    have wP : tpW _ h5 (tabT a) = BitVec.ofNat 32 (tl c (t.val / 4 - 1)) := (tpW_eq H _ h5).trans (by rw [show ((cfg0 a).grid.coords t 0).val = t.val / 4 from e0])
    have wE : eW _ h5 (tabX a) = BitVec.ofNat 32 (ex c (t.val / 4)) := (eW_eq H _ h5).trans (by rw [show ((cfg0 a).grid.coords t 0).val = t.val / 4 from e0])
    have w0 : g0W _ _ _ hw h1 h5 (tabG a) = BitVec.ofNat 32 (pre c (ex c (t.val / 4))) := g0W_eq H _ _ _ hw h1 h5 _ wE
    have w1 : g1W _ _ _ hw h1 h5 (tabG a) = BitVec.ofNat 32 (pre c (ex c (t.val / 4) + 1)) := g1W_eq H _ _ _ hw h1 h5 _ wE
    have c6 : k0_cond6 ((cfg0 a).grid.coords t) (tW _ h5 (tabT a)) (tpW _ h5 (tabT a)) = 1#1 ↔ t.val / 4 = 0 ∨ tl c (t.val / 4) ≠ tl c (t.val / 4 - 1) := by
      rw [wT, wP, cond6_iff _ hT hT', show ((cfg0 a).grid.coords t 0).val = t.val / 4 from e0]
    have hval : ∀ (r : Fin 512) (j : Fin 2048) (R : Fin 131072) (e : Fin 32), R.val = 512 * tl c (t.val / 4) + r.val →
        pre c (ex c (t.val / 4)) ≤ R.val → R.val < pre c (ex c (t.val / 4) + 1) → e.val = own c R.val →
        k0_pay4 (F := Ideal) (actV a V k t) (accAft a V k (t.val - 1) hlt) (B5 a V k t) (B6 a V k t) (ix2 r j) = ffn X Wg Wu b Wd bd R e j :=
      fun r j R e hR hlo hhi he => out_at a V k H A t hlt _ hs rfl h3 r j R hR e (he.trans (own_eq hsum hE hlo hhi))
    by_cases h6 : t.val / 4 = 0 ∨ tl c (t.val / 4) ≠ tl c (t.val / 4 - 1)
    · have hZ := hnew (c6.2 h6)
      rw [wT, w0, w1] at hZ
      have hfr := fresh_first hsum h6
      intro r j R e hR hhi he
      rw [hZ, pay5_at _ hT (by omega) (by omega), if_pos ⟨by omega, by omega⟩]
      exact hval r j R e hR (by omega) hhi he
    · have hZ := hold (fun h => h6 (c6.1 h))
      rw [wT, w0, w1] at hZ
      have h0 : t.val / 4 ≠ 0 := fun h => h6 (.inl h)
      have htl : tl c (t.val / 4) = tl c (t.val / 4 - 1) := by
        by_contra h; exact h6 (.inr h)
      have hag : pre c (ex c (t.val / 4)) = pre c (ex c (t.val / 4 - 1) + 1) := by
        have hs1 : t.val / 4 - 1 + 1 = t.val / 4 := by omega
        have := again hsum (s := t.val / 4 - 1) (by omega) (by rw [hs1]; exact htl)
        rwa [hs1] at this
      intro r j R e hR hhi he
      rw [hZ, pay6_at _ hT (by omega) (by omega)]
      by_cases hlo : pre c (ex c (t.val / 4)) ≤ R.val
      · rw [if_pos ⟨by omega, by omega⟩]
        exact hval r j R e hR hlo hhi he
      · rw [if_neg (by omega)]
        exact hY h0 htl r j R e (by omega) (by omega) he
  · have hZ : Z = Y := ho.1 fun h => hs (c1.1 h.1)
    have h0 : t.val / 4 ≠ 0 := by omega
    have hs1 : t.val / 4 - 1 + 1 = t.val / 4 := by omega
    obtain ⟨hx, ht⟩ := stay (c := c) (s := t.val / 4 - 1) (by omega)
    rw [hs1] at hx ht
    have hg := hY h0 ht
    unfold Good at hg ⊢
    rw [hx, ht, hZ]
    exact hg

/-- What a point finds in the output's block, where the step repeats the tile of the one before. -/
theorem good_finds : ∀ n (t : Fin (cfg0 a).N), t.val = n → ∀ Y, (rdat a V k).Finds 7 t Y →
    t.val / 4 ≠ 0 → tl c (t.val / 4) = tl c (t.val / 4 - 1) → Good c X Wg Wu b Wd bd (t.val / 4 - 1) Y := by
  intro n
  induction n with
  | zero => intro t ht Y hY h0; exact absurd (show t.val / 4 = 0 by omega) h0
  | succ n ih =>
    intro t ht Y hY h0 htl
    have hlt : t.val - 1 < (cfg0 a).N := Nat.lt_of_le_of_lt (Nat.sub_le _ _) t.isLt
    rw [RDat.finds_of_pos _ (Pipeline.Window.fetch_out _ rfl t) (by omega)] at hY
    have hsucc : t.val - 1 + 1 = t.val := by omega
    by_cases h3 : (t.val - 1) % 4 = 3
    · have hd : (t.val - 1) / 4 = t.val / 4 - 1 := by omega
      rcases hY with hf | ⟨Y0, hY0, hr⟩
      · exact absurd hf (flush7_false a H ⟨t.val - 1, hlt⟩ (by show t.val - 1 + 1 < _; rw [hsucc]; exact t.isLt)
          (by show tl c ((t.val - 1 + 1) / 4) = tl c ((t.val - 1) / 4); rw [hsucc, hd]; exact htl))
      · have := good_step a V k H A ⟨t.val - 1, hlt⟩ h3 Y0 Y hr (ih ⟨t.val - 1, hlt⟩ (by simp only; omega) Y0 hY0)
        simp only [hd] at this
        exact this
    · have hd : (t.val - 1) / 4 = t.val / 4 := by omega
      rcases hY with hf | ⟨Y0, hY0, hr⟩
      · exact absurd hf (flush7_false a H ⟨t.val - 1, hlt⟩ (by show t.val - 1 + 1 < _; rw [hsucc]; exact t.isLt)
          (by show tl c ((t.val - 1 + 1) / 4) = tl c ((t.val - 1) / 4); rw [hsucc, hd]))
      · have hk : Y = Y0 := hr.1 fun h => h3 (((coords_val ⟨t.val - 1, hlt⟩).2.symm).trans ((cond5_iff _).1 h.2))
        have := ih ⟨t.val - 1, hlt⟩ (by simp only; omega) Y0 hY0
        simp only [hd] at this
        rw [hk]
        exact this h0 htl

/-- What is written back is right in every row. -/
theorem good_flush (t : Fin (cfg0 a).N) (hf : ((cfg0 a).win 7).flush t = true) (Z) (hZ : (rdat a V k).Leaves 7 t Z) (r : Fin 512) (j : Fin 2048)
    (R : Fin 131072) (e : Fin 32) (hR : R.val = 512 * tl c (t.val / 4) + r.val) (he : e.val = own c R.val) :
    (Z : FVec Ideal S512x2048 .f32) (ix2 r j) = ffn X Wg Wu b Wd bd R e j := by
  have hN : (cfg0 a).N = 1148 := N_0
  have htN := t.isLt
  have key : t.val % 4 = 3 ∧ (286 ≤ t.val / 4 ∨ tl c (t.val / 4 + 1) ≠ tl c (t.val / 4)) := by
    rcases (Pipeline.Window.flush_out _ rfl t).1 hf with h | ⟨h, hne⟩
    · have h : t.val + 1 = (cfg0 a).N := h
      exact ⟨by omega, .inl (by omega)⟩
    · have hne' : tl c ((t.val + 1) / 4) ≠ tl c (t.val / 4) := fun h' => flush7_false a H t h h' hf
      have h3 : t.val % 4 = 3 := by
        by_contra h3
        exact hne' (by rw [show (t.val + 1) / 4 = t.val / 4 by omega])
      exact ⟨h3, .inr (by rw [show t.val / 4 + 1 = (t.val + 1) / 4 by omega]; exact hne')⟩
  obtain ⟨Y, hY, ho⟩ := hZ
  have hl := fresh_last H.sum key.2
  exact good_step a V k H A t key.1 Y Z ho (good_finds a V k H A _ t rfl Y hY) r j R e hR (by omega) he

omit A in
/-- Every tile is written back. -/
theorem covers7 : ((cfg0 a).win 7).Covers := by
  refine Pipeline.Window.covers_of_indexMap_surj _ rfl (fun x => ?_) fun β => ?_
  · match x with
    | ⟨0, _⟩ => exact (by decide : 0 < 512)
    | ⟨1, _⟩ => exact (by decide : 0 < 2048)
  have hb0 : (β (0 : Fin 2)).val < 256 := lt_of_lt_of_eq (β (0 : Fin 2)).isLt (by show ((131072 + 512 - 1) / 512 : ℕ) = 256; decide)
  have hb1 : (β (1 : Fin 2)).val < 1 := lt_of_lt_of_eq (β (1 : Fin 2)).isLt (by show ((2048 + 2048 - 1) / 2048 : ℕ) = 1; decide)
  obtain ⟨s, hs, hst⟩ := tl_cover H.sum hb0
  have hN : (cfg0 a).N = 1148 := N_0
  have hlt : 4 * s < (cfg0 a).N := by omega
  refine ⟨grid0.coords ⟨4 * s, hlt⟩, fun x => ?_⟩
  refine Eq.trans (congrFun (idx7 a H ⟨4 * s, hlt⟩) x) ?_
  match x with
  | ⟨0, _⟩ => show tl c (4 * s / 4) = (β (0 : Fin 2)).val; rw [show 4 * s / 4 = s by omega]; exact hst
  | ⟨1, _⟩ => show 0 = (β (1 : Fin 2)).val; omega

/-- The result's array after the run. -/
theorem out_eq (E : Fin 131072 → Fin 32) (hE : ∀ R, (E R).val = own c R.val) {r : PUnit × MemSt nD τ sig (Elt Ideal)}
    (hr : RDat.FramePost (cfg0 a) (fun c => rdat a V c) V r) :
    r.2.mem ((k : Thread nD τ).loc main_v56) = (fun i : S131072x2048.Idx => ffn X Wg Wu b Wd bd (i 0) (E (i 0)) (i 1)) := by
  obtain ⟨aft, hl, he⟩ := RDat.FramePost.exists_exact hr k
  refine (he 7).trans (Pipeline.Dat.arrAt_eq_of_covers _ 7 _ (covers7 a H) fun t hf y => ?_)
  have hg := good_flush a V k H A t hf _ (hl 7 t hf)
  have hi := idx7 a H t
  obtain ⟨z, hz⟩ : ∃ z : S512x2048.Idx, z = ((cfg0 a).win 7).xinj ((cfg0 a).grid.coords t) y := ⟨_, rfl⟩
  obtain ⟨p, hp⟩ : ∃ p : S131072x2048.Idx, p = (((cfg0 a).win 7).blk t).view.emb y := ⟨_, rfl⟩
  have hzz : z = ix2 (z 0) (z 1) := by
    funext x
    match x with
    | ⟨0, _⟩ => rfl
    | ⟨1, _⟩ => rfl
  have m0 : (p 0).val = 512 * tl c (t.val / 4) + (z 0).val := by
    have h : (p 0).val = ((cfg0 a).win 7).index t (0 : Fin 2) * 512 + 1 * (z 0).val := by rw [hp, hz]; rfl
    rw [h, hi]
    show tl c (t.val / 4) * 512 + 1 * (z 0).val = _
    omega
  have m1 : p 1 = z 1 := by
    have h : (p 1).val = ((cfg0 a).win 7).index t (1 : Fin 2) * 2048 + 1 * (z 1).val := by rw [hp, hz]; rfl
    refine Fin.ext (h.trans ?_)
    rw [hi]
    show 0 * 2048 + 1 * (z 1).val = _
    omega
  have hfin : (aft 7 t : S512x2048.Idx → EReal) z = ffn X Wg Wu b Wd bd (p 0) (E (p 0)) (p 1) := by
    rw [m1, hzz]
    exact hg (z 0) (z 1) _ _ m0 (hE _)
  rw [hz, hp] at hfin
  exact hfin

end Cert.KernelIdeal.Hand

end
-- ==== Proof.RVal.lean ====
/-
  The reference at an entry: the feed-forward of the expert in whose segment the row lies.
-/
module

public import proofs.«01_k».proof.Proof.Gen.ReferenceIdeal.Run
public import proofs.«01_k».proof.Proof.Spec
public import proofs.«01_k».proof.Proof.Steps
public import Idealize.ShloMosaic.Lib.Pointwise
public import Idealize.ShloMosaic.Lib.Routing.Words
public import Idealize.ShloMosaic.Lib.Routing.OpsSet

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Pointwise
open Cert.Steps Cert.Spec

/-- The expert of each row, as the reference counts it. -/
def refExp (C : IVec S32 32) : IVec S131072 32 :=
  Host.reduce IntOp.addi (extui 32 (cmpi .sle (broadcastInDim S32x131072 ![0, 1] bcast_S32x1_S32x131072_0_1 (broadcastInDim S32x1 ![0] bcast_S32_S32x1_0 (Host.reduceWindow IntOp.addi ![32] ![1] ![31] ![0] C (broadcastInDim S_ ![] bcast_S_S_ (constantI S_ 32 0#32)) reduceWindows_S32_S32_w32s1p31_0 h_S_))) (broadcastInDim S32x131072 ![0, 1] bcast_S1x131072_S32x131072_0_1 (broadcastInDim S1x131072 ![1] bcast_S131072_S1x131072_1 (iotaInDim S131072 32 0)))) natLt_1_32) (constantI S_ 32 0#32) reducesTo_S32x131072_S131072_d0 h_S_

section
variable (X : FVec Ideal S131072x2048 .f32) (Wg Wu : FVec Ideal S32x2048x2048 .bf16) (b : FVec Ideal S32x4096 .f32)

/-- The clamped gate. -/
def refGate : FVec Ideal S32x131072x2048 .f32 :=
  minimumf (addf (transpose S32x131072x2048 [0, 2, 1] (Host.dotGeneral dot_S32x2048x2048_S131072x2048_S32x2048x131072_1_1_02_0_n_n none (extf .f32 Wg bitsLt_bf16_f32) X) transposes_S32x2048x131072_S32x131072x2048_0_2_1) (broadcastInDim S32x131072x2048 ![0, 1, 2] bcast_S32x1x2048_S32x131072x2048_0_1_2 (broadcastInDim S32x1x2048 ![0, 2] bcast_S32x2048_S32x1x2048_0_2 (Host.slice S32x2048 ![0, 0] ![1, 2] b slicesBy_S32x4096_S32x2048_0s1_0s2)))) (broadcastInDim S32x131072x2048 ![] bcast_S_S32x131072x2048 (constant S_ .f32 0x40E00000#32))

/-- The clamped up projection. -/
def refUp : FVec Ideal S32x131072x2048 .f32 :=
  minimumf (broadcastInDim S32x131072x2048 ![] bcast_S_S32x131072x2048 (id (constant S_ .f32 0x40E00000#32))) (maximumf (broadcastInDim S32x131072x2048 ![] bcast_S_S32x131072x2048 (id (constant S_ .f32 0xC0E00000#32))) (addf (transpose S32x131072x2048 [0, 2, 1] (Host.dotGeneral dot_S32x2048x2048_S131072x2048_S32x2048x131072_1_1_02_0_n_n none (extf .f32 Wu bitsLt_bf16_f32) X) transposes_S32x2048x131072_S32x131072x2048_0_2_1) (broadcastInDim S32x131072x2048 ![0, 1, 2] bcast_S32x1x2048_S32x131072x2048_0_1_2 (broadcastInDim S32x1x2048 ![0, 2] bcast_S32x2048_S32x1x2048_0_2 (Host.slice S32x2048 ![0, 1] ![1, 2] b slicesBy_S32x4096_S32x2048_0s1_1s2)))))

/-- The activation. -/
def refAct : FVec Ideal S32x131072x2048 .f32 :=
  mulf (mulf (addf (refUp X Wu b) (broadcastInDim S32x131072x2048 ![] bcast_S_S32x131072x2048 (constant S_ .f32 0x3F800000#32))) (refGate X Wg b)) (Host.divf (broadcastInDim S32x131072x2048 ![] bcast_S_S32x131072x2048 (constant S_ .f32 0x3F800000#32)) (addf (broadcastInDim S32x131072x2048 ![] bcast_S_S32x131072x2048 (constant S_ .f32 0x3F800000#32)) (Host.exp (Host.negf (mulf (broadcastInDim S32x131072x2048 ![] bcast_S_S32x131072x2048 (constant S_ .f32 0x3FD9DB23#32)) (refGate X Wg b))))))

end

/-- The reference's result. -/
def refOut (C : IVec S32 32) (X : FVec Ideal S131072x2048 .f32) (Wg Wu : FVec Ideal S32x2048x2048 .bf16) (b : FVec Ideal S32x4096 .f32)
    (Wd : FVec Ideal S32x2048x2048 .f32) (bd : FVec Ideal S32x2048 .f32) : FVec Ideal S131072x2048 .f32 :=
  Host.reduceAdd (select (broadcastInDim S32x131072x2048 ![0, 1, 2] bcast_S32x131072x1_S32x131072x2048_0_1_2 (cmpi .eq (broadcastInDim S32x131072x1 ![0, 1, 2] bcast_S1x131072x1_S32x131072x1_0_1_2 (broadcastInDim S1x131072x1 ![1] bcast_S131072_S1x131072x1_1 (refExp C))) (broadcastInDim S32x131072x1 ![0, 1, 2] bcast_S32x1x1_S32x131072x1_0_1_2 (broadcastInDim S32x1x1 ![0] bcast_S32_S32x1x1_0 (iotaInDim S32 32 0))))) (addf (Host.dotGeneral dot_S32x131072x2048_S32x2048x2048_S32x131072x2048_2_1_1_2_0_0 none (refAct X Wg Wu b) Wd) (broadcastInDim S32x131072x2048 ![0, 1, 2] bcast_S32x1x2048_S32x131072x2048_0_1_2 (broadcastInDim S32x1x2048 ![0, 2] bcast_S32x2048_S32x1x2048_0_2 bd))) (broadcastInDim S32x131072x2048 ![] bcast_S_S32x131072x2048 (id (constant S_ .f32 0x00000000#32)))) (constant S_ .f32 0x00000000#32) reducesTo_S32x131072x2048_S131072x2048_d0 h_S_

/-- A row's expert is the number of experts whose rows are over. -/
theorem refExp_at {C : IVec S32 32} {c : ℕ → ℕ} (hC : ∀ i : Fin 32, C (ValueIdx.ix1 i) = BitVec.ofNat 32 (c i.val)) (hs : pre c 32 = 131072)
    (R : Fin 131072) : refExp C (ix1 R) = BitVec.ofNat 32 (own c R.val) := by
  have hR := R.isLt
  show refExp C (ValueIdx.ix1 R) = _
  unfold refExp
  apply BitVec.eq_of_toNat_eq
  have hle : own c R.val ≤ 32 := Nat.count_le _
  rw [BitVec.toNat_ofNat, Nat.mod_eq_of_lt (by omega), own, ← Routing.card_filter_fin]
  refine (StableHlo.Predicate.toNat_reduce_count_rows (by decide) _ _ _ _ _).trans ?_
  refine congrArg Finset.card (Finset.filter_congr fun q _ => ?_)
  have hq : pre c (q.val + 1) ≤ 131072 := hs ▸ pre_mono c (by omega)
  show IntOp.cmpi .sle (broadcastInDim S32x131072 ![0, 1] bcast_S32x1_S32x131072_0_1 (broadcastInDim S32x1 ![0] bcast_S32_S32x1_0 (Host.reduceWindow IntOp.addi ![32] ![1] ![31] ![0] C (broadcastInDim S_ ![] bcast_S_S_ (constantI S_ 32 0#32)) reduceWindows_S32_S32_w32s1p31_0 h_S_)) (ValueIdx.ix2 q R))
      (broadcastInDim S32x131072 ![0, 1] bcast_S1x131072_S32x131072_0_1 (broadcastInDim S1x131072 ![1] bcast_S131072_S1x131072_1 (iotaInDim S131072 32 0)) (ValueIdx.ix2 q R)) = 1#1 ↔ _
  rw [Routing.bcRows, Routing.bcCols, Routing.cumsum1 rfl C c hC _ (Routing.bc0 _ _ _), sum_range]
  exact WordCmp.cmpi_sle_ofNat_eq_one_iff (w := 32) (a := pre c (q.val + 1)) (b := R.val) (by omega) (by omega)

theorem own_lt {c : ℕ → ℕ} (hs : pre c 32 = 131072) {R : ℕ} (hR : R < 131072) : own c R < 32 := by
  have hdown : ∀ a b, a ≤ b → b < 32 → pre c (b + 1) ≤ R → pre c (a + 1) ≤ R :=
    fun a b hab _ h => (pre_mono _ (by omega)).trans h
  have key : 31 < own c R ↔ pre c (31 + 1) ≤ R := (Routing.lt_count_iff hdown (by decide)).symm
  by_contra h
  have h1 := key.1 (by omega)
  rw [show pre c (31 + 1) = 131072 from hs] at h1
  omega

section
variable (X : FVec Ideal S131072x2048 .f32) (Wg Wu : FVec Ideal S32x2048x2048 .bf16) (b : FVec Ideal S32x4096 .f32)

theorem refGate_at (e : Fin 32) (R : Fin 131072) (k : Fin 2048) :
    refGate X Wg b (ix3 e R k)
      = min (∑ d : Fin 2048, X (ix2 R d) * Wg (ix3 e d k) + b (ix2 e (⟨2 * k.val, by omega⟩ : Fin 4096))) (Ideal.ofBits .f32 1088421888#32) := by
  pointwise [refGate]
  simp only [mul_comm]

theorem refUp_at (e : Fin 32) (R : Fin 131072) (k : Fin 2048) :
    refUp X Wu b (ix3 e R k)
      = min (Ideal.ofBits .f32 1088421888#32) (max (Ideal.ofBits .f32 3235905536#32)
          (∑ d : Fin 2048, X (ix2 R d) * Wu (ix3 e d k) + b (ix2 e (⟨2 * k.val + 1, by omega⟩ : Fin 4096)))) := by
  pointwise [refUp, id]
  have hk : (⟨1 + 2 * k.val, by omega⟩ : Fin 4096) = ⟨2 * k.val + 1, by omega⟩ := Fin.ext (Nat.add_comm _ _)
  rw [hk, Finset.sum_congr rfl fun d _ => mul_comm (Wu (ix3 e d k)) (X (ix2 R d))]

theorem refAct_at (e : Fin 32) (R : Fin 131072) (k : Fin 2048) : refAct X Wg Wu b (ix3 e R k) = hid X Wg Wu b R e k := by
  pointwise [refAct]
  rw [refGate_at, refUp_at]
  rfl

/-- The reference's result at an entry. -/
theorem refOut_at {C : IVec S32 32} {c : ℕ → ℕ} (hC : ∀ i : Fin 32, C (ValueIdx.ix1 i) = BitVec.ofNat 32 (c i.val)) (hs : pre c 32 = 131072)
    (Wd : FVec Ideal S32x2048x2048 .f32) (bd : FVec Ideal S32x2048 .f32) (R : Fin 131072) (j : Fin 2048) :
    refOut C X Wg Wu b Wd bd (ix2 R j) = ffn X Wg Wu b Wd bd R ⟨own c R.val, own_lt hs R.isLt⟩ j := by
  have ho := own_lt hs R.isLt
  pointwise [refOut, id]
  rw [refExp_at hC hs, Finset.sum_eq_single (⟨own c R.val, ho⟩ : Fin 32)]
  · rw [(WordCmp.cmpi_eq_ofNat_eq_one_iff (w := 32) (by omega) (by omega)).2 rfl]
    show _ = _
    unfold ffn
    simp only [refAct_at]
    rfl
  · intro e _ he
    have h : ¬ IntOp.cmpi .eq (BitVec.ofNat 32 (own c R.val)) (BitVec.ofNat 32 e.val) = 1#1 := fun h =>
      he (Fin.ext ((WordCmp.cmpi_eq_ofNat_eq_one_iff (w := 32) (by omega) (by omega)).1 h).symm)
    exact if_neg h
  · intro h; exact absurd (Finset.mem_univ _) h

end

end Cert.ReferenceIdeal.Hand

end
-- ==== Proof.Algebraic.lean ====
/-
  The value claim: in ideal arithmetic the kernel's result is the reference's.
-/
module

public import proofs.«01_k».proof.Proof.Frames
public import proofs.«01_k».proof.Proof.KVal
public import proofs.«01_k».proof.Proof.RVal

@[expose] public section

set_option maxRecDepth 16384
set_option maxHeartbeats 1000000

noncomputable section

namespace Cert.Proof

open Idealize.ShloMosaic Idealize.ShloMosaic.TcCoe Idealize.SL.Sem
open Cert.KernelIdeal.Hand Cert.Steps Cert.Spec

attribute [local instance] Cert.Kernel.Gen.facts Cert.KernelIdeal.Gen.facts Cert.ReferenceIdeal.Gen.facts Cert.Pre_counts_of_rows.Gen.facts

variable (m : (ℓ : Loc Cert.KernelIdeal.nD Cert.KernelIdeal.τ Cert.KernelIdeal.sig) → Buf (Elt Ideal) ℓ)

/-- The arrays of the call hold the arguments. -/
theorem argsAre (c : Dev Cert.KernelIdeal.nD) :
    ArgsAre (Vr m) c (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) where
  x R d := congrFun (vr_arg1 m c) _
  g e d K := congrFun (vr_arg2 m c) _
  u e d K := congrFun (vr_arg3 m c) _
  bg e K := vr_v51 c m e K
  bu e K := vr_v54 c m e K
  d e K j := congrFun (vr_arg5 m c) _
  bd e j := vr_v55 c m e j

/-- The result: each row's own expert applied to it. -/
def outOf (hs : pre (cntOf m) 32 = 131072) (c : Dev Cert.KernelIdeal.nD) : Cert.KernelIdeal.S131072x2048.Idx → EReal := fun i =>
  ffn (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4))
    (m ((c.tc : Thread Cert.KernelIdeal.nD Cert.KernelIdeal.τ).loc Cert.KernelIdeal.main_arg5)) (m ((c.tc : Thread Cert.KernelIdeal.nD Cert.KernelIdeal.τ).loc Cert.KernelIdeal.main_arg6))
    (i 0) ⟨own (cntOf m) (i 0).val, Cert.ReferenceIdeal.Hand.own_lt hs (i 0).isLt⟩ (i 1)

/-- The reference's result of the same arguments. -/
theorem ref_eq (hs : pre (cntOf m) 32 = 131072) (c : Dev Cert.KernelIdeal.nD) :
    Cert.ReferenceIdeal.Hand.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) = outOf m hs c := by
  obtain rfl : c = 0 := Subsingleton.elim _ _
  funext i
  obtain ⟨R, j, rfl⟩ : ∃ (R : Fin 131072) (j : Fin 2048), i = ix2 R j := ⟨i 0, i 1, by
    funext x
    match x with
    | ⟨0, _⟩ => rfl
    | ⟨1, _⟩ => rfl⟩
  exact Cert.ReferenceIdeal.Hand.refOut_at _ _ _ _ (c := cntOf m) (fun i => Cert.Pre_counts_of_rows.Hand.cnt_ap _ i) hs _ _ R j

/-- The kernel's result. -/
theorem kernel_eq (hs : pre (cntOf m) 32 = 131072) {r : PUnit × MemSt Cert.KernelIdeal.nD Cert.KernelIdeal.τ Cert.KernelIdeal.sig (Elt Ideal)}
    (hr : Idealize.ShloMosaic.Pipeline.RDat.FramePost (Cert.KernelIdeal.cfg0 (admOf (tabsOk_of m hs))) (fun c => rdat (admOf (tabsOk_of m hs)) (Vr m) c) (Vr m) r)
    (c : Dev Cert.KernelIdeal.nD) : r.2.mem ((c.tc : Thread Cert.KernelIdeal.nD Cert.KernelIdeal.τ).loc Cert.KernelIdeal.main_v56) = outOf m hs c :=
  out_eq (admOf (tabsOk_of m hs)) (Vr m) c (c := cntOf m) (tabsAre_of m hs) (argsAre m c)
    (fun R => ⟨own (cntOf m) R.val, Cert.ReferenceIdeal.Hand.own_lt hs R.isLt⟩) (fun _ => rfl) hr

theorem algebraic : Cert.algebraic_KernelIdeal_ReferenceIdeal := by
  intro m g m' g' hp hm
  have hs := sum_ideal m hp
  refine ⟨outOf m hs, ?_, ?_⟩
  · exact (θ_run _ _ _).mono (fun r hr c => ⟨kernel_eq m hs hr.1 c, args_kept m c (args_after (admOf (tabsOk_of m hs)) (Vr m) hr.1 c)⟩)
      (run_main g (tabsOk_of m hs))
  · refine (θ_run Cert.ReferenceIdeal.defs _ _).mono (fun r h c => ⟨?_, (h c).2⟩) (Cert.ReferenceIdeal.Value.run (F := Ideal) m' g')
    refine (h c).1.trans ?_
    obtain ⟨e0, e1, e2, e3, e4, e5, e6⟩ := hm c
    rw [e0, e1, e2, e3, e4, e5, e6]
    exact ref_eq m hs c

end Cert.Proof

end
-- ==== Proof.Inproj.Spec.lean ====
/-
  The projection of the normalised tokens, written as sums over the extended reals.
-/
module

public import Idealize.ShloMosaic.Lib.Pointwise
public import Idealize.ShloMosaic.Lib.IdealHost

@[expose] public section

noncomputable section

namespace Cert.Inproj

open Idealize.ShloMosaic

/-- A token's row, normalised by its root mean square, times the gain and the modulation's scale, plus its shift. -/
def normed (x g sc sh : Fin 2048 → EReal) (d : Fin 2048) : EReal :=
  x d * Ideal.rsqrt (Ideal.div (∑ e : Fin 2048, x e * x e) (Ideal.ofBits .f32 1157627904#32) + Ideal.ofBits .f32 925353388#32) * g d * (1 + sc d) + sh d

variable (x0 : FVec Ideal ⟨3, ![2, 8192, 2048]⟩ .f32) (x1 : FVec Ideal ⟨3, ![1, 16384, 2048]⟩ .f32) (md : FVec Ideal ⟨2, ![8, 12288]⟩ .f32)
  (g : FVec Ideal ⟨1, ![2048]⟩ .f32) (w : FVec Ideal ⟨2, ![2048, 6144]⟩ .f32)

/-- Row `R` of the tokens of both groups, one after the other. -/
def tok (R : Fin 32768) (d : Fin 2048) : EReal :=
  if h : R.val < 16384 then x0 (ix3 (⟨R.val / 8192, by omega⟩ : Fin 2) (⟨R.val % 8192, by omega⟩ : Fin 8192) d)
  else x1 (ix3 (0 : Fin 1) (⟨R.val - 16384, by omega⟩ : Fin 16384) d)

/-- The segment of row `R`: two of the first group, one of the second. -/
def seg (R : Fin 32768) : Fin 8 := ⟨min (R.val / 8192) 2, by omega⟩

/-- The normalised and modulated row `R`. -/
def row (R : Fin 32768) : Fin 2048 → EReal :=
  normed (tok x0 x1 R) (fun d => g (ix1 d)) (fun d => md (ix2 (seg R) (⟨2048 + d.val, by omega⟩ : Fin 12288)))
    (fun d => md (ix2 (seg R) (⟨d.val, by omega⟩ : Fin 12288)))

/-- The column of the weights behind column `C` of the queries and keys. -/
def col (C : Fin 4096) : Fin 6144 := if h : C.val < 2048 then ⟨C.val, by omega⟩ else ⟨C.val + 1024, by omega⟩

/-- The factor of column `C`: the queries' carry one, the keys' none. -/
def fac (C : Fin 4096) : EReal :=
  if C.val < 1024 then Ideal.ofBits .f32 0x3FB8AA3B#32 else if C.val < 2048 then 1 else if C.val < 3072 then Ideal.ofBits .f32 0x3E0293EE#32 else 1

/-- Entry `(R, C)` of the queries and keys. -/
def proj (R : Fin 32768) (C : Fin 4096) : EReal := (∑ d : Fin 2048, row x0 x1 md g R d * w (ix2 d (col C))) * fac C

/-- Entry `(R, J)` of the projection with all columns. -/
def full (R : Fin 32768) (J : Fin 6144) : EReal := ∑ d : Fin 2048, row x0 x1 md g R d * w (ix2 d J)

/-- A number that is not negative, as an extended real. -/
theorem real_ok {k : EReal} {x : ℝ} (h : k = (x : EReal)) (hx : 0 ≤ x) : 0 ≤ k ∧ k ≠ ⊤ := by
  subst h
  exact ⟨EReal.coe_nonneg.mpr hx, EReal.coe_ne_top x⟩

/-- Every factor is a number that is not negative. -/
theorem fac_ok (C : Fin 4096) : 0 ≤ fac C ∧ fac C ≠ ⊤ := by
  have one : (0 : EReal) ≤ 1 ∧ (1 : EReal) ≠ ⊤ := real_ok (x := 1) (by norm_cast) (by norm_num)
  unfold fac
  split
  · refine real_ok (x := 12102203 * 2 ^ (-23 : ℤ)) ?_ (by positivity)
    simp [Ideal.ofBits, Ideal.ieee, -EReal.coe_mul]
  split
  · exact one
  split
  · refine real_ok (x := 8557550 * 2 ^ (-26 : ℤ)) ?_ (by positivity)
    simp [Ideal.ofBits, Ideal.ieee, -EReal.coe_mul]
  · exact one

/-- A sum times a number that is not negative is the sum of the products. -/
theorem sum_mul_real {n : ℕ} (f : Fin n → EReal) {k : EReal} (h0 : 0 ≤ k) (ht : k ≠ ⊤) : (∑ d, f d) * k = ∑ d, f d * k := by
  induction n with
  | zero => simp
  | succ n ih =>
    rw [Fin.sum_univ_succ, Fin.sum_univ_succ, EReal.right_distrib_of_nonneg_of_ne_top h0 ht, ih]

/-- The factor may be applied to the weights. -/
theorem proj_eq (R : Fin 32768) (C : Fin 4096) :
    proj x0 x1 md g w R C = ∑ d : Fin 2048, row x0 x1 md g R d * (w (ix2 d (col C)) * fac C) := by
  unfold proj
  rw [sum_mul_real _ (fac_ok C).1 (fac_ok C).2]
  exact Finset.sum_congr rfl fun d _ => mul_assoc _ _ _

end Cert.Inproj

end
-- ==== Proof.Inproj.Out.lean ====
/-
  What the body of the projection leaves in its output block, at an entry.
-/
module

public import proofs.«01_k».proof.Proof.Gen.Kernel2Ideal.Value
public import proofs.«01_k».proof.Proof.Inproj.Spec
public import Idealize.ShloMosaic.Lib.Pointwise
public import Idealize.ShloMosaic.Lib.Pipeline.ValueKit

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Pointwise
open Cert.Inproj

section
variable (i : grid0.Coords) (x0 x1 : Vec Ideal S512x2048 .f32) (g sc sh : Vec Ideal S1x2048 .f32) (w : Vec Ideal S2048x1024 .bf16)

/-- The tokens of a step: of the first group, or of the second. -/
theorem pay5_at (r : Fin 512) (d : Fin 2048) :
    k0_pay5 i x0 x1 (ix2 r d) = if (i 1).val < 32 then x0 (ix2 r d) else x1 (ix2 r d) := by
  have hi : (i 1).val < 64 := (i 1).isLt
  pointwise [k0_pay5]
  by_cases h : (i 1).val < 32
  · rw [if_pos h]
    exact if_pos ((WordCmp.cmpi_slt_ofNat_eq_one_iff (w := 32) (a := (i 1).val) (b := 32) (by omega) (by omega)).2 h)
  · rw [if_neg h]
    exact if_neg fun e => h ((WordCmp.cmpi_slt_ofNat_eq_one_iff (w := 32) (a := (i 1).val) (b := 32) (by omega) (by omega)).1 e)

/-- The product of a step. -/
theorem pay9_at (r : Fin 512) (j : Fin 1024) :
    k0_pay9 (F := Ideal) (k0_pay5 i x0 x1) (k0_pay6 g) sc sh (k0_pay7 i x0 x1) (k0_pay8 (F := Ideal)) w (ix2 r j)
      = ∑ d : Fin 2048, normed (fun e => if (i 1).val < 32 then x0 (ix2 r e) else x1 (ix2 r e)) (fun e => g (ix2 (0 : Fin 1) e))
          (fun e => sc (ix2 (0 : Fin 1) e)) (fun e => sh (ix2 (0 : Fin 1) e)) d * w (ix2 d j) := by
  pointwise [k0_pay9, k0_pay6, k0_pay7, k0_pay8]
  simp only [pay5_at]
  rfl

end

/-- The output block of a step, at an entry. -/
theorem out_at (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S8x2048 .f32) (harg4 : arg4.IsWhole) (arg5 : Memref sig .tc .vmem S8x2048 .f32) (harg5 : arg5.IsWhole) (arg6 : Memref sig .tc .vmem S1x2048 .f32) (harg6 : arg6.IsWhole) (arg7 : Memref sig .tc .vmem S2048x1024 .bf16) (harg7 : arg7.IsWhole) (arg8 : Memref sig .tc .vmem S8x512x128 .bf16) (harg8 : arg8.IsWhole)
    (x0 : Vec Ideal S512x2048 .f32) (x1 : Vec Ideal S512x2048 .f32) (x2 : Vec Ideal S8x2048 .f32) (x3 : Vec Ideal S8x2048 .f32) (x4 : Vec Ideal S1x2048 .f32) (x5 : Vec Ideal S2048x1024 .bf16)
    (q : Fin 8) (r : Fin 512) (l : Fin 128) (s : Fin 8) (hs : k0_off1 i = ![s.val, 0]) :
    out0_A_6 (F := Ideal) c i arg2 harg2 arg3 harg3 arg4 harg4 arg5 harg5 arg6 harg6 arg7 harg7 arg8 harg8 x0 x1 x2 x3 x4 x5 (ix3 q r l)
      = ∑ d : Fin 2048, normed (fun e => if (i 1).val < 32 then x0 (ix2 r e) else x1 (ix2 r e)) (fun e => x4 (ix2 (0 : Fin 1) e))
          (fun e => x3 (ix2 s e)) (fun e => x2 (ix2 s e)) d * x5 (ix2 d (⟨q.val * 128 + l.val, by omega⟩ : Fin 1024)) := by
  have hsc : ∀ e : Fin 2048, View.ld x3 (Rect.unit (s := S8x2048) (k0_off1 i) S1x2048.size (Gen.facts.k0_off1_inb i)) (ix2 (0 : Fin 1) e) = x3 (ix2 s e) := fun e =>
    View.ld_unit_apply_of _ _ _ _ _ _ fun a => by
      match a with
      | ⟨0, _⟩ => exact (congrFun hs 0).symm
      | ⟨1, _⟩ => exact ((congrArg (· + e.val) (congrFun hs 1)).trans (Nat.zero_add _)).symm
  have hsh : ∀ e : Fin 2048, View.ld x2 (Rect.unit (s := S8x2048) (k0_off1 i) S1x2048.size (Gen.facts.k0_off1_inb i)) (ix2 (0 : Fin 1) e) = x2 (ix2 s e) := fun e =>
    View.ld_unit_apply_of _ _ _ _ _ _ fun a => by
      match a with
      | ⟨0, _⟩ => exact (congrFun hs 0).symm
      | ⟨1, _⟩ => exact ((congrArg (· + e.val) (congrFun hs 1)).trans (Nat.zero_add _)).symm
  have key := fun (j : Fin 1024) => pay9_at i x0 x1 x4 (View.ld x3 (Rect.unit (s := S8x2048) (k0_off1 i) S1x2048.size (Gen.facts.k0_off1_inb i)))
    (View.ld x2 (Rect.unit (s := S8x2048) (k0_off1 i) S1x2048.size (Gen.facts.k0_off1_inb i))) x5 r j
  simp only [hsc, hsh] at key
  frame_out
  canon_tiles x h
  all_goals
    have hx0 : (x 0).val < 1 := (x 0).isLt
    have hq : q.val = _ := h0
    rw [Nat.lt_one_iff.mp hx0] at hq
    clear h0
    obtain rfl : x = ix3 (0 : Fin 1) r l := by
      funext a
      refine Fin.ext ?_
      match a with
      | ⟨0, _⟩ => exact Nat.lt_one_iff.mp hx0
      | ⟨1, _⟩ => exact h1.symm
      | ⟨2, _⟩ => exact h2.symm
    rw [← key]
    pointwise [k0_pay1, k0_pay2, k0_pay3, k0_pay4, k0_pay10, k0_pay11, k0_pay12, k0_pay13, k0_pay14]
    exact congrArg _ (congrArg (ix2 r) (Fin.ext (by simp only []; omega)))

end Cert.Kernel2Ideal.Hand

end
-- ==== Proof.Inproj.KVal.lean ====
/-
  The value of the projection: every entry of the result, from the arguments.
-/
module

public import proofs.«01_k».proof.Proof.Inproj.Out
public import Idealize.ShloMosaic.Lib.StableHlo.RunRead

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Pointwise Idealize.ShloMosaic.Tactic
open Idealize.ShloMosaic.Pipeline (Dat Window)
open Cert.Inproj

variable (m : (ℓ : Loc nD τ sig) → Buf (Elt Ideal) ℓ) (c : Dev nD)

abbrev a0 : FVec Ideal S2x8192x2048 .f32 := m ((c : Thread nD τ).loc main_arg0)
abbrev a1 : FVec Ideal S1x16384x2048 .f32 := m ((c : Thread nD τ).loc main_arg1)
abbrev a2 : FVec Ideal S8x12288 .f32 := m ((c : Thread nD τ).loc main_arg2)
abbrev a3 : FVec Ideal S2048 .f32 := m ((c : Thread nD τ).loc main_arg3)
abbrev a4 : FVec Ideal S2048x6144 .f32 := m ((c : Thread nD τ).loc main_arg4)

/-! ## What the host has written -/

/-- The rows of the first group. -/
theorem v0_at (R : Fin 16384) (d : Fin 2048) :
    V m c main_v0 (ix2 R d) = a0 m c (ix3 (⟨R.val / 8192, by omega⟩ : Fin 2) (⟨R.val % 8192, by omega⟩ : Fin 8192) d) := by
  have h : V m c main_v0 = shapeCast S16384x2048 (a0 m c) shapeCasts_S2x8192x2048_S16384x2048 := by
    after_reads_simp
    rfl
  rw [h]
  pointwise

/-- The rows of the second group. -/
theorem v1_at (R : Fin 16384) (d : Fin 2048) : V m c main_v1 (ix2 R d) = a1 m c (ix3 (0 : Fin 1) R d) := by
  have h : V m c main_v1 = shapeCast S16384x2048 (a1 m c) shapeCasts_S1x16384x2048_S16384x2048 := by
    after_reads_simp
    rfl
  rw [h]
  pointwise

/-- The gain. -/
theorem v12_at (d : Fin 2048) : V m c main_v12 (ix2 (0 : Fin 1) d) = a3 m c (ix1 d) := by
  have h : V m c main_v12 = shapeCast S1x2048 (a3 m c) shapeCasts_S2048_S1x2048 := by
    after_reads_simp
    rfl
  rw [h]
  pointwise

/-- The weights' columns, the queries' times their factors. -/
def wqk (w : FVec Ideal S2048x6144 .f32) : FVec Ideal S2048x4096 .f32 :=
  concatenate S2048x4096 1 [
    ⟨S2048x1024, (mulf (extractStridedSlice S2048x1024 ![0, 0] w slices_S2048x6144_S2048x1024_0_0) (broadcastInDim S2048x1024 ![] bcast_S_S2048x1024 (constant S_ .f32 0x3FB8AA3B#32)) : FVec Ideal S2048x1024 .f32)⟩,
    ⟨S2048x1024, (extractStridedSlice S2048x1024 ![0, 1024] w slices_S2048x6144_S2048x1024_0_1024 : FVec Ideal S2048x1024 .f32)⟩,
    ⟨S2048x1024, (mulf (extractStridedSlice S2048x1024 ![0, 3072] w slices_S2048x6144_S2048x1024_0_3072) (broadcastInDim S2048x1024 ![] bcast_S_S2048x1024 (constant S_ .f32 0x3E0293EE#32)) : FVec Ideal S2048x1024 .f32)⟩,
    ⟨S2048x1024, (extractStridedSlice S2048x1024 ![0, 4096] w slices_S2048x6144_S2048x1024_0_4096 : FVec Ideal S2048x1024 .f32)⟩]
    concatenates_S2048x1024_S2048x1024_S2048x1024_S2048x1024_S2048x4096_d1

theorem wqk_at (w : FVec Ideal S2048x6144 .f32) (d : Fin 2048) (C : Fin 4096) : wqk w (ix2 d C) = w (ix2 d (col C)) * fac C := by
  pointwise [wqk]
  have hC := C.isLt
  by_cases h1 : C.val < 1024
  · have hc : col C = ⟨C.val, by omega⟩ := by unfold col; rw [dif_pos (by omega)]
    have hf : fac C = Ideal.ofBits .f32 1069066811#32 := by unfold fac; rw [if_pos h1]
    rw [dif_pos h1, hc, hf]
  · rw [dif_neg h1]
    by_cases h2 : C.val < 2048
    · have hc : col C = ⟨1024 + (C.val - 1024), by omega⟩ := by unfold col; rw [dif_pos h2]; exact Fin.ext (by show C.val = 1024 + (C.val - 1024); omega)
      have hf : fac C = 1 := by unfold fac; rw [if_neg h1, if_pos h2]
      rw [dif_pos (by omega), hc, hf, mul_one]
    · rw [dif_neg (by omega)]
      by_cases h3 : C.val < 3072
      · have hc : col C = ⟨3072 + (C.val - 1024 - 1024), by omega⟩ := by unfold col; rw [dif_neg h2]; exact Fin.ext (by show C.val + 1024 = 3072 + (C.val - 1024 - 1024); omega)
        have hf : fac C = Ideal.ofBits .f32 1040356334#32 := by unfold fac; rw [if_neg h1, if_neg h2, if_pos h3]
        rw [dif_pos (by omega), hc, hf]
      · have hc : col C = ⟨4096 + (C.val - 1024 - 1024 - 1024), by omega⟩ := by unfold col; rw [dif_neg h2]; exact Fin.ext (by show C.val + 1024 = 4096 + (C.val - 1024 - 1024 - 1024); omega)
        have hf : fac C = 1 := by unfold fac; rw [if_neg h1, if_neg h2, if_neg h3]
        rw [dif_neg (by omega), hc, hf, mul_one]

theorem v11_at (d : Fin 2048) (C : Fin 4096) : V m c main_v11 (ix2 d C) = a4 m c (ix2 d (col C)) * fac C := by
  rw [← wqk_at]
  have h : V m c main_v11 = truncf .bf16 (wqk (a4 m c)) bitsLt_bf16_f32 := by
    unfold wqk
    after_reads_simp
    rfl
  rw [h]
  pointwise

/-! ## The blocks -/

theorem coords_val (t : Fin cfg0.N) : (grid0.coords t 0).val = t.val / 64 ∧ (grid0.coords t 1).val = t.val % 64 := by
  have h : t.val < 256 := lt_of_lt_of_eq t.isLt N_0
  have e0 : (grid0.coords t 0).val = (t.val / 64) % 4 := rfl
  have e1 : (grid0.coords t 1).val = (t.val / 1) % 64 := rfl
  rw [e0, e1]; omega

theorem im0 : ∀ t : Fin cfg0.N, win0_0.index t = ![min (t.val % 64) 31, 0] := (by decide +kernel : ∀ t : Fin grid0.N, win0_0.index t = ![min (t.val % 64) 31, 0])
theorem im1 : ∀ t : Fin cfg0.N, win0_1.index t = ![t.val % 64 - 32, 0] := (by decide +kernel : ∀ t : Fin grid0.N, win0_1.index t = ![t.val % 64 - 32, 0])
theorem im2 : ∀ t : Fin cfg0.N, win0_2.index t = ![0, 0] := (by decide +kernel : ∀ t : Fin grid0.N, win0_2.index t = ![0, 0])
theorem im3 : ∀ t : Fin cfg0.N, win0_3.index t = ![0, 1] := (by decide +kernel : ∀ t : Fin grid0.N, win0_3.index t = ![0, 1])
theorem im4 : ∀ t : Fin cfg0.N, win0_4.index t = ![0, 0] := (by decide +kernel : ∀ t : Fin grid0.N, win0_4.index t = ![0, 0])
theorem im5 : ∀ t : Fin cfg0.N, win0_5.index t = ![0, t.val / 64] := (by decide +kernel : ∀ t : Fin grid0.N, win0_5.index t = ![0, t.val / 64])
theorem im6 : ∀ t : Fin cfg0.N, win0_6.index t = ![t.val / 64, t.val % 64, 0] := (by decide +kernel : ∀ t : Fin grid0.N, win0_6.index t = ![t.val / 64, t.val % 64, 0])
theorem offs : ∀ t : Fin cfg0.N, k0_off1 (grid0.coords t) = ![min (t.val % 64 / 16) 2, 0] := (by decide +kernel : ∀ t : Fin grid0.N, k0_off1 (grid0.coords t) = ![min (t.val % 64 / 16) 2, 0])

theorem b0_at (t : Fin cfg0.N) (r : Fin 512) (d : Fin 2048) (R : Fin 16384) (hR : R.val = min (t.val % 64) 31 * 512 + r.val) :
    iblk m c 0 t (ix2 r d) = V m c main_v0 (ix2 R d) := by
  blk_simp [iblk]
  refine congrArg (V m c main_v0) ?_
  blk_ext [im0]

theorem b1_at (t : Fin cfg0.N) (r : Fin 512) (d : Fin 2048) (R : Fin 16384) (hR : R.val = (t.val % 64 - 32) * 512 + r.val) :
    iblk m c 1 t (ix2 r d) = V m c main_v1 (ix2 R d) := by
  blk_simp [iblk]
  refine congrArg (V m c main_v1) ?_
  blk_ext [im1]

theorem b2_at (t : Fin cfg0.N) (s : Fin 8) (d : Fin 2048) (D : Fin 12288) (hD : D.val = d.val) :
    iblk m c 2 t (ix2 s d) = V m c main_arg2 (ix2 s D) := by
  blk_simp [iblk]
  refine congrArg (V m c main_arg2) ?_
  blk_ext [im2]

theorem b3_at (t : Fin cfg0.N) (s : Fin 8) (d : Fin 2048) (D : Fin 12288) (hD : D.val = 2048 + d.val) :
    iblk m c 3 t (ix2 s d) = V m c main_arg2 (ix2 s D) := by
  blk_simp [iblk]
  refine congrArg (V m c main_arg2) ?_
  blk_ext [im3]

theorem b4_at (t : Fin cfg0.N) (d : Fin 2048) : iblk m c 4 t (ix2 (0 : Fin 1) d) = V m c main_v12 (ix2 (0 : Fin 1) d) := by
  blk_simp [iblk]
  refine congrArg (V m c main_v12) ?_
  blk_ext [im4]

theorem b5_at (t : Fin cfg0.N) (d : Fin 2048) (j : Fin 1024) (C : Fin 4096) (hC : C.val = t.val / 64 * 1024 + j.val) :
    iblk m c 5 t (ix2 d j) = V m c main_v11 (ix2 d C) := by
  blk_simp [iblk]
  refine congrArg (V m c main_v11) ?_
  blk_ext [im5]

/-! ## The result -/

/-- The result: the queries and keys of every token, a head at a time. -/
def outOf : S32x32768x128.Idx → EReal := fun y =>
  proj (a0 m c) (a1 m c) (a2 m c) (a3 m c) (a4 m c) (y 1) (⟨(y 0).val * 128 + (y 2).val, by have h0 : (y 0).val < 32 := (y 0).isLt; have h2 : (y 2).val < 128 := (y 2).isLt; omega⟩ : Fin 4096)

/-- What a step leaves in its block. -/
theorem step_at (t : Fin cfg0.N) (q : Fin 8) (r : Fin 512) (l : Fin 128) (Q : Fin 32) (R : Fin 32768)
    (hQ : Q.val = t.val / 64 * 8 + q.val) (hR : R.val = t.val % 64 * 512 + r.val) :
    outsAt0 m c t (ix3 q r l) = outOf m c (ix3 Q R l) := by
  have ht : t.val < 256 := lt_of_lt_of_eq t.isLt N_0
  have hq := q.isLt
  have hr := r.isLt
  have hl := l.isLt
  unfold outsAt0
  rw [out_at c (grid0.coords t) _ _ _ _ _ _ _ _ _ _ _ _ _ _ _ _ _ _ _ _ q r l (seg R) ((offs t).trans (by
    congr 1
    show min (t.val % 64 / 16) 2 = min (R.val / 8192) 2
    omega))]
  rw [(coords_val t).2]
  show _ = proj (a0 m c) (a1 m c) (a2 m c) (a3 m c) (a4 m c) R (⟨Q.val * 128 + l.val, by omega⟩ : Fin 4096)
  rw [proj_eq]
  have hx : (fun e : Fin 2048 => if t.val % 64 < 32 then iblk m c 0 t (ix2 r e) else iblk m c 1 t (ix2 r e)) = tok (a0 m c) (a1 m c) R := by
    funext e
    unfold tok
    by_cases h : t.val % 64 < 32
    · rw [if_pos h, dif_pos (by omega), b0_at m c t r e ⟨R.val, by omega⟩ (by show R.val = _; omega), v0_at]
    · rw [if_neg h, dif_neg (by omega), b1_at m c t r e ⟨R.val - 16384, by omega⟩ (by show R.val - 16384 = _; omega), v1_at]
  have hg : (fun e : Fin 2048 => iblk m c 4 t (ix2 (0 : Fin 1) e)) = fun d => a3 m c (ix1 d) := by
    funext e
    rw [b4_at, v12_at]
  have hsc : (fun e : Fin 2048 => iblk m c 3 t (ix2 (seg R) e)) = fun d => a2 m c (ix2 (seg R) (⟨2048 + d.val, by omega⟩ : Fin 12288)) := by
    funext e
    rw [b3_at m c t (seg R) e ⟨2048 + e.val, by omega⟩ rfl, V_main_arg2]
  have hsh : (fun e : Fin 2048 => iblk m c 2 t (ix2 (seg R) e)) = fun d => a2 m c (ix2 (seg R) (⟨d.val, by omega⟩ : Fin 12288)) := by
    funext e
    rw [b2_at m c t (seg R) e ⟨e.val, by omega⟩ rfl, V_main_arg2]
  refine Finset.sum_congr rfl fun d _ => ?_
  rw [hx, hg, hsc, hsh, b5_at m c t d _ (⟨Q.val * 128 + l.val, by omega⟩ : Fin 4096) (by show Q.val * 128 + l.val = _ + (q.val * 128 + l.val); omega), v11_at]
  rfl

/-- The whole result. -/
theorem out_eq : (dats m 0 c).arrAt 6 cfg0.N = outOf m c := by
  refine (dats m 0 c).arrAt_eq_of_emb 6 _ (fun t hf y => ?_) fun y => ?_
  · obtain ⟨q, r, l, rfl⟩ : ∃ (q : Fin 8) (r : Fin 512) (l : Fin 128), y = ix3 q r l := ⟨y 0, y 1, y 2, by
      funext x
      match x with
      | ⟨0, _⟩ => rfl
      | ⟨1, _⟩ => rfl
      | ⟨2, _⟩ => rfl⟩
    have ht : t.val < 256 := lt_of_lt_of_eq t.isLt N_0
    blk_simp
    rw [after0_6]
    refine (step_at m c t q r l (⟨t.val / 64 * 8 + q.val, by omega⟩ : Fin 32) (⟨t.val % 64 * 512 + r.val, by omega⟩ : Fin 32768) rfl rfl).trans ?_
    refine congrArg (outOf m c) ?_
    blk_ext [im6]
  · obtain ⟨Q, R, l, rfl⟩ : ∃ (Q : Fin 32) (R : Fin 32768) (l : Fin 128), y = ix3 Q R l := ⟨y 0, y 1, y 2, by
      funext x
      match x with
      | ⟨0, _⟩ => rfl
      | ⟨1, _⟩ => rfl
      | ⟨2, _⟩ => rfl⟩
    refine ⟨⟨Q.val / 8 * 64 + R.val / 512, lt_of_lt_of_eq (by omega) N_0.symm⟩, flush0_6 _, ?_⟩
    mem_blk [im6]
    show ((Q.val / 8 * 64 + R.val / 512) / 64 * 8 ≤ Q.val ∧ Q.val < (Q.val / 8 * 64 + R.val / 512) / 64 * 8 + 8)
      ∧ ((Q.val / 8 * 64 + R.val / 512) % 64 * 512 ≤ R.val ∧ R.val < (Q.val / 8 * 64 + R.val / 512) % 64 * 512 + 512)
      ∧ (0 * 128 ≤ l.val ∧ l.val < 0 * 128 + 128)
    have hl := l.isLt
    omega

end Cert.Kernel2Ideal.Hand

end
-- ==== Proof.Inproj.RVal.lean ====
/-
  The reference of the projection at an entry.
-/
module

public import proofs.«01_k».proof.Proof.Gen.Reference2Ideal.Run
public import proofs.«01_k».proof.Proof.Inproj.Spec
public import Idealize.ShloMosaic.Lib.Pointwise

@[expose] public section

set_option maxRecDepth 16384

noncomputable section

namespace Cert.Reference2Ideal.Hand

open Cert.Reference2Ideal Cert.Reference2Ideal.Gen
open Idealize.ShloMosaic Idealize.ShloMosaic.TcCoe Idealize.ShloMosaic.Pointwise
open Cert.Inproj

variable (A0 : FVec Ideal S2x8192x2048 .f32) (A1 : FVec Ideal S1x16384x2048 .f32) (A2 : FVec Ideal S8x12288 .f32) (A3 : FVec Ideal S2048 .f32) (A4 : FVec Ideal S2048x6144 .f32)

/-- The normalised tokens of the first group. -/
def nrm0 : FVec Ideal S2x8192x2048 .f32 :=
  addf (mulf (mulf (mulf A0 (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf A0 A0) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x3727C5AC#32)))))) (broadcastInDim S2x8192x2048 ![0, 1, 2] bcast_S1x1x2048_S2x8192x2048_0_1_2 (broadcastInDim S1x1x2048 ![2] bcast_S2048_S1x1x2048_2 A3))) (broadcastInDim S2x8192x2048 ![0, 1, 2] bcast_S2x1x2048_S2x8192x2048_0_1_2 (addf (broadcastInDim S2x1x2048 ![] bcast_S_S2x1x2048 (constant S_ .f32 0x3F800000#32)) (broadcastInDim S2x1x2048 ![0, 2] bcast_S2x2048_S2x1x2048_0_2 (extractStridedSlice S2x2048 ![0, 0] (extractStridedSlice S8x2048 ![0, 2048] A2 slices_S8x12288_S8x2048_0_2048) slices_S8x2048_S2x2048_0_0))))) (broadcastInDim S2x8192x2048 ![0, 1, 2] bcast_S2x1x2048_S2x8192x2048_0_1_2 (broadcastInDim S2x1x2048 ![0, 2] bcast_S2x2048_S2x1x2048_0_2 (extractStridedSlice S2x2048 ![0, 0] (extractStridedSlice S8x2048 ![0, 0] A2 slices_S8x12288_S8x2048_0_0) slices_S8x2048_S2x2048_0_0)))

/-- Their projection. -/
def prod0 : FVec Ideal S2x8192x6144 .f32 :=
  Host.dotGeneral dot_S2x8192x2048_S2048x6144_S2x8192x6144_2_0_01_1_n_n none (nrm0 A0 A2 A3) A4

/-- The columns of its queries and keys. -/
def cols0 : FVec Ideal S2x8192x4096 .f32 :=
  (concatenate S2x8192x4096 2 [⟨S2x8192x1024, ((mulf (extractStridedSlice S2x8192x1024 ![0, 0, 0] (prod0 A0 A2 A3 A4) slices_S2x8192x6144_S2x8192x1024_0_0_0) (broadcastInDim S2x8192x1024 ![] bcast_S_S2x8192x1024 (constant S_ .f32 0x3FB8AA3B#32))) : (⟨S2x8192x1024, .f32⟩ : BufTy).Contents (Elt Ideal))⟩, ⟨S2x8192x1024, ((extractStridedSlice S2x8192x1024 ![0, 0, 1024] (prod0 A0 A2 A3 A4) slices_S2x8192x6144_S2x8192x1024_0_0_1024) : (⟨S2x8192x1024, .f32⟩ : BufTy).Contents (Elt Ideal))⟩, ⟨S2x8192x1024, ((mulf (extractStridedSlice S2x8192x1024 ![0, 0, 3072] (prod0 A0 A2 A3 A4) slices_S2x8192x6144_S2x8192x1024_0_0_3072) (broadcastInDim S2x8192x1024 ![] bcast_S_S2x8192x1024 (constant S_ .f32 0x3E0293EE#32))) : (⟨S2x8192x1024, .f32⟩ : BufTy).Contents (Elt Ideal))⟩, ⟨S2x8192x1024, ((extractStridedSlice S2x8192x1024 ![0, 0, 4096] (prod0 A0 A2 A3 A4) slices_S2x8192x6144_S2x8192x1024_0_0_4096) : (⟨S2x8192x1024, .f32⟩ : BufTy).Contents (Elt Ideal))⟩] concatenates_S2x8192x1024_S2x8192x1024_S2x8192x1024_S2x8192x1024_S2x8192x4096_d2 : (⟨S2x8192x4096, .f32⟩ : BufTy).Contents (Elt Ideal))

/-- The normalised tokens of the second group. -/
def nrm1 : FVec Ideal S1x16384x2048 .f32 :=
  addf (mulf (mulf (mulf A1 (broadcastInDim S1x16384x2048 ![0, 1, 2] bcast_S1x16384x1_S1x16384x2048_0_1_2 (Host.rsqrt (addf (Host.divf (broadcastInDim S1x16384x1 ![0, 1] bcast_S1x16384_S1x16384x1_0_1 (Host.reduceAdd (mulf A1 A1) (constant S_ .f32 0x00000000#32) reducesTo_S1x16384x2048_S1x16384_d2 h_S_)) (broadcastInDim S1x16384x1 ![] bcast_S_S1x16384x1 (constant S_ .f32 0x45000000#32))) (broadcastInDim S1x16384x1 ![] bcast_S_S1x16384x1 (constant S_ .f32 0x3727C5AC#32)))))) (broadcastInDim S1x16384x2048 ![0, 1, 2] bcast_S1x1x2048_S1x16384x2048_0_1_2 (broadcastInDim S1x1x2048 ![2] bcast_S2048_S1x1x2048_2 A3))) (broadcastInDim S1x16384x2048 ![0, 1, 2] bcast_S1x1x2048_S1x16384x2048_0_1_2 (addf (broadcastInDim S1x1x2048 ![] bcast_S_S1x1x2048 (constant S_ .f32 0x3F800000#32)) (broadcastInDim S1x1x2048 ![0, 2] bcast_S1x2048_S1x1x2048_0_2 (extractStridedSlice S1x2048 ![2, 0] (extractStridedSlice S8x2048 ![0, 2048] A2 slices_S8x12288_S8x2048_0_2048) slices_S8x2048_S1x2048_2_0))))) (broadcastInDim S1x16384x2048 ![0, 1, 2] bcast_S1x1x2048_S1x16384x2048_0_1_2 (broadcastInDim S1x1x2048 ![0, 2] bcast_S1x2048_S1x1x2048_0_2 (extractStridedSlice S1x2048 ![2, 0] (extractStridedSlice S8x2048 ![0, 0] A2 slices_S8x12288_S8x2048_0_0) slices_S8x2048_S1x2048_2_0)))

/-- Their projection. -/
def prod1 : FVec Ideal S1x16384x6144 .f32 :=
  Host.dotGeneral dot_S1x16384x2048_S2048x6144_S1x16384x6144_2_0_01_1_n_n none (nrm1 A1 A2 A3) A4

/-- The columns of its queries and keys. -/
def cols1 : FVec Ideal S1x16384x4096 .f32 :=
  (concatenate S1x16384x4096 2 [⟨S1x16384x1024, ((mulf (extractStridedSlice S1x16384x1024 ![0, 0, 0] (prod1 A1 A2 A3 A4) slices_S1x16384x6144_S1x16384x1024_0_0_0) (broadcastInDim S1x16384x1024 ![] bcast_S_S1x16384x1024 (constant S_ .f32 0x3FB8AA3B#32))) : (⟨S1x16384x1024, .f32⟩ : BufTy).Contents (Elt Ideal))⟩, ⟨S1x16384x1024, ((extractStridedSlice S1x16384x1024 ![0, 0, 1024] (prod1 A1 A2 A3 A4) slices_S1x16384x6144_S1x16384x1024_0_0_1024) : (⟨S1x16384x1024, .f32⟩ : BufTy).Contents (Elt Ideal))⟩, ⟨S1x16384x1024, ((mulf (extractStridedSlice S1x16384x1024 ![0, 0, 3072] (prod1 A1 A2 A3 A4) slices_S1x16384x6144_S1x16384x1024_0_0_3072) (broadcastInDim S1x16384x1024 ![] bcast_S_S1x16384x1024 (constant S_ .f32 0x3E0293EE#32))) : (⟨S1x16384x1024, .f32⟩ : BufTy).Contents (Elt Ideal))⟩, ⟨S1x16384x1024, ((extractStridedSlice S1x16384x1024 ![0, 0, 4096] (prod1 A1 A2 A3 A4) slices_S1x16384x6144_S1x16384x1024_0_0_4096) : (⟨S1x16384x1024, .f32⟩ : BufTy).Contents (Elt Ideal))⟩] concatenates_S1x16384x1024_S1x16384x1024_S1x16384x1024_S1x16384x1024_S1x16384x4096_d2 : (⟨S1x16384x4096, .f32⟩ : BufTy).Contents (Elt Ideal))

/-- The reference's result. -/
def refOut : FVec Ideal S32x32768x128 .bf16 :=
  truncf .bf16 (transpose S32x32768x128 [1, 0, 2] (shapeCast _ (concatenate S32768x4096 0 [⟨S16384x4096, (shapeCast _ ((cols0 A0 A2 A3 A4)) shapeCasts_S2x8192x4096_S16384x4096)⟩, ⟨S16384x4096, (shapeCast _ ((cols1 A1 A2 A3 A4)) shapeCasts_S1x16384x4096_S16384x4096)⟩] concatenates_S16384x4096_S16384x4096_S32768x4096_d0) shapeCasts_S32768x4096_S32768x32x128) transposes_S32768x32x128_S32x32768x128_1_0_2) bitsLt_bf16_f32

theorem nrm0_at (b : Fin 2) (s : Fin 8192) (d : Fin 2048) :
    nrm0 A0 A2 A3 (ix3 b s d) = normed (fun e => A0 (ix3 b s e)) (fun e => A3 (ix1 e))
      (fun e => A2 (ix2 (⟨b.val, by omega⟩ : Fin 8) (⟨2048 + e.val, by omega⟩ : Fin 12288)))
      (fun e => A2 (ix2 (⟨b.val, by omega⟩ : Fin 8) (⟨e.val, by omega⟩ : Fin 12288))) d := by
  pointwise [nrm0]
  rfl

theorem prod0_at (b : Fin 2) (s : Fin 8192) (j : Fin 6144) :
    prod0 A0 A2 A3 A4 (ix3 b s j) = ∑ d : Fin 2048, nrm0 A0 A2 A3 (ix3 b s d) * A4 (ix2 d j) := by
  pointwise [prod0]

theorem cols0_at (b : Fin 2) (s : Fin 8192) (C : Fin 4096) :
    cols0 A0 A2 A3 A4 (ix3 b s C) = prod0 A0 A2 A3 A4 (ix3 b s (col C)) * fac C := by
  pointwise [cols0]
  have hC := C.isLt
  by_cases h1 : C.val < 1024
  · have hc : col C = ⟨C.val, by omega⟩ := by unfold col; rw [dif_pos (by omega)]
    have hf : fac C = Ideal.ofBits .f32 1069066811#32 := by unfold fac; rw [if_pos h1]
    rw [dif_pos h1, hc, hf]
  · rw [dif_neg h1]
    by_cases h2 : C.val < 2048
    · have hc : col C = ⟨1024 + (C.val - 1024), by omega⟩ := by unfold col; rw [dif_pos h2]; exact Fin.ext (by show C.val = 1024 + (C.val - 1024); omega)
      have hf : fac C = 1 := by unfold fac; rw [if_neg h1, if_pos h2]
      rw [dif_pos (by omega), hc, hf, mul_one]
    · rw [dif_neg (by omega)]
      by_cases h3 : C.val < 3072
      · have hc : col C = ⟨3072 + (C.val - 1024 - 1024), by omega⟩ := by unfold col; rw [dif_neg h2]; exact Fin.ext (by show C.val + 1024 = 3072 + (C.val - 1024 - 1024); omega)
        have hf : fac C = Ideal.ofBits .f32 1040356334#32 := by unfold fac; rw [if_neg h1, if_neg h2, if_pos h3]
        rw [dif_pos (by omega), hc, hf]
      · have hc : col C = ⟨4096 + (C.val - 1024 - 1024 - 1024), by omega⟩ := by unfold col; rw [dif_neg h2]; exact Fin.ext (by show C.val + 1024 = 4096 + (C.val - 1024 - 1024 - 1024); omega)
        have hf : fac C = 1 := by unfold fac; rw [if_neg h1, if_neg h2, if_neg h3]
        rw [dif_neg (by omega), hc, hf, mul_one]

theorem nrm1_at (b : Fin 1) (s : Fin 16384) (d : Fin 2048) :
    nrm1 A1 A2 A3 (ix3 b s d) = normed (fun e => A1 (ix3 b s e)) (fun e => A3 (ix1 e))
      (fun e => A2 (ix2 (⟨2, by omega⟩ : Fin 8) (⟨2048 + e.val, by omega⟩ : Fin 12288)))
      (fun e => A2 (ix2 (⟨2, by omega⟩ : Fin 8) (⟨e.val, by omega⟩ : Fin 12288))) d := by
  obtain rfl : b = 0 := Subsingleton.elim _ _
  pointwise [nrm1]
  rfl

theorem prod1_at (b : Fin 1) (s : Fin 16384) (j : Fin 6144) :
    prod1 A1 A2 A3 A4 (ix3 b s j) = ∑ d : Fin 2048, nrm1 A1 A2 A3 (ix3 b s d) * A4 (ix2 d j) := by
  obtain rfl : b = 0 := Subsingleton.elim _ _
  pointwise [prod1]

theorem cols1_at (b : Fin 1) (s : Fin 16384) (C : Fin 4096) :
    cols1 A1 A2 A3 A4 (ix3 b s C) = prod1 A1 A2 A3 A4 (ix3 b s (col C)) * fac C := by
  obtain rfl : b = 0 := Subsingleton.elim _ _
  pointwise [cols1]
  have hC := C.isLt
  by_cases h1 : C.val < 1024
  · have hc : col C = ⟨C.val, by omega⟩ := by unfold col; rw [dif_pos (by omega)]
    have hf : fac C = Ideal.ofBits .f32 1069066811#32 := by unfold fac; rw [if_pos h1]
    rw [dif_pos h1, hc, hf]
  · rw [dif_neg h1]
    by_cases h2 : C.val < 2048
    · have hc : col C = ⟨1024 + (C.val - 1024), by omega⟩ := by unfold col; rw [dif_pos h2]; exact Fin.ext (by show C.val = 1024 + (C.val - 1024); omega)
      have hf : fac C = 1 := by unfold fac; rw [if_neg h1, if_pos h2]
      rw [dif_pos (by omega), hc, hf, mul_one]
    · rw [dif_neg (by omega)]
      by_cases h3 : C.val < 3072
      · have hc : col C = ⟨3072 + (C.val - 1024 - 1024), by omega⟩ := by unfold col; rw [dif_neg h2]; exact Fin.ext (by show C.val + 1024 = 3072 + (C.val - 1024 - 1024); omega)
        have hf : fac C = Ideal.ofBits .f32 1040356334#32 := by unfold fac; rw [if_neg h1, if_neg h2, if_pos h3]
        rw [dif_pos (by omega), hc, hf]
      · have hc : col C = ⟨4096 + (C.val - 1024 - 1024 - 1024), by omega⟩ := by unfold col; rw [dif_neg h2]; exact Fin.ext (by show C.val + 1024 = 4096 + (C.val - 1024 - 1024 - 1024); omega)
        have hf : fac C = 1 := by unfold fac; rw [if_neg h1, if_neg h2, if_neg h3]
        rw [dif_neg (by omega), hc, hf, mul_one]

/-- The reference's result at an entry. -/
theorem refOut_at (q : Fin 32) (R : Fin 32768) (l : Fin 128) :
    refOut A0 A1 A2 A3 A4 (ix3 q R l) = proj A0 A1 A2 A3 A4 R (⟨q.val * 128 + l.val, by omega⟩ : Fin 4096) := by
  pointwise [refOut]
  have hR := R.isLt
  unfold proj row
  by_cases h : R.val < 16384
  · have hs : seg R = ⟨R.val / 8192, by omega⟩ := Fin.ext (by show min (R.val / 8192) 2 = R.val / 8192; omega)
    have ht : tok A0 A1 R = fun e => A0 (ix3 (⟨R.val / 8192, by omega⟩ : Fin 2) (⟨R.val % 8192, by omega⟩ : Fin 8192) e) := by
      funext e; unfold tok; rw [dif_pos h]
    rw [dif_pos h, cols0_at, prod0_at, hs, ht]
    refine congrArg (· * _) (Finset.sum_congr rfl fun d _ => ?_)
    rw [nrm0_at]
  · have hs : seg R = ⟨2, by omega⟩ := Fin.ext (by show min (R.val / 8192) 2 = 2; omega)
    have ht : tok A0 A1 R = fun e => A1 (ix3 (0 : Fin 1) (⟨R.val - 16384, by omega⟩ : Fin 16384) e) := by
      funext e; unfold tok; rw [dif_neg h]
    rw [dif_neg h, cols1_at, prod1_at, hs, ht]
    refine congrArg (· * _) (Finset.sum_congr rfl fun d _ => ?_)
    rw [nrm1_at]

end Cert.Reference2Ideal.Hand

end
-- ==== Proof.Inproj.lean ====
/-
  The projection: its frames and its value claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_counts_of_rows
public import proofs.«01_k».proof.Proof.Gen.Kernel2
public import proofs.«01_k».proof.Proof.Gen.Kernel2.Frame
public import proofs.«01_k».proof.Proof.Inproj.KVal
public import proofs.«01_k».proof.Proof.Inproj.RVal

@[expose] public section

set_option maxRecDepth 16384

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_counts_of_rows.Gen.facts
  Cert.Kernel2.Gen.facts Cert.Kernel2Ideal.Gen.facts Cert.Reference2Ideal.Gen.facts

theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

theorem frame_ref2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

variable (m : (ℓ : Loc Cert.Kernel2Ideal.nD Cert.Kernel2Ideal.τ Cert.Kernel2Ideal.sig) → Buf (Elt Ideal) ℓ)

/-- The reference's result of the same arguments. -/
theorem ref2_eq (c : Dev Cert.Kernel2Ideal.nD) :
    Cert.Reference2Ideal.Hand.refOut (Cert.Kernel2Ideal.Hand.a0 m c) (Cert.Kernel2Ideal.Hand.a1 m c) (Cert.Kernel2Ideal.Hand.a2 m c)
      (Cert.Kernel2Ideal.Hand.a3 m c) (Cert.Kernel2Ideal.Hand.a4 m c) = Cert.Kernel2Ideal.Hand.outOf m c := by
  funext y
  obtain ⟨q, R, l, rfl⟩ : ∃ (q : Fin 32) (R : Fin 32768) (l : Fin 128), y = ix3 q R l := ⟨y 0, y 1, y 2, by
    funext x
    match x with
    | ⟨0, _⟩ => rfl
    | ⟨1, _⟩ => rfl
    | ⟨2, _⟩ => rfl⟩
  exact Cert.Reference2Ideal.Hand.refOut_at _ _ _ _ _ q R l

theorem algebraic2 : Cert.algebraic_Kernel2Ideal_Reference2Ideal := by
  intro m g m' g' _ hm
  refine ⟨Cert.Kernel2Ideal.Hand.outOf m, ?_, ?_⟩
  · exact (θ_run _ _ _).mono (fun r hr c => ⟨(hr c).1.trans (Cert.Kernel2Ideal.Hand.out_eq m c), (hr c).2⟩)
      (Cert.Kernel2Ideal.Value.run_blocks (F := Ideal) m g)
  · refine (θ_run Cert.Reference2Ideal.defs _ _).mono (fun r h c => ⟨?_, (h c).2⟩) (Cert.Reference2Ideal.Value.run (F := Ideal) m' g')
    refine (h c).1.trans ?_
    obtain ⟨e0, e1, e2, e3, e4⟩ := hm c
    show Cert.Reference2Ideal.Hand.refOut (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) = _
    rw [e0, e1, e2, e3, e4]
    exact ref2_eq m c

end Cert.Proof

end
-- ==== Proof.Values.Out.lean ====
/-
  What the body of the projection to values leaves in its output blocks, at an entry.
-/
module

public import proofs.«01_k».proof.Proof.Gen.Kernel3Ideal.Value
public import proofs.«01_k».proof.Proof.Inproj.Spec
public import Idealize.ShloMosaic.Lib.Pointwise
public import Idealize.ShloMosaic.Lib.Pipeline.ValueKit

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Pointwise
open Cert.Inproj

section
variable (i : grid0.Coords) (x0 x1 : Vec Ideal S512x2048 .f32) (g sc sh : Vec Ideal S1x2048 .f32) (w : Vec Ideal S2048x2048 .bf16)

/-- The tokens of a step: of the first group, or of the second. -/
theorem pay4_at (r : Fin 512) (d : Fin 2048) :
    k0_pay4 i x0 x1 (ix2 r d) = if (i 0).val < 32 then x0 (ix2 r d) else x1 (ix2 r d) := by
  have hi : (i 0).val < 64 := (i 0).isLt
  pointwise [k0_pay4]
  by_cases h : (i 0).val < 32
  · rw [if_pos h]
    exact if_pos ((WordCmp.cmpi_slt_ofNat_eq_one_iff (w := 32) (a := (i 0).val) (b := 32) (by omega) (by omega)).2 h)
  · rw [if_neg h]
    exact if_neg fun e => h ((WordCmp.cmpi_slt_ofNat_eq_one_iff (w := 32) (a := (i 0).val) (b := 32) (by omega) (by omega)).1 e)

/-- The product of a step: row `j` belongs to column `j` of the weights, column `r` to token `r`. -/
theorem pay1_at (j : Fin 2048) (r : Fin 512) :
    k0_pay1 (F := Ideal) (k0_pay4 i x0 x1) (k0_pay5 g) sc sh (k0_pay6 i x0 x1) w (ix2 j r)
      = ∑ d : Fin 2048, normed (fun e => if (i 0).val < 32 then x0 (ix2 r e) else x1 (ix2 r e)) (fun e => g (ix2 (0 : Fin 1) e))
          (fun e => sc (ix2 (0 : Fin 1) e)) (fun e => sh (ix2 (0 : Fin 1) e)) d * w (ix2 j d) := by
  pointwise [k0_pay1, k0_pay5, k0_pay6]
  simp only [pay4_at]
  exact Finset.sum_congr rfl fun d _ => mul_comm _ _

end

/-- The first output block of a step, at an entry. -/
theorem out6_at (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S1x2048 .f32) (harg5 : arg5.IsWhole) (arg6 : Memref sig .tc .vmem S2048x2048 .bf16) (harg6 : arg6.IsWhole) (arg7 : Memref sig .tc .vmem S1x1024x512 .bf16) (harg7 : arg7.IsWhole) (arg8 : Memref sig .tc .vmem S1x1024x512 .bf16) (harg8 : arg8.IsWhole)
    (x0 : Vec Ideal S512x2048 .f32) (x1 : Vec Ideal S512x2048 .f32) (x2 : Vec Ideal S8x2048 .f32) (x3 : Vec Ideal S8x2048 .f32) (x4 : Vec Ideal S1x2048 .f32) (x5 : Vec Ideal S2048x2048 .bf16)
    (q : Fin 1) (j : Fin 1024) (r : Fin 512) (s : Fin 8) (hs : k0_off1 i = ![s.val, 0]) :
    out0_A_6 (F := Ideal) c i arg1 harg1 arg2 harg2 arg3 harg3 arg4 harg4 arg5 harg5 arg6 harg6 arg7 harg7 arg8 harg8 x0 x1 x2 x3 x4 x5 (ix3 q j r)
      = ∑ d : Fin 2048, normed (fun e => if (i 0).val < 32 then x0 (ix2 r e) else x1 (ix2 r e)) (fun e => x4 (ix2 (0 : Fin 1) e))
          (fun e => x3 (ix2 s e)) (fun e => x2 (ix2 s e)) d * x5 (ix2 (⟨j.val, by omega⟩ : Fin 2048) d) := by
  have hsc : ∀ e : Fin 2048, View.ld x3 (Rect.unit (s := S8x2048) (k0_off1 i) S1x2048.size (Gen.facts.k0_off1_inb i)) (ix2 (0 : Fin 1) e) = x3 (ix2 s e) := fun e =>
    View.ld_unit_apply_of _ _ _ _ _ _ fun a => by
      match a with
      | ⟨0, _⟩ => exact (congrFun hs 0).symm
      | ⟨1, _⟩ => exact ((congrArg (· + e.val) (congrFun hs 1)).trans (Nat.zero_add _)).symm
  have hsh : ∀ e : Fin 2048, View.ld x2 (Rect.unit (s := S8x2048) (k0_off1 i) S1x2048.size (Gen.facts.k0_off1_inb i)) (ix2 (0 : Fin 1) e) = x2 (ix2 s e) := fun e =>
    View.ld_unit_apply_of _ _ _ _ _ _ fun a => by
      match a with
      | ⟨0, _⟩ => exact (congrFun hs 0).symm
      | ⟨1, _⟩ => exact ((congrArg (· + e.val) (congrFun hs 1)).trans (Nat.zero_add _)).symm
  have key := fun (j : Fin 2048) => pay1_at i x0 x1 x4 (View.ld x3 (Rect.unit (s := S8x2048) (k0_off1 i) S1x2048.size (Gen.facts.k0_off1_inb i)))
    (View.ld x2 (Rect.unit (s := S8x2048) (k0_off1 i) S1x2048.size (Gen.facts.k0_off1_inb i))) x5 j r
  simp only [hsc, hsh] at key
  obtain rfl : q = 0 := Subsingleton.elim _ _
  frame_out
  rw [← key]
  pointwise [k0_pay2]

/-- The second output block of a step, at an entry. -/
theorem out7_at (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S1x2048 .f32) (harg5 : arg5.IsWhole) (arg6 : Memref sig .tc .vmem S2048x2048 .bf16) (harg6 : arg6.IsWhole) (arg7 : Memref sig .tc .vmem S1x1024x512 .bf16) (harg7 : arg7.IsWhole) (arg8 : Memref sig .tc .vmem S1x1024x512 .bf16) (harg8 : arg8.IsWhole)
    (x0 : Vec Ideal S512x2048 .f32) (x1 : Vec Ideal S512x2048 .f32) (x2 : Vec Ideal S8x2048 .f32) (x3 : Vec Ideal S8x2048 .f32) (x4 : Vec Ideal S1x2048 .f32) (x5 : Vec Ideal S2048x2048 .bf16)
    (q : Fin 1) (j : Fin 1024) (r : Fin 512) (s : Fin 8) (hs : k0_off1 i = ![s.val, 0]) :
    out0_A_7 (F := Ideal) c i arg1 harg1 arg2 harg2 arg3 harg3 arg4 harg4 arg5 harg5 arg6 harg6 arg7 harg7 arg8 harg8 x0 x1 x2 x3 x4 x5 (ix3 q j r)
      = ∑ d : Fin 2048, normed (fun e => if (i 0).val < 32 then x0 (ix2 r e) else x1 (ix2 r e)) (fun e => x4 (ix2 (0 : Fin 1) e))
          (fun e => x3 (ix2 s e)) (fun e => x2 (ix2 s e)) d * x5 (ix2 (⟨1024 + j.val, by omega⟩ : Fin 2048) d) := by
  have hsc : ∀ e : Fin 2048, View.ld x3 (Rect.unit (s := S8x2048) (k0_off1 i) S1x2048.size (Gen.facts.k0_off1_inb i)) (ix2 (0 : Fin 1) e) = x3 (ix2 s e) := fun e =>
    View.ld_unit_apply_of _ _ _ _ _ _ fun a => by
      match a with
      | ⟨0, _⟩ => exact (congrFun hs 0).symm
      | ⟨1, _⟩ => exact ((congrArg (· + e.val) (congrFun hs 1)).trans (Nat.zero_add _)).symm
  have hsh : ∀ e : Fin 2048, View.ld x2 (Rect.unit (s := S8x2048) (k0_off1 i) S1x2048.size (Gen.facts.k0_off1_inb i)) (ix2 (0 : Fin 1) e) = x2 (ix2 s e) := fun e =>
    View.ld_unit_apply_of _ _ _ _ _ _ fun a => by
      match a with
      | ⟨0, _⟩ => exact (congrFun hs 0).symm
      | ⟨1, _⟩ => exact ((congrArg (· + e.val) (congrFun hs 1)).trans (Nat.zero_add _)).symm
  have key := fun (j : Fin 2048) => pay1_at i x0 x1 x4 (View.ld x3 (Rect.unit (s := S8x2048) (k0_off1 i) S1x2048.size (Gen.facts.k0_off1_inb i)))
    (View.ld x2 (Rect.unit (s := S8x2048) (k0_off1 i) S1x2048.size (Gen.facts.k0_off1_inb i))) x5 j r
  simp only [hsc, hsh] at key
  obtain rfl : q = 0 := Subsingleton.elim _ _
  frame_out
  rw [← key]
  pointwise [k0_pay3]

end Cert.Kernel3Ideal.Hand

end
-- ==== Proof.Values.KVal.lean ====
/-
  The value of the projection to values: every entry of both results, from the arguments.
-/
module

public import proofs.«01_k».proof.Proof.Values.Out
public import Idealize.ShloMosaic.Lib.StableHlo.RunRead

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Pointwise Idealize.ShloMosaic.Tactic
open Idealize.ShloMosaic.Pipeline (Dat Window)
open Cert.Inproj

variable (m : (ℓ : Loc nD τ sig) → Buf (Elt Ideal) ℓ) (c : Dev nD)

abbrev a0 : FVec Ideal S2x8192x2048 .f32 := m ((c : Thread nD τ).loc main_arg0)
abbrev a1 : FVec Ideal S1x16384x2048 .f32 := m ((c : Thread nD τ).loc main_arg1)
abbrev a2 : FVec Ideal S8x12288 .f32 := m ((c : Thread nD τ).loc main_arg2)
abbrev a3 : FVec Ideal S2048 .f32 := m ((c : Thread nD τ).loc main_arg3)
abbrev a4 : FVec Ideal S2048x6144 .f32 := m ((c : Thread nD τ).loc main_arg4)

/-! ## What the host has written -/

/-- The rows of the first group. -/
theorem v0_at (R : Fin 16384) (d : Fin 2048) :
    V m c main_v0 (ix2 R d) = a0 m c (ix3 (⟨R.val / 8192, by omega⟩ : Fin 2) (⟨R.val % 8192, by omega⟩ : Fin 8192) d) := by
  have h : V m c main_v0 = shapeCast S16384x2048 (a0 m c) shapeCasts_S2x8192x2048_S16384x2048 := by
    after_reads_simp
    rfl
  rw [h]
  pointwise

/-- The rows of the second group. -/
theorem v1_at (R : Fin 16384) (d : Fin 2048) : V m c main_v1 (ix2 R d) = a1 m c (ix3 (0 : Fin 1) R d) := by
  have h : V m c main_v1 = shapeCast S16384x2048 (a1 m c) shapeCasts_S1x16384x2048_S16384x2048 := by
    after_reads_simp
    rfl
  rw [h]
  pointwise

/-- The gain. -/
theorem v7_at (d : Fin 2048) : V m c main_v7 (ix2 (0 : Fin 1) d) = a3 m c (ix1 d) := by
  have h : V m c main_v7 = shapeCast S1x2048 (a3 m c) shapeCasts_S2048_S1x2048 := by
    after_reads_simp
    rfl
  rw [h]
  pointwise

/-- The weights' columns of the values, as rows. -/
def wvt (w : FVec Ideal S2048x6144 .f32) : FVec Ideal S2048x2048 .f32 :=
  transpose S2048x2048 [1, 0] (concatenate S2048x2048 1 [
    ⟨S2048x1024, (extractStridedSlice S2048x1024 ![0, 2048] w slices_S2048x6144_S2048x1024_0_2048 : FVec Ideal S2048x1024 .f32)⟩,
    ⟨S2048x1024, (extractStridedSlice S2048x1024 ![0, 5120] w slices_S2048x6144_S2048x1024_0_5120 : FVec Ideal S2048x1024 .f32)⟩]
    concatenates_S2048x1024_S2048x1024_S2048x2048_d1) transposes_S2048x2048_S2048x2048_1_0

/-- The column of the weights behind row `j` of them. -/
def vcol (j : Fin 2048) : Fin 6144 := if h : j.val < 1024 then ⟨2048 + j.val, by omega⟩ else ⟨5120 + (j.val - 1024), by omega⟩

theorem wvt_at (w : FVec Ideal S2048x6144 .f32) (j d : Fin 2048) : wvt w (ix2 j d) = w (ix2 d (vcol j)) := by
  pointwise [wvt]
  unfold vcol
  by_cases h : j.val < 1024
  · rw [dif_pos h, dif_pos h]
  · rw [dif_neg h, dif_neg h]

theorem v6_at (j d : Fin 2048) : V m c main_v6 (ix2 j d) = a4 m c (ix2 d (vcol j)) := by
  rw [← wvt_at (a4 m c) j d]
  have h : V m c main_v6 = truncf .bf16 (wvt (a4 m c)) bitsLt_bf16_f32 := by
    unfold wvt
    after_reads_simp
    rfl
  rw [h]
  pointwise

/-! ## The blocks -/

theorem coords_val (t : Fin cfg0.N) : (grid0.coords t 0).val = t.val := by
  have h : t.val < 64 := lt_of_lt_of_eq t.isLt N_0
  have e0 : (grid0.coords t 0).val = (t.val / 1) % 64 := rfl
  rw [e0]; omega

theorem im0 : ∀ t : Fin cfg0.N, win0_0.index t = ![min t.val 31, 0] := (by decide +kernel : ∀ t : Fin grid0.N, win0_0.index t = ![min t.val 31, 0])
theorem im1 : ∀ t : Fin cfg0.N, win0_1.index t = ![t.val - 32, 0] := (by decide +kernel : ∀ t : Fin grid0.N, win0_1.index t = ![t.val - 32, 0])
theorem im2 : ∀ t : Fin cfg0.N, win0_2.index t = ![0, 0] := (by decide +kernel : ∀ t : Fin grid0.N, win0_2.index t = ![0, 0])
theorem im3 : ∀ t : Fin cfg0.N, win0_3.index t = ![0, 1] := (by decide +kernel : ∀ t : Fin grid0.N, win0_3.index t = ![0, 1])
theorem im4 : ∀ t : Fin cfg0.N, win0_4.index t = ![0, 0] := (by decide +kernel : ∀ t : Fin grid0.N, win0_4.index t = ![0, 0])
theorem im5 : ∀ t : Fin cfg0.N, win0_5.index t = ![0, 0] := (by decide +kernel : ∀ t : Fin grid0.N, win0_5.index t = ![0, 0])
theorem im6 : ∀ t : Fin cfg0.N, win0_6.index t = ![t.val, 0, 0] := (by decide +kernel : ∀ t : Fin grid0.N, win0_6.index t = ![t.val, 0, 0])
theorem im7 : ∀ t : Fin cfg0.N, win0_7.index t = ![t.val, 0, 0] := (by decide +kernel : ∀ t : Fin grid0.N, win0_7.index t = ![t.val, 0, 0])
theorem offs : ∀ t : Fin cfg0.N, k0_off1 (grid0.coords t) = ![min (t.val / 16) 2, 0] := (by decide +kernel : ∀ t : Fin grid0.N, k0_off1 (grid0.coords t) = ![min (t.val / 16) 2, 0])

theorem b0_at (t : Fin cfg0.N) (r : Fin 512) (d : Fin 2048) (R : Fin 16384) (hR : R.val = min (t.val) 31 * 512 + r.val) :
    iblk m c 0 t (ix2 r d) = V m c main_v0 (ix2 R d) := by
  blk_simp [iblk]
  refine congrArg (V m c main_v0) ?_
  blk_ext [im0]

theorem b1_at (t : Fin cfg0.N) (r : Fin 512) (d : Fin 2048) (R : Fin 16384) (hR : R.val = (t.val - 32) * 512 + r.val) :
    iblk m c 1 t (ix2 r d) = V m c main_v1 (ix2 R d) := by
  blk_simp [iblk]
  refine congrArg (V m c main_v1) ?_
  blk_ext [im1]

theorem b2_at (t : Fin cfg0.N) (s : Fin 8) (d : Fin 2048) (D : Fin 12288) (hD : D.val = d.val) :
    iblk m c 2 t (ix2 s d) = V m c main_arg2 (ix2 s D) := by
  blk_simp [iblk]
  refine congrArg (V m c main_arg2) ?_
  blk_ext [im2]

theorem b3_at (t : Fin cfg0.N) (s : Fin 8) (d : Fin 2048) (D : Fin 12288) (hD : D.val = 2048 + d.val) :
    iblk m c 3 t (ix2 s d) = V m c main_arg2 (ix2 s D) := by
  blk_simp [iblk]
  refine congrArg (V m c main_arg2) ?_
  blk_ext [im3]

theorem b4_at (t : Fin cfg0.N) (d : Fin 2048) : iblk m c 4 t (ix2 (0 : Fin 1) d) = V m c main_v7 (ix2 (0 : Fin 1) d) := by
  blk_simp [iblk]
  refine congrArg (V m c main_v7) ?_
  blk_ext [im4]

theorem b5_at (t : Fin cfg0.N) (j d : Fin 2048) : iblk m c 5 t (ix2 j d) = V m c main_v6 (ix2 j d) := by
  blk_simp [iblk]
  refine congrArg (V m c main_v6) ?_
  blk_ext [im5]

/-! ## The results -/

/-- The values of a head group, whose columns begin at `o`: by tiles of 512 tokens, a column a row. -/
def valOf (o : ℕ) (ho : o + 1024 ≤ 6144) : S64x1024x512.Idx → EReal := fun y =>
  full (a0 m c) (a1 m c) (a2 m c) (a3 m c) (a4 m c)
    (⟨(y 0).val * 512 + (y 2).val, by have h0 : (y 0).val < 64 := (y 0).isLt; have h2 : (y 2).val < 512 := (y 2).isLt; omega⟩ : Fin 32768)
    (⟨o + (y 1).val, by have h1 : (y 1).val < 1024 := (y 1).isLt; omega⟩ : Fin 6144)

/-- What a step adds up for token `r` and row `J` of the weights. -/
theorem sum_at (t : Fin cfg0.N) (r : Fin 512) (J : Fin 2048) (R : Fin 32768) (hR : R.val = t.val * 512 + r.val) :
    (∑ d : Fin 2048, normed (fun e => if (grid0.coords t 0).val < 32 then iblk m c 0 t (ix2 r e) else iblk m c 1 t (ix2 r e)) (fun e => iblk m c 4 t (ix2 (0 : Fin 1) e))
      (fun e => iblk m c 3 t (ix2 (seg R) e)) (fun e => iblk m c 2 t (ix2 (seg R) e)) d * iblk m c 5 t (ix2 J d))
      = full (a0 m c) (a1 m c) (a2 m c) (a3 m c) (a4 m c) R (vcol J) := by
  have ht : t.val < 64 := lt_of_lt_of_eq t.isLt N_0
  have hr := r.isLt
  rw [coords_val t]
  have hx : (fun e : Fin 2048 => if t.val < 32 then iblk m c 0 t (ix2 r e) else iblk m c 1 t (ix2 r e)) = tok (a0 m c) (a1 m c) R := by
    funext e
    unfold tok
    by_cases h : t.val < 32
    · rw [if_pos h, dif_pos (by omega), b0_at m c t r e ⟨R.val, by omega⟩ (by show R.val = _; omega), v0_at]
    · rw [if_neg h, dif_neg (by omega), b1_at m c t r e ⟨R.val - 16384, by omega⟩ (by show R.val - 16384 = _; omega), v1_at]
  have hg : (fun e : Fin 2048 => iblk m c 4 t (ix2 (0 : Fin 1) e)) = fun d => a3 m c (ix1 d) := by
    funext e
    rw [b4_at, v7_at]
  have hsc : (fun e : Fin 2048 => iblk m c 3 t (ix2 (seg R) e)) = fun d => a2 m c (ix2 (seg R) (⟨2048 + d.val, by omega⟩ : Fin 12288)) := by
    funext e
    rw [b3_at m c t (seg R) e ⟨2048 + e.val, by omega⟩ rfl, V_main_arg2]
  have hsh : (fun e : Fin 2048 => iblk m c 2 t (ix2 (seg R) e)) = fun d => a2 m c (ix2 (seg R) (⟨d.val, by omega⟩ : Fin 12288)) := by
    funext e
    rw [b2_at m c t (seg R) e ⟨e.val, by omega⟩ rfl, V_main_arg2]
  refine Finset.sum_congr rfl fun d _ => ?_
  rw [hx, hg, hsc, hsh, b5_at m c t J d, v6_at]
  rfl

theorem seg_offs (t : Fin cfg0.N) (r : Fin 512) (R : Fin 32768) (hR : R.val = t.val * 512 + r.val) : k0_off1 (grid0.coords t) = ![(seg R).val, 0] :=
  (offs t).trans (by
    have hr := r.isLt
    congr 1
    show min (t.val / 16) 2 = min (R.val / 8192) 2
    omega)

/-- What a step leaves in its first block. -/
theorem step6_at (t : Fin cfg0.N) (q : Fin 1) (j : Fin 1024) (r : Fin 512) (Q : Fin 64) (hQ : Q.val = t.val) :
    (outsAt0 m c t).1 (ix3 q j r) = valOf m c 2048 (by omega) (ix3 Q j r) := by
  have hc : vcol (⟨j.val, by omega⟩ : Fin 2048) = (⟨2048 + j.val, by omega⟩ : Fin 6144) := by
    unfold vcol
    rw [dif_pos j.isLt]
  unfold outsAt0
  dsimp only
  show _ = full (a0 m c) (a1 m c) (a2 m c) (a3 m c) (a4 m c) (⟨Q.val * 512 + r.val, by omega⟩ : Fin 32768) (⟨2048 + j.val, by omega⟩ : Fin 6144)
  rw [out6_at c (grid0.coords t) _ _ _ _ _ _ _ _ _ _ _ _ _ _ _ _ _ _ _ _ _ _ q j r (seg (⟨Q.val * 512 + r.val, by omega⟩ : Fin 32768))
    (seg_offs t r _ (by show Q.val * 512 + r.val = _; omega))]
  rw [← hc]
  exact sum_at m c t r _ _ (by show Q.val * 512 + r.val = _; omega)

/-- The whole first result. -/
theorem out6_eq : (dats m 0 c).arrAt 6 cfg0.N = valOf m c 2048 (by omega) := by
  refine (dats m 0 c).arrAt_eq_of_emb 6 _ (fun t hf y => ?_) fun y => ?_
  · obtain ⟨q, j, r, rfl⟩ : ∃ (q : Fin 1) (j : Fin 1024) (r : Fin 512), y = ix3 q j r := ⟨y 0, y 1, y 2, by
      funext x
      match x with
      | ⟨0, _⟩ => rfl
      | ⟨1, _⟩ => rfl
      | ⟨2, _⟩ => rfl⟩
    have ht : t.val < 64 := lt_of_lt_of_eq t.isLt N_0
    blk_simp
    rw [after0_6]
    refine (step6_at m c t q j r (⟨t.val, ht⟩ : Fin 64) rfl).trans ?_
    refine congrArg (valOf m c 2048 (by omega)) ?_
    blk_ext [im6]
  · obtain ⟨Q, j, r, rfl⟩ : ∃ (Q : Fin 64) (j : Fin 1024) (r : Fin 512), y = ix3 Q j r := ⟨y 0, y 1, y 2, by
      funext x
      match x with
      | ⟨0, _⟩ => rfl
      | ⟨1, _⟩ => rfl
      | ⟨2, _⟩ => rfl⟩
    refine ⟨⟨Q.val, lt_of_lt_of_eq Q.isLt N_0.symm⟩, flush0_6 _, ?_⟩
    mem_blk [im6]
    show (Q.val ≤ Q.val ∧ Q.val < Q.val + 1) ∧ (0 ≤ j.val ∧ j.val < 1024) ∧ (0 ≤ r.val ∧ r.val < 512)
    have hj := j.isLt
    have hr := r.isLt
    omega

/-- What a step leaves in its second block. -/
theorem step7_at (t : Fin cfg0.N) (q : Fin 1) (j : Fin 1024) (r : Fin 512) (Q : Fin 64) (hQ : Q.val = t.val) :
    (outsAt0 m c t).2 (ix3 q j r) = valOf m c 5120 (by omega) (ix3 Q j r) := by
  have hc : vcol (⟨1024 + j.val, by omega⟩ : Fin 2048) = (⟨5120 + j.val, by omega⟩ : Fin 6144) := by
    unfold vcol
    rw [dif_neg (by show ¬(1024 + j.val < 1024); omega)]
    exact Fin.ext (by show 5120 + (1024 + j.val - 1024) = 5120 + j.val; omega)
  unfold outsAt0
  dsimp only
  show _ = full (a0 m c) (a1 m c) (a2 m c) (a3 m c) (a4 m c) (⟨Q.val * 512 + r.val, by omega⟩ : Fin 32768) (⟨5120 + j.val, by omega⟩ : Fin 6144)
  rw [out7_at c (grid0.coords t) _ _ _ _ _ _ _ _ _ _ _ _ _ _ _ _ _ _ _ _ _ _ q j r (seg (⟨Q.val * 512 + r.val, by omega⟩ : Fin 32768))
    (seg_offs t r _ (by show Q.val * 512 + r.val = _; omega))]
  rw [← hc]
  exact sum_at m c t r _ _ (by show Q.val * 512 + r.val = _; omega)

/-- The whole second result. -/
theorem out7_eq : (dats m 0 c).arrAt 7 cfg0.N = valOf m c 5120 (by omega) := by
  refine (dats m 0 c).arrAt_eq_of_emb 7 _ (fun t hf y => ?_) fun y => ?_
  · obtain ⟨q, j, r, rfl⟩ : ∃ (q : Fin 1) (j : Fin 1024) (r : Fin 512), y = ix3 q j r := ⟨y 0, y 1, y 2, by
      funext x
      match x with
      | ⟨0, _⟩ => rfl
      | ⟨1, _⟩ => rfl
      | ⟨2, _⟩ => rfl⟩
    have ht : t.val < 64 := lt_of_lt_of_eq t.isLt N_0
    blk_simp
    rw [after0_7]
    refine (step7_at m c t q j r (⟨t.val, ht⟩ : Fin 64) rfl).trans ?_
    refine congrArg (valOf m c 5120 (by omega)) ?_
    blk_ext [im7]
  · obtain ⟨Q, j, r, rfl⟩ : ∃ (Q : Fin 64) (j : Fin 1024) (r : Fin 512), y = ix3 Q j r := ⟨y 0, y 1, y 2, by
      funext x
      match x with
      | ⟨0, _⟩ => rfl
      | ⟨1, _⟩ => rfl
      | ⟨2, _⟩ => rfl⟩
    refine ⟨⟨Q.val, lt_of_lt_of_eq Q.isLt N_0.symm⟩, flush0_7 _, ?_⟩
    mem_blk [im7]
    show (Q.val ≤ Q.val ∧ Q.val < Q.val + 1) ∧ (0 ≤ j.val ∧ j.val < 1024) ∧ (0 ≤ r.val ∧ r.val < 512)
    have hj := j.isLt
    have hr := r.isLt
    omega

end Cert.Kernel3Ideal.Hand

end
-- ==== Proof.Values.RVal.lean ====
/-
  The reference of the projection to values at an entry.
-/
module

public import proofs.«01_k».proof.Proof.Gen.Reference3Ideal.Run
public import proofs.«01_k».proof.Proof.Inproj.RVal

@[expose] public section

set_option maxRecDepth 16384

noncomputable section

namespace Cert.Reference3Ideal.Hand

open Cert.Reference3Ideal Cert.Reference3Ideal.Gen
open Idealize.ShloMosaic Idealize.ShloMosaic.TcCoe Idealize.ShloMosaic.Pointwise
open Cert.Inproj
open Cert.Reference2Ideal.Hand (prod0 prod1 prod0_at prod1_at nrm0_at nrm1_at)

variable (A0 : FVec Ideal S2x8192x2048 .f32) (A1 : FVec Ideal S1x16384x2048 .f32) (A2 : FVec Ideal S8x12288 .f32) (A3 : FVec Ideal S2048 .f32) (A4 : FVec Ideal S2048x6144 .f32)

/-- The values of the differential heads. -/
def ref0 : FVec Ideal S64x1024x512 .bf16 :=
  truncf .bf16 (transpose S64x1024x512 [0, 2, 1] (shapeCast _ (concatenate S32768x1024 0 [⟨S16384x1024, (shapeCast _ (extractStridedSlice S2x8192x1024 ![0, 0, 2048] (prod0 A0 A2 A3 A4) slices_S2x8192x6144_S2x8192x1024_0_0_2048) shapeCasts_S2x8192x1024_S16384x1024)⟩, ⟨S16384x1024, (shapeCast _ (extractStridedSlice S1x16384x1024 ![0, 0, 2048] (prod1 A1 A2 A3 A4) slices_S1x16384x6144_S1x16384x1024_0_0_2048) shapeCasts_S1x16384x1024_S16384x1024)⟩] concatenates_S16384x1024_S16384x1024_S32768x1024_d0) shapeCasts_S32768x1024_S64x512x1024) transposes_S64x512x1024_S64x1024x512_0_2_1) bitsLt_bf16_f32

/-- The values of the dilated heads. -/
def ref1 : FVec Ideal S64x1024x512 .bf16 :=
  truncf .bf16 (transpose S64x1024x512 [0, 2, 1] (shapeCast _ (concatenate S32768x1024 0 [⟨S16384x1024, (shapeCast _ (extractStridedSlice S2x8192x1024 ![0, 0, 5120] (prod0 A0 A2 A3 A4) slices_S2x8192x6144_S2x8192x1024_0_0_5120) shapeCasts_S2x8192x1024_S16384x1024)⟩, ⟨S16384x1024, (shapeCast _ (extractStridedSlice S1x16384x1024 ![0, 0, 5120] (prod1 A1 A2 A3 A4) slices_S1x16384x6144_S1x16384x1024_0_0_5120) shapeCasts_S1x16384x1024_S16384x1024)⟩] concatenates_S16384x1024_S16384x1024_S32768x1024_d0) shapeCasts_S32768x1024_S64x512x1024) transposes_S64x512x1024_S64x1024x512_0_2_1) bitsLt_bf16_f32

/-- The first group's product, at a row of both groups. -/
theorem first_at (R : Fin 32768) (h : R.val < 16384) (J : Fin 6144) :
    prod0 A0 A2 A3 A4 (ix3 (⟨R.val / 8192, by omega⟩ : Fin 2) (⟨R.val % 8192, by omega⟩ : Fin 8192) J) = full A0 A1 A2 A3 A4 R J := by
  have hs : seg R = ⟨R.val / 8192, by omega⟩ := Fin.ext (by show min (R.val / 8192) 2 = R.val / 8192; omega)
  have ht : tok A0 A1 R = fun e => A0 (ix3 (⟨R.val / 8192, by omega⟩ : Fin 2) (⟨R.val % 8192, by omega⟩ : Fin 8192) e) := by
    funext e; unfold tok; rw [dif_pos h]
  unfold full row
  rw [prod0_at, hs, ht]
  refine Finset.sum_congr rfl fun d _ => ?_
  rw [nrm0_at]

/-- The second group's product, at a row of both groups. -/
theorem second_at (R : Fin 32768) (h : ¬R.val < 16384) (J : Fin 6144) :
    prod1 A1 A2 A3 A4 (ix3 (0 : Fin 1) (⟨R.val - 16384, by omega⟩ : Fin 16384) J) = full A0 A1 A2 A3 A4 R J := by
  have hR := R.isLt
  have hs : seg R = ⟨2, by omega⟩ := Fin.ext (by show min (R.val / 8192) 2 = 2; omega)
  have ht : tok A0 A1 R = fun e => A1 (ix3 (0 : Fin 1) (⟨R.val - 16384, by omega⟩ : Fin 16384) e) := by
    funext e; unfold tok; rw [dif_neg h]
  unfold full row
  rw [prod1_at, hs, ht]
  refine Finset.sum_congr rfl fun d _ => ?_
  rw [nrm1_at]

theorem ref0_at (Q : Fin 64) (j : Fin 1024) (r : Fin 512) :
    ref0 A0 A1 A2 A3 A4 (ix3 Q j r) = full A0 A1 A2 A3 A4 (⟨Q.val * 512 + r.val, by omega⟩ : Fin 32768) (⟨2048 + j.val, by omega⟩ : Fin 6144) := by
  pointwise [ref0]
  by_cases h : Q.val * 512 + r.val < 16384
  · rw [dif_pos h]
    exact first_at A0 A1 A2 A3 A4 ⟨Q.val * 512 + r.val, by omega⟩ h _
  · rw [dif_neg h]
    exact second_at A0 A1 A2 A3 A4 ⟨Q.val * 512 + r.val, by omega⟩ h _

theorem ref1_at (Q : Fin 64) (j : Fin 1024) (r : Fin 512) :
    ref1 A0 A1 A2 A3 A4 (ix3 Q j r) = full A0 A1 A2 A3 A4 (⟨Q.val * 512 + r.val, by omega⟩ : Fin 32768) (⟨5120 + j.val, by omega⟩ : Fin 6144) := by
  pointwise [ref1]
  by_cases h : Q.val * 512 + r.val < 16384
  · rw [dif_pos h]
    exact first_at A0 A1 A2 A3 A4 ⟨Q.val * 512 + r.val, by omega⟩ h _
  · rw [dif_neg h]
    exact second_at A0 A1 A2 A3 A4 ⟨Q.val * 512 + r.val, by omega⟩ h _

end Cert.Reference3Ideal.Hand

end
-- ==== Proof.Values.lean ====
/-
  The projection to values: its frames and its value claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_counts_of_rows
public import proofs.«01_k».proof.Proof.Gen.Kernel3
public import proofs.«01_k».proof.Proof.Gen.Kernel3.Frame
public import proofs.«01_k».proof.Proof.Values.KVal
public import proofs.«01_k».proof.Proof.Values.RVal

@[expose] public section

set_option maxRecDepth 16384

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_counts_of_rows.Gen.facts
  Cert.Kernel3.Gen.facts Cert.Kernel3Ideal.Gen.facts Cert.Reference3Ideal.Gen.facts

theorem frame_kernel3 : Cert.quiescent_Kernel3 := fun m ρ _ => Cert.Kernel3.Gen.frame m ρ

theorem frame_kernel3Ideal : Cert.quiescent_Kernel3Ideal := fun m ρ _ => Cert.Kernel3Ideal.Gen.frame m ρ

theorem frame_ref3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

variable (m : (ℓ : Loc Cert.Kernel3Ideal.nD Cert.Kernel3Ideal.τ Cert.Kernel3Ideal.sig) → Buf (Elt Ideal) ℓ)

/-- The reference's first result of the same arguments. -/
theorem ref3_0_eq (c : Dev Cert.Kernel3Ideal.nD) :
    Cert.Reference3Ideal.Hand.ref0 (Cert.Kernel3Ideal.Hand.a0 m c) (Cert.Kernel3Ideal.Hand.a1 m c) (Cert.Kernel3Ideal.Hand.a2 m c) (Cert.Kernel3Ideal.Hand.a3 m c) (Cert.Kernel3Ideal.Hand.a4 m c) = Cert.Kernel3Ideal.Hand.valOf m c 2048 (by omega) := by
  funext y
  obtain ⟨Q, j, r, rfl⟩ : ∃ (Q : Fin 64) (j : Fin 1024) (r : Fin 512), y = ix3 Q j r := ⟨y 0, y 1, y 2, by
    funext x
    match x with
    | ⟨0, _⟩ => rfl
    | ⟨1, _⟩ => rfl
    | ⟨2, _⟩ => rfl⟩
  exact Cert.Reference3Ideal.Hand.ref0_at _ _ _ _ _ Q j r

/-- The reference's second result of the same arguments. -/
theorem ref3_1_eq (c : Dev Cert.Kernel3Ideal.nD) :
    Cert.Reference3Ideal.Hand.ref1 (Cert.Kernel3Ideal.Hand.a0 m c) (Cert.Kernel3Ideal.Hand.a1 m c) (Cert.Kernel3Ideal.Hand.a2 m c) (Cert.Kernel3Ideal.Hand.a3 m c) (Cert.Kernel3Ideal.Hand.a4 m c) = Cert.Kernel3Ideal.Hand.valOf m c 5120 (by omega) := by
  funext y
  obtain ⟨Q, j, r, rfl⟩ : ∃ (Q : Fin 64) (j : Fin 1024) (r : Fin 512), y = ix3 Q j r := ⟨y 0, y 1, y 2, by
    funext x
    match x with
    | ⟨0, _⟩ => rfl
    | ⟨1, _⟩ => rfl
    | ⟨2, _⟩ => rfl⟩
  exact Cert.Reference3Ideal.Hand.ref1_at _ _ _ _ _ Q j r

theorem algebraic3 : Cert.algebraic_Kernel3Ideal_Reference3Ideal := by
  intro m g m' g' _ hm
  refine ⟨fun c => Cert.Kernel3Ideal.Hand.valOf m c 2048 (by omega), fun c => Cert.Kernel3Ideal.Hand.valOf m c 5120 (by omega), ?_, ?_⟩
  · exact (θ_run _ _ _).mono (fun r hr c => ⟨(hr c).1.trans (Cert.Kernel3Ideal.Hand.out6_eq m c), (hr c).2.1.trans (Cert.Kernel3Ideal.Hand.out7_eq m c), (hr c).2.2⟩)
      (Cert.Kernel3Ideal.Value.run_blocks (F := Ideal) m g)
  · refine (θ_run Cert.Reference3Ideal.defs _ _).mono (fun r h c => ⟨?_, ?_, (h c).2.2⟩) (Cert.Reference3Ideal.Value.run (F := Ideal) m' g')
    · refine (h c).1.trans ?_
      obtain ⟨e0, e1, e2, e3, e4⟩ := hm c
      show Cert.Reference3Ideal.Hand.ref0 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) = _
      rw [e0, e1, e2, e3, e4]
      exact ref3_0_eq m c
    · refine (h c).2.1.trans ?_
      obtain ⟨e0, e1, e2, e3, e4⟩ := hm c
      show Cert.Reference3Ideal.Hand.ref1 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) = _
      rw [e0, e1, e2, e3, e4]
      exact ref3_1_eq m c

end Cert.Proof

end
-- ==== Proof.Output.Spec.lean ====
/-
  The output projection with the gated residual and the second norm, written as sums over the extended reals.
-/
module

public import proofs.«01_k».proof.Proof.Inproj.Spec

@[expose] public section

noncomputable section

namespace Cert.Output

open Idealize.ShloMosaic Cert.Inproj

/-- Row `R` of one head group's attention, over both request groups. -/
def att (p q : FVec Ideal ⟨2, ![16384, 1024]⟩ .bf16) (R : Fin 32768) (k : Fin 1024) : EReal :=
  if h : R.val < 16384 then p (ix2 (⟨R.val, h⟩ : Fin 16384) k) else q (ix2 (⟨R.val - 16384, by omega⟩ : Fin 16384) k)

/-- The attention of both head groups times the output weights: those of the first group lie in the upper half. -/
def mixed (a b : Fin 1024 → EReal) (w : FVec Ideal ⟨2, ![2048, 2048]⟩ .f32) (d : Fin 2048) : EReal :=
  (∑ k : Fin 1024, a k * w (ix2 (⟨k.val, by omega⟩ : Fin 2048) d)) + ∑ k : Fin 1024, b k * w (ix2 (⟨1024 + k.val, by omega⟩ : Fin 2048) d)

variable (x0 : FVec Ideal ⟨3, ![2, 8192, 2048]⟩ .f32) (x1 : FVec Ideal ⟨3, ![1, 16384, 2048]⟩ .f32)
  (p0 q0 p1 q1 : FVec Ideal ⟨2, ![16384, 1024]⟩ .bf16) (md : FVec Ideal ⟨2, ![8, 12288]⟩ .f32)
  (g : FVec Ideal ⟨1, ![2048]⟩ .f32) (w : FVec Ideal ⟨2, ![2048, 2048]⟩ .f32)

/-- Row `R` of the tokens after the attention's gated residual. -/
def res (R : Fin 32768) (d : Fin 2048) : EReal :=
  tok x0 x1 R d + md (ix2 (seg R) (⟨4096 + d.val, by omega⟩ : Fin 12288)) * mixed (att p0 p1 R) (att q0 q1 R) w d

/-- The normalised and modulated row `R` of them. -/
def hid (R : Fin 32768) : Fin 2048 → EReal :=
  normed (res x0 x1 p0 q0 p1 q1 md w R) (fun d => g (ix1 d)) (fun d => md (ix2 (seg R) (⟨8192 + d.val, by omega⟩ : Fin 12288)))
    (fun d => md (ix2 (seg R) (⟨6144 + d.val, by omega⟩ : Fin 12288)))

end Cert.Output

end
-- ==== Proof.Output.Out.lean ====
/-
  What the body of the output projection leaves in its first two output blocks, at an entry.
-/
module

public import proofs.«01_k».proof.Proof.Gen.Kernel4Ideal.Value
public import proofs.«01_k».proof.Proof.Output.Spec
public import Idealize.ShloMosaic.Lib.Pointwise
public import Idealize.ShloMosaic.Lib.Pipeline.ValueKit

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Pointwise
open Cert.Inproj

/-- The step's bit: whether its tokens are of the first group. -/
abbrev bit (i : grid0.Coords) : BitVec 1 := Scalar.cmpi .slt (BitVec.ofNat 32 (i 0).val) 32#32

theorem bit_iff (i : grid0.Coords) : bit i = 1#1 ↔ (i 0).val < 32 := by
  have hi : (i 0).val < 64 := (i 0).isLt
  exact WordCmp.cmpi_slt_ofNat_eq_one_iff (w := 32) (a := (i 0).val) (b := 32) (by omega) (by omega)

theorem select_at {T : Type} (i : grid0.Coords) (a b : T) :
    Scalar.select (Scalar.cmpi .slt (BitVec.ofNat 32 (i 0).val) 32#32) a b = if (i 0).val < 32 then a else b := by
  have hb := bit_iff i
  unfold Scalar.select
  by_cases h : (i 0).val < 32
  · rw [if_pos h]
    exact if_pos (hb.2 h)
  · rw [if_neg h]
    exact if_neg fun e => h (hb.1 e)

section
variable (i : grid0.Coords) (x0 x1 : Vec Ideal S512x2048 .f32) (p0 p1 q0 q1 : Vec Ideal S512x1024 .bf16) (wa wd : Vec Ideal S1024x2048 .bf16)
  (ga g sc sh : Vec Ideal S1x2048 .f32)

/-- A step's row of the attention times the weights. -/
def dots (r : Fin 512) (d : Fin 2048) : EReal :=
  (∑ k : Fin 1024, (if (i 0).val < 32 then p0 (ix2 r k) else p1 (ix2 r k)) * wa (ix2 k d))
    + ∑ k : Fin 1024, (if (i 0).val < 32 then q0 (ix2 r k) else q1 (ix2 r k)) * wd (ix2 k d)

/-- A step's row after the residual. -/
def resid (r : Fin 512) (d : Fin 2048) : EReal :=
  (if (i 0).val < 32 then x0 (ix2 r d) else x1 (ix2 r d)) + ga (ix2 (0 : Fin 1) d) * dots i p0 p1 q0 q1 wa wd r d

theorem pay2_at (r : Fin 512) (d : Fin 2048) : k0_pay2 (F := Ideal) i p0 p1 q0 q1 wa wd (ix2 r d) = dots i p0 p1 q0 q1 wa wd r d := by
  unfold dots
  pointwise [k0_pay2]
  simp only [select_at]

theorem pay3_at (r : Fin 512) (d : Fin 2048) :
    k0_pay3 (F := Ideal) (bit i) (k0_pay2 (F := Ideal) i p0 p1 q0 q1 wa wd) x0 x1 ga (ix2 r d) = resid i x0 x1 p0 p1 q0 q1 wa wd ga r d := by
  unfold resid
  pointwise [k0_pay3]
  rw [pay2_at]
  simp only [select_at]

theorem pay4_at (r : Fin 512) (d : Fin 2048) :
    k0_pay4 (F := Ideal) (bit i) (k0_pay2 (F := Ideal) i p0 p1 q0 q1 wa wd) x0 x1 ga g sc sh (ix2 r d)
      = normed (resid i x0 x1 p0 p1 q0 q1 wa wd ga r) (fun e => g (ix2 (0 : Fin 1) e)) (fun e => sc (ix2 (0 : Fin 1) e)) (fun e => sh (ix2 (0 : Fin 1) e)) d := by
  pointwise [k0_pay4]
  simp only [pay3_at]
  rfl

end

/-- A row of the modulation, as a step reads it. -/
theorem ld_at (i : grid0.Coords) (x : Vec Ideal S8x2048 .f32) (s : Fin 8) (hs : k0_off1 i = ![s.val, 0]) (e : Fin 2048) :
    View.ld x (Rect.unit (s := S8x2048) (k0_off1 i) S1x2048.size (Gen.facts.k0_off1_inb i)) (ix2 (0 : Fin 1) e) = x (ix2 s e) :=
  View.ld_unit_apply_of _ _ _ _ _ _ fun a => by
    match a with
    | ⟨0, _⟩ => exact (congrFun hs 0).symm
    | ⟨1, _⟩ => exact ((congrArg (· + e.val) (congrFun hs 1)).trans (Nat.zero_add _)).symm

/-- A step's row after the residual, from the blocks. -/
def rowOf (i : grid0.Coords) (s : Fin 8) (x0 x1 : Vec Ideal S512x2048 .f32) (x2 x3 x4 x5 : Vec Ideal S512x1024 .bf16) (x6 x7 : Vec Ideal S1024x2048 .bf16)
    (x8 : Vec Ideal S8x2048 .f32) (r : Fin 512) (d : Fin 2048) : EReal :=
  (if (i 0).val < 32 then x0 (ix2 r d) else x1 (ix2 r d)) + x8 (ix2 s d) * dots i x2 x4 x3 x5 x6 x7 r d

/-- The first output block of a step, at an entry. -/
theorem out15_at (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S8x2048 .f32) (harg9 : arg9.IsWhole) (arg10 : Memref sig .tc .vmem S8x2048 .f32) (harg10 : arg10.IsWhole) (arg11 : Memref sig .tc .vmem S8x2048 .f32) (harg11 : arg11.IsWhole) (arg12 : Memref sig .tc .vmem S1x2048 .f32) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S1x128 .f32) (harg15 : arg15.IsWhole) (arg16 : Memref sig .tc .vmem S512x2048 .f32) (harg16 : arg16.IsWhole) (arg17 : Memref sig .tc .vmem S512x2048 .f32) (harg17 : arg17.IsWhole) (arg18 : Memref sig .tc .vmem S512x128 .f32) (harg18 : arg18.IsWhole)
    (x0 : Vec Ideal S512x2048 .f32) (x1 : Vec Ideal S512x2048 .f32) (x2 : Vec Ideal S512x1024 .bf16) (x3 : Vec Ideal S512x1024 .bf16) (x4 : Vec Ideal S512x1024 .bf16) (x5 : Vec Ideal S512x1024 .bf16) (x6 : Vec Ideal S1024x2048 .bf16) (x7 : Vec Ideal S1024x2048 .bf16) (x8 : Vec Ideal S8x2048 .f32) (x9 : Vec Ideal S8x2048 .f32) (x10 : Vec Ideal S8x2048 .f32) (x11 : Vec Ideal S1x2048 .f32) (x12 : Vec Ideal S2048x128 .bf16) (x13 : Vec Ideal S2048x128 .bf16) (x14 : Vec Ideal S1x128 .f32)
    (r : Fin 512) (d : Fin 2048) (s : Fin 8) (hs : k0_off1 i = ![s.val, 0]) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 (ix2 r d) = rowOf i s x0 x1 x2 x3 x4 x5 x6 x7 x8 r d := by
  have hr : resid i x0 x1 x2 x4 x3 x5 x6 x7 (View.ld x8 (Rect.unit (s := S8x2048) (k0_off1 i) S1x2048.size (Gen.facts.k0_off1_inb i))) r = rowOf i s x0 x1 x2 x3 x4 x5 x6 x7 x8 r := by
    funext e
    unfold resid rowOf
    rw [ld_at i x8 s hs]
  have key := pay3_at i x0 x1 x2 x4 x3 x5 x6 x7 (View.ld x8 (Rect.unit (s := S8x2048) (k0_off1 i) S1x2048.size (Gen.facts.k0_off1_inb i))) r d
  rw [hr] at key
  rw [← key]
  frame_out

/-- The second output block of a step, at an entry. -/
theorem out16_at (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x2048 .bf16) (harg7 : arg7.IsWhole) (arg8 : Memref sig .tc .vmem S1024x2048 .bf16) (harg8 : arg8.IsWhole) (arg9 : Memref sig .tc .vmem S8x2048 .f32) (harg9 : arg9.IsWhole) (arg10 : Memref sig .tc .vmem S8x2048 .f32) (harg10 : arg10.IsWhole) (arg11 : Memref sig .tc .vmem S8x2048 .f32) (harg11 : arg11.IsWhole) (arg12 : Memref sig .tc .vmem S1x2048 .f32) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S1x128 .f32) (harg15 : arg15.IsWhole) (arg16 : Memref sig .tc .vmem S512x2048 .f32) (harg16 : arg16.IsWhole) (arg17 : Memref sig .tc .vmem S512x2048 .f32) (harg17 : arg17.IsWhole) (arg18 : Memref sig .tc .vmem S512x128 .f32) (harg18 : arg18.IsWhole)
    (x0 : Vec Ideal S512x2048 .f32) (x1 : Vec Ideal S512x2048 .f32) (x2 : Vec Ideal S512x1024 .bf16) (x3 : Vec Ideal S512x1024 .bf16) (x4 : Vec Ideal S512x1024 .bf16) (x5 : Vec Ideal S512x1024 .bf16) (x6 : Vec Ideal S1024x2048 .bf16) (x7 : Vec Ideal S1024x2048 .bf16) (x8 : Vec Ideal S8x2048 .f32) (x9 : Vec Ideal S8x2048 .f32) (x10 : Vec Ideal S8x2048 .f32) (x11 : Vec Ideal S1x2048 .f32) (x12 : Vec Ideal S2048x128 .bf16) (x13 : Vec Ideal S2048x128 .bf16) (x14 : Vec Ideal S1x128 .f32)
    (r : Fin 512) (d : Fin 2048) (s : Fin 8) (hs : k0_off1 i = ![s.val, 0]) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 (ix2 r d) = normed (rowOf i s x0 x1 x2 x3 x4 x5 x6 x7 x8 r) (fun e => x11 (ix2 (0 : Fin 1) e)) (fun e => x10 (ix2 s e)) (fun e => x9 (ix2 s e)) d := by
  have hr : resid i x0 x1 x2 x4 x3 x5 x6 x7 (View.ld x8 (Rect.unit (s := S8x2048) (k0_off1 i) S1x2048.size (Gen.facts.k0_off1_inb i))) r = rowOf i s x0 x1 x2 x3 x4 x5 x6 x7 x8 r := by
    funext e
    unfold resid rowOf
    rw [ld_at i x8 s hs]
  have key := pay4_at i x0 x1 x2 x4 x3 x5 x6 x7 (View.ld x8 (Rect.unit (s := S8x2048) (k0_off1 i) S1x2048.size (Gen.facts.k0_off1_inb i))) x11 (View.ld x10 (Rect.unit (s := S8x2048) (k0_off1 i) S1x2048.size (Gen.facts.k0_off1_inb i))) (View.ld x9 (Rect.unit (s := S8x2048) (k0_off1 i) S1x2048.size (Gen.facts.k0_off1_inb i))) r d
  rw [hr] at key
  have h10 : (fun e => View.ld x10 (Rect.unit (s := S8x2048) (k0_off1 i) S1x2048.size (Gen.facts.k0_off1_inb i)) (ix2 (0 : Fin 1) e)) = fun e => x10 (ix2 s e) :=
    funext fun e => ld_at i x10 s hs e
  have h9 : (fun e => View.ld x9 (Rect.unit (s := S8x2048) (k0_off1 i) S1x2048.size (Gen.facts.k0_off1_inb i)) (ix2 (0 : Fin 1) e)) = fun e => x9 (ix2 s e) :=
    funext fun e => ld_at i x9 s hs e
  rw [h10, h9] at key
  rw [← key]
  frame_out

end Cert.Kernel4Ideal.Hand

end
-- ==== Proof.Output.KVal.lean ====
/-
  The value of the output projection: every entry of the tokens after the residual and of their normalised rows, from the arguments.
-/
module

public import proofs.«01_k».proof.Proof.Output.Out
public import Idealize.ShloMosaic.Lib.StableHlo.RunRead

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Pointwise Idealize.ShloMosaic.Tactic
open Idealize.ShloMosaic.Pipeline (Dat Window)
open Cert.Inproj Cert.Output

variable (m : (ℓ : Loc nD τ sig) → Buf (Elt Ideal) ℓ) (c : Dev nD)

abbrev a0 : FVec Ideal S2x8192x2048 .f32 := m ((c : Thread nD τ).loc main_arg0)
abbrev a1 : FVec Ideal S1x16384x2048 .f32 := m ((c : Thread nD τ).loc main_arg1)
abbrev a2 : FVec Ideal S16384x1024 .bf16 := m ((c : Thread nD τ).loc main_arg2)
abbrev a3 : FVec Ideal S16384x1024 .bf16 := m ((c : Thread nD τ).loc main_arg3)
abbrev a4 : FVec Ideal S16384x1024 .bf16 := m ((c : Thread nD τ).loc main_arg4)
abbrev a5 : FVec Ideal S16384x1024 .bf16 := m ((c : Thread nD τ).loc main_arg5)
abbrev a6 : FVec Ideal S8x12288 .f32 := m ((c : Thread nD τ).loc main_arg6)
abbrev a7 : FVec Ideal S2048 .f32 := m ((c : Thread nD τ).loc main_arg7)
abbrev a8 : FVec Ideal S2048x2048 .f32 := m ((c : Thread nD τ).loc main_arg8)

/-! ## What the host has written -/

/-- The rows of the first group. -/
theorem v0_at (R : Fin 16384) (d : Fin 2048) :
    V m c main_v0 (ix2 R d) = a0 m c (ix3 (⟨R.val / 8192, by omega⟩ : Fin 2) (⟨R.val % 8192, by omega⟩ : Fin 8192) d) := by
  have h : V m c main_v0 = shapeCast S16384x2048 (a0 m c) shapeCasts_S2x8192x2048_S16384x2048 := by
    after_reads_simp
    rfl
  rw [h]
  pointwise

/-- The rows of the second group. -/
theorem v1_at (R : Fin 16384) (d : Fin 2048) : V m c main_v1 (ix2 R d) = a1 m c (ix3 (0 : Fin 1) R d) := by
  have h : V m c main_v1 = shapeCast S16384x2048 (a1 m c) shapeCasts_S1x16384x2048_S16384x2048 := by
    after_reads_simp
    rfl
  rw [h]
  pointwise

/-- The weights. -/
theorem v2_at (k d : Fin 2048) : V m c main_v2 (ix2 k d) = a8 m c (ix2 k d) := by
  have h : V m c main_v2 = truncf .bf16 (a8 m c) bitsLt_bf16_f32 := by
    after_reads_simp
  rw [h]
  pointwise

/-- The gain. -/
theorem v15_at (d : Fin 2048) : V m c main_v15 (ix2 (0 : Fin 1) d) = a7 m c (ix1 d) := by
  have h : V m c main_v15 = shapeCast S1x2048 (a7 m c) shapeCasts_S2048_S1x2048 := by
    after_reads_simp
    rfl
  rw [h]
  pointwise

/-! ## The blocks -/

theorem coords_val (t : Fin cfg0.N) : (grid0.coords t 0).val = t.val := by
  have h : t.val < 64 := lt_of_lt_of_eq t.isLt N_0
  have e0 : (grid0.coords t 0).val = (t.val / 1) % 64 := rfl
  rw [e0]; omega

theorem im0 : ∀ t : Fin cfg0.N, win0_0.index t = ![min t.val 31, 0] := (by decide +kernel : ∀ t : Fin grid0.N, win0_0.index t = ![min t.val 31, 0])
theorem im1 : ∀ t : Fin cfg0.N, win0_1.index t = ![t.val - 32, 0] := (by decide +kernel : ∀ t : Fin grid0.N, win0_1.index t = ![t.val - 32, 0])
theorem im2 : ∀ t : Fin cfg0.N, win0_2.index t = ![min t.val 31, 0] := (by decide +kernel : ∀ t : Fin grid0.N, win0_2.index t = ![min t.val 31, 0])
theorem im3 : ∀ t : Fin cfg0.N, win0_3.index t = ![min t.val 31, 0] := (by decide +kernel : ∀ t : Fin grid0.N, win0_3.index t = ![min t.val 31, 0])
theorem im4 : ∀ t : Fin cfg0.N, win0_4.index t = ![t.val - 32, 0] := (by decide +kernel : ∀ t : Fin grid0.N, win0_4.index t = ![t.val - 32, 0])
theorem im5 : ∀ t : Fin cfg0.N, win0_5.index t = ![t.val - 32, 0] := (by decide +kernel : ∀ t : Fin grid0.N, win0_5.index t = ![t.val - 32, 0])
theorem im6 : ∀ t : Fin cfg0.N, win0_6.index t = ![0, 0] := (by decide +kernel : ∀ t : Fin grid0.N, win0_6.index t = ![0, 0])
theorem im7 : ∀ t : Fin cfg0.N, win0_7.index t = ![1, 0] := (by decide +kernel : ∀ t : Fin grid0.N, win0_7.index t = ![1, 0])
theorem im8 : ∀ t : Fin cfg0.N, win0_8.index t = ![0, 2] := (by decide +kernel : ∀ t : Fin grid0.N, win0_8.index t = ![0, 2])
theorem im9 : ∀ t : Fin cfg0.N, win0_9.index t = ![0, 3] := (by decide +kernel : ∀ t : Fin grid0.N, win0_9.index t = ![0, 3])
theorem im10 : ∀ t : Fin cfg0.N, win0_10.index t = ![0, 4] := (by decide +kernel : ∀ t : Fin grid0.N, win0_10.index t = ![0, 4])
theorem im11 : ∀ t : Fin cfg0.N, win0_11.index t = ![0, 0] := (by decide +kernel : ∀ t : Fin grid0.N, win0_11.index t = ![0, 0])
theorem im15 : ∀ t : Fin cfg0.N, win0_15.index t = ![t.val, 0] := (by decide +kernel : ∀ t : Fin grid0.N, win0_15.index t = ![t.val, 0])
theorem im16 : ∀ t : Fin cfg0.N, win0_16.index t = ![t.val, 0] := (by decide +kernel : ∀ t : Fin grid0.N, win0_16.index t = ![t.val, 0])
theorem offs : ∀ t : Fin cfg0.N, k0_off1 (grid0.coords t) = ![min (t.val / 16) 2, 0] := (by decide +kernel : ∀ t : Fin grid0.N, k0_off1 (grid0.coords t) = ![min (t.val / 16) 2, 0])

theorem b0_at (t : Fin cfg0.N) (r : Fin 512) (d : Fin 2048) (R : Fin 16384) (hR : R.val = min (t.val) 31 * 512 + r.val) :
    iblk m c 0 t (ix2 r d) = V m c main_v0 (ix2 R d) := by
  blk_simp [iblk]
  refine congrArg (V m c main_v0) ?_
  blk_ext [im0]

theorem b1_at (t : Fin cfg0.N) (r : Fin 512) (d : Fin 2048) (R : Fin 16384) (hR : R.val = (t.val - 32) * 512 + r.val) :
    iblk m c 1 t (ix2 r d) = V m c main_v1 (ix2 R d) := by
  blk_simp [iblk]
  refine congrArg (V m c main_v1) ?_
  blk_ext [im1]

theorem b2_at (t : Fin cfg0.N) (r : Fin 512) (d : Fin 1024) (R : Fin 16384) (hR : R.val = min (t.val) 31 * 512 + r.val) :
    iblk m c 2 t (ix2 r d) = V m c main_arg2 (ix2 R d) := by
  blk_simp [iblk]
  refine congrArg (V m c main_arg2) ?_
  blk_ext [im2]

theorem b3_at (t : Fin cfg0.N) (r : Fin 512) (d : Fin 1024) (R : Fin 16384) (hR : R.val = min (t.val) 31 * 512 + r.val) :
    iblk m c 3 t (ix2 r d) = V m c main_arg3 (ix2 R d) := by
  blk_simp [iblk]
  refine congrArg (V m c main_arg3) ?_
  blk_ext [im3]

theorem b4_at (t : Fin cfg0.N) (r : Fin 512) (d : Fin 1024) (R : Fin 16384) (hR : R.val = (t.val - 32) * 512 + r.val) :
    iblk m c 4 t (ix2 r d) = V m c main_arg4 (ix2 R d) := by
  blk_simp [iblk]
  refine congrArg (V m c main_arg4) ?_
  blk_ext [im4]

theorem b5_at (t : Fin cfg0.N) (r : Fin 512) (d : Fin 1024) (R : Fin 16384) (hR : R.val = (t.val - 32) * 512 + r.val) :
    iblk m c 5 t (ix2 r d) = V m c main_arg5 (ix2 R d) := by
  blk_simp [iblk]
  refine congrArg (V m c main_arg5) ?_
  blk_ext [im5]

theorem b6_at (t : Fin cfg0.N) (k : Fin 1024) (d : Fin 2048) (K : Fin 2048) (hK : K.val = k.val) :
    iblk m c 6 t (ix2 k d) = V m c main_v2 (ix2 K d) := by
  blk_simp [iblk]
  refine congrArg (V m c main_v2) ?_
  blk_ext [im6]

theorem b7_at (t : Fin cfg0.N) (k : Fin 1024) (d : Fin 2048) (K : Fin 2048) (hK : K.val = 1024 + k.val) :
    iblk m c 7 t (ix2 k d) = V m c main_v2 (ix2 K d) := by
  blk_simp [iblk]
  refine congrArg (V m c main_v2) ?_
  blk_ext [im7]

theorem b8_at (t : Fin cfg0.N) (s : Fin 8) (d : Fin 2048) (D : Fin 12288) (hD : D.val = 4096 + d.val) :
    iblk m c 8 t (ix2 s d) = V m c main_arg6 (ix2 s D) := by
  blk_simp [iblk]
  refine congrArg (V m c main_arg6) ?_
  blk_ext [im8]

theorem b9_at (t : Fin cfg0.N) (s : Fin 8) (d : Fin 2048) (D : Fin 12288) (hD : D.val = 6144 + d.val) :
    iblk m c 9 t (ix2 s d) = V m c main_arg6 (ix2 s D) := by
  blk_simp [iblk]
  refine congrArg (V m c main_arg6) ?_
  blk_ext [im9]

theorem b10_at (t : Fin cfg0.N) (s : Fin 8) (d : Fin 2048) (D : Fin 12288) (hD : D.val = 8192 + d.val) :
    iblk m c 10 t (ix2 s d) = V m c main_arg6 (ix2 s D) := by
  blk_simp [iblk]
  refine congrArg (V m c main_arg6) ?_
  blk_ext [im10]

theorem b11_at (t : Fin cfg0.N) (d : Fin 2048) :
    iblk m c 11 t (ix2 (0 : Fin 1) d) = V m c main_v15 (ix2 (0 : Fin 1) d) := by
  blk_simp [iblk]
  refine congrArg (V m c main_v15) ?_
  blk_ext [im11]

/-! ## The results -/

/-- The tokens after the residual. -/
def resOf : S32768x2048.Idx → EReal := fun y => res (a0 m c) (a1 m c) (a2 m c) (a3 m c) (a4 m c) (a5 m c) (a6 m c) (a8 m c) (y 0) (y 1)

/-- Their normalised rows. -/
def hidOf : S32768x2048.Idx → EReal := fun y => hid (a0 m c) (a1 m c) (a2 m c) (a3 m c) (a4 m c) (a5 m c) (a6 m c) (a7 m c) (a8 m c) (y 0) (y 1)

/-- A step's row after the residual, from the arguments. -/
theorem row_at (t : Fin cfg0.N) (r : Fin 512) (R : Fin 32768) (hR : R.val = t.val * 512 + r.val) :
    rowOf (grid0.coords t) (seg R) (iblk m c 0 t) (iblk m c 1 t) (iblk m c 2 t) (iblk m c 3 t) (iblk m c 4 t) (iblk m c 5 t) (iblk m c 6 t) (iblk m c 7 t)
        (iblk m c 8 t) r = res (a0 m c) (a1 m c) (a2 m c) (a3 m c) (a4 m c) (a5 m c) (a6 m c) (a8 m c) R := by
  have ht : t.val < 64 := lt_of_lt_of_eq t.isLt N_0
  have hr := r.isLt
  have hx : (fun e : Fin 2048 => if t.val < 32 then iblk m c 0 t (ix2 r e) else iblk m c 1 t (ix2 r e)) = tok (a0 m c) (a1 m c) R := by
    funext e
    unfold tok
    by_cases h : t.val < 32
    · rw [if_pos h, dif_pos (by omega), b0_at m c t r e ⟨R.val, by omega⟩ (by show R.val = _; omega), v0_at]
    · rw [if_neg h, dif_neg (by omega), b1_at m c t r e ⟨R.val - 16384, by omega⟩ (by show R.val - 16384 = _; omega), v1_at]
  have ha : (fun k : Fin 1024 => if t.val < 32 then iblk m c 2 t (ix2 r k) else iblk m c 4 t (ix2 r k)) = att (a2 m c) (a4 m c) R := by
    funext k
    unfold att
    by_cases h : t.val < 32
    · rw [if_pos h, dif_pos (by omega), b2_at m c t r k ⟨R.val, by omega⟩ (by show R.val = _; omega), V_main_arg2]
    · rw [if_neg h, dif_neg (by omega), b4_at m c t r k ⟨R.val - 16384, by omega⟩ (by show R.val - 16384 = _; omega), V_main_arg4]
  have hd : (fun k : Fin 1024 => if t.val < 32 then iblk m c 3 t (ix2 r k) else iblk m c 5 t (ix2 r k)) = att (a3 m c) (a5 m c) R := by
    funext k
    unfold att
    by_cases h : t.val < 32
    · rw [if_pos h, dif_pos (by omega), b3_at m c t r k ⟨R.val, by omega⟩ (by show R.val = _; omega), V_main_arg3]
    · rw [if_neg h, dif_neg (by omega), b5_at m c t r k ⟨R.val - 16384, by omega⟩ (by show R.val - 16384 = _; omega), V_main_arg5]
  funext e
  have h6 : ∀ k : Fin 1024, iblk m c 6 t (ix2 k e) = a8 m c (ix2 (⟨k.val, by omega⟩ : Fin 2048) e) := fun k =>
    (b6_at m c t k e ⟨k.val, by omega⟩ rfl).trans (v2_at m c _ e)
  have h7 : ∀ k : Fin 1024, iblk m c 7 t (ix2 k e) = a8 m c (ix2 (⟨1024 + k.val, by omega⟩ : Fin 2048) e) := fun k =>
    (b7_at m c t k e ⟨1024 + k.val, by omega⟩ rfl).trans (v2_at m c _ e)
  have h8 : iblk m c 8 t (ix2 (seg R) e) = a6 m c (ix2 (seg R) (⟨4096 + e.val, by omega⟩ : Fin 12288)) := by
    rw [b8_at m c t (seg R) e ⟨4096 + e.val, by omega⟩ rfl, V_main_arg6]
  unfold rowOf dots res mixed
  rw [coords_val t, h8, ← hx, ← ha, ← hd]
  simp only [h6, h7]

theorem seg_offs (t : Fin cfg0.N) (r : Fin 512) (R : Fin 32768) (hR : R.val = t.val * 512 + r.val) : k0_off1 (grid0.coords t) = ![(seg R).val, 0] :=
  (offs t).trans (by
    have hr := r.isLt
    congr 1
    show min (t.val / 16) 2 = min (R.val / 8192) 2
    omega)

/-- What a step leaves in its first block. -/
theorem step15_at (t : Fin cfg0.N) (r : Fin 512) (d : Fin 2048) (R : Fin 32768) (hR : R.val = t.val * 512 + r.val) :
    (outsAt0 m c t).1 (ix2 r d) = resOf m c (ix2 R d) := by
  unfold outsAt0
  dsimp only
  show _ = res (a0 m c) (a1 m c) (a2 m c) (a3 m c) (a4 m c) (a5 m c) (a6 m c) (a8 m c) R d
  rw [out15_at c (grid0.coords t) _ _ _ _ _ _ _ _ _ _ _ _ _ _ _ _ _ _ _ _ _ _ _ _ _ _ _ _ _ _ _ _ _ _ _ _ _ _ _ _ _ _ _ _ _ _ _ _ _ _ _ r d (seg R) (seg_offs t r R hR)]
  exact congrFun (row_at m c t r R hR) d

/-- What a step leaves in its second block. -/
theorem step16_at (t : Fin cfg0.N) (r : Fin 512) (d : Fin 2048) (R : Fin 32768) (hR : R.val = t.val * 512 + r.val) :
    (outsAt0 m c t).2.1 (ix2 r d) = hidOf m c (ix2 R d) := by
  have hg : (fun e : Fin 2048 => iblk m c 11 t (ix2 (0 : Fin 1) e)) = fun d => a7 m c (ix1 d) := by
    funext e
    rw [b11_at, v15_at]
  have hsc : (fun e : Fin 2048 => iblk m c 10 t (ix2 (seg R) e)) = fun d => a6 m c (ix2 (seg R) (⟨8192 + d.val, by omega⟩ : Fin 12288)) := by
    funext e
    rw [b10_at m c t (seg R) e ⟨8192 + e.val, by omega⟩ rfl, V_main_arg6]
  have hsh : (fun e : Fin 2048 => iblk m c 9 t (ix2 (seg R) e)) = fun d => a6 m c (ix2 (seg R) (⟨6144 + d.val, by omega⟩ : Fin 12288)) := by
    funext e
    rw [b9_at m c t (seg R) e ⟨6144 + e.val, by omega⟩ rfl, V_main_arg6]
  unfold outsAt0
  dsimp only
  show _ = hid (a0 m c) (a1 m c) (a2 m c) (a3 m c) (a4 m c) (a5 m c) (a6 m c) (a7 m c) (a8 m c) R d
  rw [out16_at c (grid0.coords t) _ _ _ _ _ _ _ _ _ _ _ _ _ _ _ _ _ _ _ _ _ _ _ _ _ _ _ _ _ _ _ _ _ _ _ _ _ _ _ _ _ _ _ _ _ _ _ _ _ _ _ r d (seg R) (seg_offs t r R hR)]
  rw [row_at m c t r R hR, hg, hsc, hsh]
  rfl

/-- The whole first result. -/
theorem out15_eq : (dats m 0 c).arrAt 15 cfg0.N = resOf m c := by
  refine (dats m 0 c).arrAt_eq_of_emb 15 _ (fun t hf y => ?_) fun y => ?_
  · obtain ⟨r, d, rfl⟩ : ∃ (r : Fin 512) (d : Fin 2048), y = ix2 r d := ⟨y 0, y 1, by
      funext x
      match x with
      | ⟨0, _⟩ => rfl
      | ⟨1, _⟩ => rfl⟩
    have ht : t.val < 64 := lt_of_lt_of_eq t.isLt N_0
    blk_simp
    rw [after0_15]
    refine (step15_at m c t r d (⟨t.val * 512 + r.val, by omega⟩ : Fin 32768) rfl).trans ?_
    refine congrArg (resOf m c) ?_
    blk_ext [im15]
  · obtain ⟨R, d, rfl⟩ : ∃ (R : Fin 32768) (d : Fin 2048), y = ix2 R d := ⟨y 0, y 1, by
      funext x
      match x with
      | ⟨0, _⟩ => rfl
      | ⟨1, _⟩ => rfl⟩
    have hR := R.isLt
    refine ⟨⟨R.val / 512, lt_of_lt_of_eq (by omega) N_0.symm⟩, flush0_15 _, ?_⟩
    mem_blk [im15]
    show (R.val / 512 * 512 ≤ R.val ∧ R.val < R.val / 512 * 512 + 512) ∧ (0 ≤ d.val ∧ d.val < 2048)
    have hd := d.isLt
    omega

/-- The whole second result. -/
theorem out16_eq : (dats m 0 c).arrAt 16 cfg0.N = hidOf m c := by
  refine (dats m 0 c).arrAt_eq_of_emb 16 _ (fun t hf y => ?_) fun y => ?_
  · obtain ⟨r, d, rfl⟩ : ∃ (r : Fin 512) (d : Fin 2048), y = ix2 r d := ⟨y 0, y 1, by
      funext x
      match x with
      | ⟨0, _⟩ => rfl
      | ⟨1, _⟩ => rfl⟩
    have ht : t.val < 64 := lt_of_lt_of_eq t.isLt N_0
    blk_simp
    rw [after0_16]
    refine (step16_at m c t r d (⟨t.val * 512 + r.val, by omega⟩ : Fin 32768) rfl).trans ?_
    refine congrArg (hidOf m c) ?_
    blk_ext [im16]
  · obtain ⟨R, d, rfl⟩ : ∃ (R : Fin 32768) (d : Fin 2048), y = ix2 R d := ⟨y 0, y 1, by
      funext x
      match x with
      | ⟨0, _⟩ => rfl
      | ⟨1, _⟩ => rfl⟩
    have hR := R.isLt
    refine ⟨⟨R.val / 512, lt_of_lt_of_eq (by omega) N_0.symm⟩, flush0_16 _, ?_⟩
    mem_blk [im16]
    show (R.val / 512 * 512 ≤ R.val ∧ R.val < R.val / 512 * 512 + 512) ∧ (0 ≤ d.val ∧ d.val < 2048)
    have hd := d.isLt
    omega

end Cert.Kernel4Ideal.Hand

end
-- ==== Proof.Output.RVal.lean ====
/-
  The reference of the output projection at an entry.
-/
module

public import proofs.«01_k».proof.Proof.Gen.Reference4Ideal.Run
public import proofs.«01_k».proof.Proof.Output.Spec
public import Idealize.ShloMosaic.Lib.Pointwise

@[expose] public section

set_option maxRecDepth 16384

noncomputable section

namespace Cert.Reference4Ideal.Hand

open Cert.Reference4Ideal Cert.Reference4Ideal.Gen
open Idealize.ShloMosaic Idealize.ShloMosaic.TcCoe Idealize.ShloMosaic.Pointwise
open Cert.Inproj Cert.Output

variable (A0 : FVec Ideal S2x8192x2048 .f32) (A1 : FVec Ideal S1x16384x2048 .f32) (A2 A3 A4 A5 : FVec Ideal S16384x1024 .bf16)
  (A6 : FVec Ideal S8x12288 .f32) (A7 : FVec Ideal S2048 .f32) (A8 : FVec Ideal S2048x2048 .f32)

/-- The attention's outputs of the first group, head groups side by side. -/
def cat0 : FVec Ideal S2x8192x2048 .f32 :=
  shapeCast S2x8192x2048 (concatenate S16384x2048 1 [⟨S16384x1024, (extf .f32 A2 bitsLt_bf16_f32)⟩, ⟨S16384x1024, (extf .f32 A3 bitsLt_bf16_f32)⟩] concatenates_S16384x1024_S16384x1024_S16384x2048_d1) shapeCasts_S16384x2048_S2x8192x2048

/-- Their product with the weights. -/
def mix0 : FVec Ideal S2x8192x2048 .f32 :=
  Host.dotGeneral dot_S2x8192x2048_S2048x2048_S2x8192x2048_2_0_01_1_n_n none (cat0 A2 A3) A8

/-- The tokens after the residual. -/
def xr0 : FVec Ideal S2x8192x2048 .f32 :=
  addf A0 (mulf (broadcastInDim S2x8192x2048 ![0, 1, 2] bcast_S2x1x2048_S2x8192x2048_0_1_2 (broadcastInDim S2x1x2048 ![0, 2] bcast_S2x2048_S2x1x2048_0_2 (extractStridedSlice S2x2048 ![0, 0] (extractStridedSlice S8x2048 ![0, 4096] A6 slices_S8x12288_S8x2048_0_4096) slices_S8x2048_S2x2048_0_0))) (mix0 A2 A3 A8))

/-- Their normalised rows. -/
def hr0 : FVec Ideal S2x8192x2048 .f32 :=
  addf (mulf (mulf (mulf (xr0 A0 A2 A3 A6 A8) (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf (xr0 A0 A2 A3 A6 A8) (xr0 A0 A2 A3 A6 A8)) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x3727C5AC#32)))))) (broadcastInDim S2x8192x2048 ![0, 1, 2] bcast_S1x1x2048_S2x8192x2048_0_1_2 (broadcastInDim S1x1x2048 ![2] bcast_S2048_S1x1x2048_2 A7))) (broadcastInDim S2x8192x2048 ![0, 1, 2] bcast_S2x1x2048_S2x8192x2048_0_1_2 (addf (broadcastInDim S2x1x2048 ![] bcast_S_S2x1x2048 (constant S_ .f32 0x3F800000#32)) (broadcastInDim S2x1x2048 ![0, 2] bcast_S2x2048_S2x1x2048_0_2 (extractStridedSlice S2x2048 ![0, 0] (extractStridedSlice S8x2048 ![0, 8192] A6 slices_S8x12288_S8x2048_0_8192) slices_S8x2048_S2x2048_0_0))))) (broadcastInDim S2x8192x2048 ![0, 1, 2] bcast_S2x1x2048_S2x8192x2048_0_1_2 (broadcastInDim S2x1x2048 ![0, 2] bcast_S2x2048_S2x1x2048_0_2 (extractStridedSlice S2x2048 ![0, 0] (extractStridedSlice S8x2048 ![0, 6144] A6 slices_S8x12288_S8x2048_0_6144) slices_S8x2048_S2x2048_0_0)))

/-- The attention's outputs of the second group, head groups side by side. -/
def cat1 : FVec Ideal S1x16384x2048 .f32 :=
  shapeCast S1x16384x2048 (concatenate S16384x2048 1 [⟨S16384x1024, (extf .f32 A4 bitsLt_bf16_f32)⟩, ⟨S16384x1024, (extf .f32 A5 bitsLt_bf16_f32)⟩] concatenates_S16384x1024_S16384x1024_S16384x2048_d1) shapeCasts_S16384x2048_S1x16384x2048

/-- Their product with the weights. -/
def mix1 : FVec Ideal S1x16384x2048 .f32 :=
  Host.dotGeneral dot_S1x16384x2048_S2048x2048_S1x16384x2048_2_0_01_1_n_n none (cat1 A4 A5) A8

/-- The tokens after the residual. -/
def xr1 : FVec Ideal S1x16384x2048 .f32 :=
  addf A1 (mulf (broadcastInDim S1x16384x2048 ![0, 1, 2] bcast_S1x1x2048_S1x16384x2048_0_1_2 (broadcastInDim S1x1x2048 ![0, 2] bcast_S1x2048_S1x1x2048_0_2 (extractStridedSlice S1x2048 ![2, 0] (extractStridedSlice S8x2048 ![0, 4096] A6 slices_S8x12288_S8x2048_0_4096) slices_S8x2048_S1x2048_2_0))) (mix1 A4 A5 A8))

/-- Their normalised rows. -/
def hr1 : FVec Ideal S1x16384x2048 .f32 :=
  addf (mulf (mulf (mulf (xr1 A1 A4 A5 A6 A8) (broadcastInDim S1x16384x2048 ![0, 1, 2] bcast_S1x16384x1_S1x16384x2048_0_1_2 (Host.rsqrt (addf (Host.divf (broadcastInDim S1x16384x1 ![0, 1] bcast_S1x16384_S1x16384x1_0_1 (Host.reduceAdd (mulf (xr1 A1 A4 A5 A6 A8) (xr1 A1 A4 A5 A6 A8)) (constant S_ .f32 0x00000000#32) reducesTo_S1x16384x2048_S1x16384_d2 h_S_)) (broadcastInDim S1x16384x1 ![] bcast_S_S1x16384x1 (constant S_ .f32 0x45000000#32))) (broadcastInDim S1x16384x1 ![] bcast_S_S1x16384x1 (constant S_ .f32 0x3727C5AC#32)))))) (broadcastInDim S1x16384x2048 ![0, 1, 2] bcast_S1x1x2048_S1x16384x2048_0_1_2 (broadcastInDim S1x1x2048 ![2] bcast_S2048_S1x1x2048_2 A7))) (broadcastInDim S1x16384x2048 ![0, 1, 2] bcast_S1x1x2048_S1x16384x2048_0_1_2 (addf (broadcastInDim S1x1x2048 ![] bcast_S_S1x1x2048 (constant S_ .f32 0x3F800000#32)) (broadcastInDim S1x1x2048 ![0, 2] bcast_S1x2048_S1x1x2048_0_2 (extractStridedSlice S1x2048 ![2, 0] (extractStridedSlice S8x2048 ![0, 8192] A6 slices_S8x12288_S8x2048_0_8192) slices_S8x2048_S1x2048_2_0))))) (broadcastInDim S1x16384x2048 ![0, 1, 2] bcast_S1x1x2048_S1x16384x2048_0_1_2 (broadcastInDim S1x1x2048 ![0, 2] bcast_S1x2048_S1x1x2048_0_2 (extractStridedSlice S1x2048 ![2, 0] (extractStridedSlice S8x2048 ![0, 6144] A6 slices_S8x12288_S8x2048_0_6144) slices_S8x2048_S1x2048_2_0)))

/-- The reference's first result. -/
def ref0 : FVec Ideal S32768x2048 .f32 :=
  concatenate S32768x2048 0 [⟨S16384x2048, (shapeCast _ (xr0 A0 A2 A3 A6 A8) shapeCasts_S2x8192x2048_S16384x2048)⟩, ⟨S16384x2048, (shapeCast _ (xr1 A1 A4 A5 A6 A8) shapeCasts_S1x16384x2048_S16384x2048)⟩] concatenates_S16384x2048_S16384x2048_S32768x2048_d0

/-- The reference's second result. -/
def ref1 : FVec Ideal S32768x2048 .f32 :=
  concatenate S32768x2048 0 [⟨S16384x2048, (shapeCast _ (hr0 A0 A2 A3 A6 A7 A8) shapeCasts_S2x8192x2048_S16384x2048)⟩, ⟨S16384x2048, (shapeCast _ (hr1 A1 A4 A5 A6 A7 A8) shapeCasts_S1x16384x2048_S16384x2048)⟩] concatenates_S16384x2048_S16384x2048_S32768x2048_d0

/-- A sum over both head groups' columns is the sum of both sums. -/
theorem sum_split (f : Fin 2048 → EReal) :
    ∑ e : Fin 2048, f e = (∑ k : Fin 1024, f (⟨k.val, by omega⟩ : Fin 2048)) + ∑ k : Fin 1024, f (⟨1024 + k.val, by omega⟩ : Fin 2048) :=
  Fin.sum_univ_add (a := 1024) (b := 1024) f

theorem cat0_at (b : Fin 2) (s : Fin 8192) (e : Fin 2048) :
    cat0 A2 A3 (ix3 b s e) = if h : e.val < 1024 then A2 (ix2 (⟨b.val * 8192 + s.val, by omega⟩ : Fin 16384) (⟨e.val, h⟩ : Fin 1024)) else A3 (ix2 (⟨b.val * 8192 + s.val, by omega⟩ : Fin 16384) (⟨e.val - 1024, by omega⟩ : Fin 1024)) := by
  pointwise [cat0]

theorem mix0_at (b : Fin 2) (s : Fin 8192) (d : Fin 2048) :
    mix0 A2 A3 A8 (ix3 b s d) = mixed (fun k => A2 (ix2 (⟨b.val * 8192 + s.val, by omega⟩ : Fin 16384) k)) (fun k => A3 (ix2 (⟨b.val * 8192 + s.val, by omega⟩ : Fin 16384) k)) A8 d := by
  have h : mix0 A2 A3 A8 (ix3 b s d) = ∑ e : Fin 2048, cat0 A2 A3 (ix3 b s e) * A8 (ix2 e d) := by
    pointwise [mix0]
  rw [h, sum_split]
  unfold mixed
  refine congrArg₂ (· + ·) (Finset.sum_congr rfl fun k _ => ?_) (Finset.sum_congr rfl fun k _ => ?_)
  · rw [cat0_at, dif_pos k.isLt]
  · rw [cat0_at, dif_neg (by show ¬(1024 + k.val < 1024); omega)]
    refine congrArg (fun z => A3 (ix2 (⟨b.val * 8192 + s.val, by omega⟩ : Fin 16384) z) * _) (Fin.ext ?_)
    show 1024 + k.val - 1024 = k.val
    omega

theorem xr0_at (b : Fin 2) (s : Fin 8192) (d : Fin 2048) :
    xr0 A0 A2 A3 A6 A8 (ix3 b s d) = A0 (ix3 b s d) + A6 (ix2 (⟨b.val, by omega⟩ : Fin 8) (⟨4096 + d.val, by omega⟩ : Fin 12288)) * mix0 A2 A3 A8 (ix3 b s d) := by
  pointwise [xr0]

theorem hr0_at (b : Fin 2) (s : Fin 8192) (d : Fin 2048) :
    hr0 A0 A2 A3 A6 A7 A8 (ix3 b s d) = normed (fun e => xr0 A0 A2 A3 A6 A8 (ix3 b s e)) (fun e => A7 (ix1 e))
      (fun e => A6 (ix2 (⟨b.val, by omega⟩ : Fin 8) (⟨8192 + e.val, by omega⟩ : Fin 12288)))
      (fun e => A6 (ix2 (⟨b.val, by omega⟩ : Fin 8) (⟨6144 + e.val, by omega⟩ : Fin 12288))) d := by
  pointwise [hr0]
  rfl

theorem cat1_at (b : Fin 1) (s : Fin 16384) (e : Fin 2048) :
    cat1 A4 A5 (ix3 b s e) = if h : e.val < 1024 then A4 (ix2 s (⟨e.val, h⟩ : Fin 1024)) else A5 (ix2 s (⟨e.val - 1024, by omega⟩ : Fin 1024)) := by
  obtain rfl : b = 0 := Subsingleton.elim _ _
  pointwise [cat1]

theorem mix1_at (b : Fin 1) (s : Fin 16384) (d : Fin 2048) :
    mix1 A4 A5 A8 (ix3 b s d) = mixed (fun k => A4 (ix2 s k)) (fun k => A5 (ix2 s k)) A8 d := by
  obtain rfl : b = 0 := Subsingleton.elim _ _
  have h : mix1 A4 A5 A8 (ix3 (0 : Fin 1) s d) = ∑ e : Fin 2048, cat1 A4 A5 (ix3 (0 : Fin 1) s e) * A8 (ix2 e d) := by
    pointwise [mix1]
  rw [h, sum_split]
  unfold mixed
  refine congrArg₂ (· + ·) (Finset.sum_congr rfl fun k _ => ?_) (Finset.sum_congr rfl fun k _ => ?_)
  · rw [cat1_at, dif_pos k.isLt]
  · rw [cat1_at, dif_neg (by show ¬(1024 + k.val < 1024); omega)]
    refine congrArg (fun z => A5 (ix2 s z) * _) (Fin.ext ?_)
    show 1024 + k.val - 1024 = k.val
    omega

theorem xr1_at (b : Fin 1) (s : Fin 16384) (d : Fin 2048) :
    xr1 A1 A4 A5 A6 A8 (ix3 b s d) = A1 (ix3 b s d) + A6 (ix2 (⟨2, by omega⟩ : Fin 8) (⟨4096 + d.val, by omega⟩ : Fin 12288)) * mix1 A4 A5 A8 (ix3 b s d) := by
  obtain rfl : b = 0 := Subsingleton.elim _ _
  pointwise [xr1]

theorem hr1_at (b : Fin 1) (s : Fin 16384) (d : Fin 2048) :
    hr1 A1 A4 A5 A6 A7 A8 (ix3 b s d) = normed (fun e => xr1 A1 A4 A5 A6 A8 (ix3 b s e)) (fun e => A7 (ix1 e))
      (fun e => A6 (ix2 (⟨2, by omega⟩ : Fin 8) (⟨8192 + e.val, by omega⟩ : Fin 12288)))
      (fun e => A6 (ix2 (⟨2, by omega⟩ : Fin 8) (⟨6144 + e.val, by omega⟩ : Fin 12288))) d := by
  obtain rfl : b = 0 := Subsingleton.elim _ _
  pointwise [hr1]
  rfl

/-- Rows of the first group after the residual. -/
theorem xr0_row (R : Fin 32768) (h : R.val < 16384) (d : Fin 2048) :
    xr0 A0 A2 A3 A6 A8 (ix3 (⟨R.val / 8192, by omega⟩ : Fin 2) (⟨R.val % 8192, by omega⟩ : Fin 8192) d) = res A0 A1 A2 A3 A4 A5 A6 A8 R d := by
  have hs : seg R = ⟨R.val / 8192, by omega⟩ := Fin.ext (by show min (R.val / 8192) 2 = R.val / 8192; omega)
  have hr : (⟨R.val / 8192 * 8192 + R.val % 8192, by omega⟩ : Fin 16384) = ⟨R.val, h⟩ := Fin.ext (by show R.val / 8192 * 8192 + R.val % 8192 = R.val; omega)
  have ht : tok A0 A1 R d = A0 (ix3 (⟨R.val / 8192, by omega⟩ : Fin 2) (⟨R.val % 8192, by omega⟩ : Fin 8192) d) := by
    unfold tok; rw [dif_pos h]
  have ha : att A2 A4 R = fun k => A2 (ix2 (⟨R.val, h⟩ : Fin 16384) k) := by
    funext k; unfold att; rw [dif_pos h]
  have hd : att A3 A5 R = fun k => A3 (ix2 (⟨R.val, h⟩ : Fin 16384) k) := by
    funext k; unfold att; rw [dif_pos h]
  rw [xr0_at, mix0_at]
  unfold res
  rw [hs, ht, ha, hd]
  simp only [hr]

/-- Rows of the second group after the residual. -/
theorem xr1_row (R : Fin 32768) (h : ¬R.val < 16384) (d : Fin 2048) :
    xr1 A1 A4 A5 A6 A8 (ix3 (0 : Fin 1) (⟨R.val - 16384, by omega⟩ : Fin 16384) d) = res A0 A1 A2 A3 A4 A5 A6 A8 R d := by
  have hs : seg R = ⟨2, by omega⟩ := Fin.ext (by show min (R.val / 8192) 2 = 2; omega)
  have ht : tok A0 A1 R d = A1 (ix3 (0 : Fin 1) (⟨R.val - 16384, by omega⟩ : Fin 16384) d) := by
    unfold tok; rw [dif_neg h]
  have ha : att A2 A4 R = fun k => A4 (ix2 (⟨R.val - 16384, by omega⟩ : Fin 16384) k) := by
    funext k; unfold att; rw [dif_neg h]
  have hd : att A3 A5 R = fun k => A5 (ix2 (⟨R.val - 16384, by omega⟩ : Fin 16384) k) := by
    funext k; unfold att; rw [dif_neg h]
  rw [xr1_at, mix1_at]
  unfold res
  rw [hs, ht, ha, hd]

/-- The reference's first result at an entry. -/
theorem ref0_at (R : Fin 32768) (d : Fin 2048) : ref0 A0 A1 A2 A3 A4 A5 A6 A8 (ix2 R d) = res A0 A1 A2 A3 A4 A5 A6 A8 R d := by
  pointwise [ref0]
  by_cases h : R.val < 16384
  · rw [dif_pos h]
    exact xr0_row A0 A1 A2 A3 A4 A5 A6 A8 R h d
  · rw [dif_neg h]
    exact xr1_row A0 A1 A2 A3 A4 A5 A6 A8 R h d

/-- The reference's second result at an entry. -/
theorem ref1_at (R : Fin 32768) (d : Fin 2048) : ref1 A0 A1 A2 A3 A4 A5 A6 A7 A8 (ix2 R d) = hid A0 A1 A2 A3 A4 A5 A6 A7 A8 R d := by
  pointwise [ref1]
  unfold hid
  by_cases h : R.val < 16384
  · have hs : seg R = ⟨R.val / 8192, by omega⟩ := Fin.ext (by show min (R.val / 8192) 2 = R.val / 8192; omega)
    have hx : (fun e => xr0 A0 A2 A3 A6 A8 (ix3 (⟨R.val / 8192, by omega⟩ : Fin 2) (⟨R.val % 8192, by omega⟩ : Fin 8192) e)) = res A0 A1 A2 A3 A4 A5 A6 A8 R :=
      funext fun e => xr0_row A0 A1 A2 A3 A4 A5 A6 A8 R h e
    rw [dif_pos h, hr0_at, hx, hs]
  · have hs : seg R = ⟨2, by omega⟩ := Fin.ext (by show min (R.val / 8192) 2 = 2; omega)
    have hx : (fun e => xr1 A1 A4 A5 A6 A8 (ix3 (0 : Fin 1) (⟨R.val - 16384, by omega⟩ : Fin 16384) e)) = res A0 A1 A2 A3 A4 A5 A6 A8 R :=
      funext fun e => xr1_row A0 A1 A2 A3 A4 A5 A6 A8 R h e
    rw [dif_neg h, hr1_at, hx, hs]

end Cert.Reference4Ideal.Hand

end
-- ==== Proof.Output.lean ====
/-
  The output projection with the gated residual and the second norm: its frames and its value claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_counts_of_rows
public import proofs.«01_k».proof.Proof.Gen.Kernel4
public import proofs.«01_k».proof.Proof.Gen.Kernel4.Frame
public import proofs.«01_k».proof.Proof.Output.KVal
public import proofs.«01_k».proof.Proof.Output.RVal

@[expose] public section

set_option maxRecDepth 16384

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_counts_of_rows.Gen.facts
  Cert.Kernel4.Gen.facts Cert.Kernel4Ideal.Gen.facts Cert.Reference4Ideal.Gen.facts

theorem frame_kernel4 : Cert.quiescent_Kernel4 := fun m ρ _ => Cert.Kernel4.Gen.frame m ρ

theorem frame_kernel4Ideal : Cert.quiescent_Kernel4Ideal := fun m ρ _ => Cert.Kernel4Ideal.Gen.frame m ρ

theorem frame_ref4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

variable (m : (ℓ : Loc Cert.Kernel4Ideal.nD Cert.Kernel4Ideal.τ Cert.Kernel4Ideal.sig) → Buf (Elt Ideal) ℓ)

/-- The reference's first result of the same arguments. -/
theorem ref4_0_eq (c : Dev Cert.Kernel4Ideal.nD) :
    Cert.Reference4Ideal.Hand.ref0 (Cert.Kernel4Ideal.Hand.a0 m c) (Cert.Kernel4Ideal.Hand.a1 m c) (Cert.Kernel4Ideal.Hand.a2 m c) (Cert.Kernel4Ideal.Hand.a3 m c) (Cert.Kernel4Ideal.Hand.a4 m c) (Cert.Kernel4Ideal.Hand.a5 m c) (Cert.Kernel4Ideal.Hand.a6 m c) (Cert.Kernel4Ideal.Hand.a8 m c) = Cert.Kernel4Ideal.Hand.resOf m c := by
  funext y
  obtain ⟨R, d, rfl⟩ : ∃ (R : Fin 32768) (d : Fin 2048), y = ix2 R d := ⟨y 0, y 1, by
    funext x
    match x with
    | ⟨0, _⟩ => rfl
    | ⟨1, _⟩ => rfl⟩
  exact Cert.Reference4Ideal.Hand.ref0_at _ _ _ _ _ _ _ _ R d

/-- The reference's second result of the same arguments. -/
theorem ref4_1_eq (c : Dev Cert.Kernel4Ideal.nD) :
    Cert.Reference4Ideal.Hand.ref1 (Cert.Kernel4Ideal.Hand.a0 m c) (Cert.Kernel4Ideal.Hand.a1 m c) (Cert.Kernel4Ideal.Hand.a2 m c) (Cert.Kernel4Ideal.Hand.a3 m c) (Cert.Kernel4Ideal.Hand.a4 m c) (Cert.Kernel4Ideal.Hand.a5 m c) (Cert.Kernel4Ideal.Hand.a6 m c) (Cert.Kernel4Ideal.Hand.a7 m c) (Cert.Kernel4Ideal.Hand.a8 m c) = Cert.Kernel4Ideal.Hand.hidOf m c := by
  funext y
  obtain ⟨R, d, rfl⟩ : ∃ (R : Fin 32768) (d : Fin 2048), y = ix2 R d := ⟨y 0, y 1, by
    funext x
    match x with
    | ⟨0, _⟩ => rfl
    | ⟨1, _⟩ => rfl⟩
  exact Cert.Reference4Ideal.Hand.ref1_at _ _ _ _ _ _ _ _ _ R d

theorem algebraic4 : Cert.algebraic_Kernel4Ideal_Reference4Ideal := by
  intro m g m' g' _ hm
  refine ⟨fun c => Cert.Kernel4Ideal.Hand.resOf m c, fun c => Cert.Kernel4Ideal.Hand.hidOf m c, ?_, ?_⟩
  · exact (θ_run _ _ _).mono (fun r hr c => ⟨(hr c).1.trans (Cert.Kernel4Ideal.Hand.out15_eq m c), (hr c).2.1.trans (Cert.Kernel4Ideal.Hand.out16_eq m c), (hr c).2.2.2⟩)
      (Cert.Kernel4Ideal.Value.run_blocks (F := Ideal) m g)
  · refine (θ_run Cert.Reference4Ideal.defs _ _).mono (fun r h c => ⟨?_, ?_, (h c).2.2⟩) (Cert.Reference4Ideal.Value.run (F := Ideal) m' g')
    · refine (h c).1.trans ?_
      obtain ⟨e0, e1, e2, e3, e4, e5, e6, e7, e8, -, -⟩ := hm c
      show Cert.Reference4Ideal.Hand.ref0 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg8)) = _
      rw [e0, e1, e2, e3, e4, e5, e6, e8]
      exact ref4_0_eq m c
    · refine (h c).2.1.trans ?_
      obtain ⟨e0, e1, e2, e3, e4, e5, e6, e7, e8, -, -⟩ := hm c
      show Cert.Reference4Ideal.Hand.ref1 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) = _
      rw [e0, e1, e2, e3, e4, e5, e6, e7, e8]
      exact ref4_1_eq m c

end Cert.Proof

end
-- ==== Proof.lean ====
/-
  The certificate, of the experts' call, of the two projections and of the output projection: the frames of the kernel's two readings and of the
  reference, the kernel's text kept, and the value of the kernel against the reference.
-/
module

public import proofs.«01_k».proof.Defs
public import proofs.«01_k».proof.Proof.Frames
public import proofs.«01_k».proof.Proof.Algebraic
public import proofs.«01_k».proof.Proof.Inproj
public import proofs.«01_k».proof.Proof.Values
public import proofs.«01_k».proof.Proof.Output
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_counts_of_rows
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_counts_of_rows.Gen.facts,
    frame_kernel, frame_kernelIdeal, frame_ref, frame_kernel2, frame_kernel2Ideal, frame_ref2,
    frame_kernel3, frame_kernel3Ideal, frame_ref3, frame_kernel4, frame_kernel4Ideal, frame_ref4,
    trivial, algebraic, trivial, algebraic2, trivial, algebraic3, trivial, algebraic4⟩

end Cert.Proof

end
